-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnLast (m : (ℓ : Loc Cert.FfnLast.nD Cert.FfnLast.τ Cert.FfnLast.sig) → Buf (Elt Bits) ℓ) : Prop :=
  True

def Pre_FfnLastIdeal (m : (ℓ : Loc Cert.FfnLastIdeal.nD Cert.FfnLastIdeal.τ Cert.FfnLastIdeal.sig) → Buf (Elt Ideal) ℓ) : Prop :=
  True

def Pre_FfnLastRefIdeal (m : (ℓ : Loc Cert.FfnLastRefIdeal.nD Cert.FfnLastRefIdeal.τ Cert.FfnLastRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_OutProjWide (m : (ℓ : Loc Cert.OutProjWide.nD Cert.OutProjWide.τ Cert.OutProjWide.sig) → Buf (Elt Bits) ℓ) : Prop :=
  True

def Pre_OutProjWideIdeal (m : (ℓ : Loc Cert.OutProjWideIdeal.nD Cert.OutProjWideIdeal.τ Cert.OutProjWideIdeal.sig) → Buf (Elt Ideal) ℓ) : Prop :=
  True

def Pre_OutProjWideRefIdeal (m : (ℓ : Loc Cert.OutProjWideRefIdeal.nD Cert.OutProjWideRefIdeal.τ Cert.OutProjWideRefIdeal.sig) → Buf (Elt Ideal) ℓ) : Prop :=
  True

def Pre_GlaProj (m : (ℓ : Loc Cert.GlaProj.nD Cert.GlaProj.τ Cert.GlaProj.sig) → Buf (Elt Bits) ℓ) : Prop :=
  True

def Pre_GlaProjIdeal (m : (ℓ : Loc Cert.GlaProjIdeal.nD Cert.GlaProjIdeal.τ Cert.GlaProjIdeal.sig) → Buf (Elt Ideal) ℓ) : Prop :=
  True

def Pre_GlaProjRefIdeal (m : (ℓ : Loc Cert.GlaProjRefIdeal.nD Cert.GlaProjRefIdeal.τ Cert.GlaProjRefIdeal.sig) → Buf (Elt Ideal) ℓ) : Prop :=
  True

def Pre_SsdProj (m : (ℓ : Loc Cert.SsdProj.nD Cert.SsdProj.τ Cert.SsdProj.sig) → Buf (Elt Bits) ℓ) : Prop :=
  True

def Pre_SsdProjIdeal (m : (ℓ : Loc Cert.SsdProjIdeal.nD Cert.SsdProjIdeal.τ Cert.SsdProjIdeal.sig) → Buf (Elt Ideal) ℓ) : Prop :=
  True

def Pre_SsdProjRefIdeal (m : (ℓ : Loc Cert.SsdProjRefIdeal.nD Cert.SsdProjRefIdeal.τ Cert.SsdProjRefIdeal.sig) → Buf (Elt Ideal) ℓ) : Prop :=
  True

def Pre_MlaProj (m : (ℓ : Loc Cert.MlaProj.nD Cert.MlaProj.τ Cert.MlaProj.sig) → Buf (Elt Bits) ℓ) : Prop :=
  True

def Pre_MlaProjIdeal (m : (ℓ : Loc Cert.MlaProjIdeal.nD Cert.MlaProjIdeal.τ Cert.MlaProjIdeal.sig) → Buf (Elt Ideal) ℓ) : Prop :=
  True

def Pre_MlaProjRefIdeal (m : (ℓ : Loc Cert.MlaProjRefIdeal.nD Cert.MlaProjRefIdeal.τ Cert.MlaProjRefIdeal.sig) → Buf (Elt Ideal) ℓ) : Prop :=
  True

def Pre_MlaQkv (m : (ℓ : Loc Cert.MlaQkv.nD Cert.MlaQkv.τ Cert.MlaQkv.sig) → Buf (Elt Bits) ℓ) : Prop :=
  True

def Pre_MlaQkvIdeal (m : (ℓ : Loc Cert.MlaQkvIdeal.nD Cert.MlaQkvIdeal.τ Cert.MlaQkvIdeal.sig) → Buf (Elt Ideal) ℓ) : Prop :=
  True

def Pre_MlaQkvIdeal_key_halves_swapped [hPre_key_halves_swapped : Cert.Pre_key_halves_swapped.Facts] (m : (ℓ : Loc Cert.MlaQkvIdeal.nD Cert.MlaQkvIdeal.τ Cert.MlaQkvIdeal.sig) → Buf (Elt Ideal) ℓ) : Prop :=
  ∀ c : Dev Cert.MlaQkvIdeal.nD,
    (Cert.Pre_key_halves_swapped.fn (F := Ideal) (m ((c.tc : Thread Cert.MlaQkvIdeal.nD Cert.MlaQkvIdeal.τ).loc Cert.MlaQkvIdeal.main_arg0)) (m ((c.tc : Thread Cert.MlaQkvIdeal.nD Cert.MlaQkvIdeal.τ).loc Cert.MlaQkvIdeal.main_arg1)) (m ((c.tc : Thread Cert.MlaQkvIdeal.nD Cert.MlaQkvIdeal.τ).loc Cert.MlaQkvIdeal.main_arg2)) (m ((c.tc : Thread Cert.MlaQkvIdeal.nD Cert.MlaQkvIdeal.τ).loc Cert.MlaQkvIdeal.main_arg3)) (m ((c.tc : Thread Cert.MlaQkvIdeal.nD Cert.MlaQkvIdeal.τ).loc Cert.MlaQkvIdeal.main_arg4)) (m ((c.tc : Thread Cert.MlaQkvIdeal.nD Cert.MlaQkvIdeal.τ).loc Cert.MlaQkvIdeal.main_arg5)) (m ((c.tc : Thread Cert.MlaQkvIdeal.nD Cert.MlaQkvIdeal.τ).loc Cert.MlaQkvIdeal.main_arg6)) (m ((c.tc : Thread Cert.MlaQkvIdeal.nD Cert.MlaQkvIdeal.τ).loc Cert.MlaQkvIdeal.main_arg7))) = (fun _ => 1#1)

def Pre_MlaQkvRefIdeal (m : (ℓ : Loc Cert.MlaQkvRefIdeal.nD Cert.MlaQkvRefIdeal.τ Cert.MlaQkvRefIdeal.sig) → Buf (Elt Ideal) ℓ) : Prop :=
  True

def Pre_MlaQkvRefIdeal_key_halves_swapped [hPre_key_halves_swapped : Cert.Pre_key_halves_swapped.Facts] (m : (ℓ : Loc Cert.MlaQkvRefIdeal.nD Cert.MlaQkvRefIdeal.τ Cert.MlaQkvRefIdeal.sig) → Buf (Elt Ideal) ℓ) : Prop :=
  ∀ c : Dev Cert.MlaQkvRefIdeal.nD,
    (Cert.Pre_key_halves_swapped.fn (F := Ideal) (m ((c.tc : Thread Cert.MlaQkvRefIdeal.nD Cert.MlaQkvRefIdeal.τ).loc Cert.MlaQkvRefIdeal.main_arg0)) (m ((c.tc : Thread Cert.MlaQkvRefIdeal.nD Cert.MlaQkvRefIdeal.τ).loc Cert.MlaQkvRefIdeal.main_arg1)) (m ((c.tc : Thread Cert.MlaQkvRefIdeal.nD Cert.MlaQkvRefIdeal.τ).loc Cert.MlaQkvRefIdeal.main_arg2)) (m ((c.tc : Thread Cert.MlaQkvRefIdeal.nD Cert.MlaQkvRefIdeal.τ).loc Cert.MlaQkvRefIdeal.main_arg3)) (m ((c.tc : Thread Cert.MlaQkvRefIdeal.nD Cert.MlaQkvRefIdeal.τ).loc Cert.MlaQkvRefIdeal.main_arg4)) (m ((c.tc : Thread Cert.MlaQkvRefIdeal.nD Cert.MlaQkvRefIdeal.τ).loc Cert.MlaQkvRefIdeal.main_arg5)) (m ((c.tc : Thread Cert.MlaQkvRefIdeal.nD Cert.MlaQkvRefIdeal.τ).loc Cert.MlaQkvRefIdeal.main_arg6)) (m ((c.tc : Thread Cert.MlaQkvRefIdeal.nD Cert.MlaQkvRefIdeal.τ).loc Cert.MlaQkvRefIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_FfnLast [hFfnLast : Cert.FfnLast.Facts] : Prop :=
  ∀ (m : (ℓ : Loc Cert.FfnLast.nD Cert.FfnLast.τ Cert.FfnLast.sig) → Buf (Elt Bits) ℓ) (g : Dev Cert.FfnLast.nD → PrngReg), Pre_FfnLast m →
    θ_run (Cert.FfnLast.defs (F := Bits)) (onTc (τ := Cert.FfnLast.τ) (Cert.FfnLast.main (F := Bits))) ⟨m, fun _ => 0, g⟩ (fun r => (∀ c : Dev Cert.FfnLast.nD,
      r.2.mem ((c.tc : Thread Cert.FfnLast.nD Cert.FfnLast.τ).loc Cert.FfnLast.main_arg0) = m ((c.tc : Thread Cert.FfnLast.nD Cert.FfnLast.τ).loc Cert.FfnLast.main_arg0)
      ∧ r.2.mem ((c.tc : Thread Cert.FfnLast.nD Cert.FfnLast.τ).loc Cert.FfnLast.main_arg1) = m ((c.tc : Thread Cert.FfnLast.nD Cert.FfnLast.τ).loc Cert.FfnLast.main_arg1)
      ∧ r.2.mem ((c.tc : Thread Cert.FfnLast.nD Cert.FfnLast.τ).loc Cert.FfnLast.main_arg2) = m ((c.tc : Thread Cert.FfnLast.nD Cert.FfnLast.τ).loc Cert.FfnLast.main_arg2)
      ∧ r.2.mem ((c.tc : Thread Cert.FfnLast.nD Cert.FfnLast.τ).loc Cert.FfnLast.main_arg3) = m ((c.tc : Thread Cert.FfnLast.nD Cert.FfnLast.τ).loc Cert.FfnLast.main_arg3)
      ∧ r.2.mem ((c.tc : Thread Cert.FfnLast.nD Cert.FfnLast.τ).loc Cert.FfnLast.main_arg4) = m ((c.tc : Thread Cert.FfnLast.nD Cert.FfnLast.τ).loc Cert.FfnLast.main_arg4))
      ∧ r.2.sem = fun _ => 0)

def quiescent_FfnLastIdeal [hFfnLastIdeal : Cert.FfnLastIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg), Pre_FfnLastIdeal m →
    θ_run (Cert.FfnLastIdeal.defs (F := Ideal)) (onTc (τ := Cert.FfnLastIdeal.τ) (Cert.FfnLastIdeal.main (F := Ideal))) ⟨m, fun _ => 0, g⟩ (fun r => (∀ c : Dev Cert.FfnLastIdeal.nD,
      r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
      ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
      ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
      ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
      ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4))
      ∧ r.2.sem = fun _ => 0)

def quiescent_FfnLastRefIdeal [hFfnLastRefIdeal : Cert.FfnLastRefIdeal.Facts] : Prop :=
  ∀ (m : (ℓ : Loc Cert.FfnLastRefIdeal.nD Cert.FfnLastRefIdeal.τ Cert.FfnLastRefIdeal.sig) → Buf (Elt Ideal) ℓ) (g : Dev Cert.FfnLastRefIdeal.nD → PrngReg), Pre_FfnLastRefIdeal m →
    θ_run (Cert.FfnLastRefIdeal.defs (F := Ideal)) (onTc (τ := Cert.FfnLastRefIdeal.τ) (Cert.FfnLastRefIdeal.main (F := Ideal))) ⟨m, fun _ => 0, g⟩ (fun r => (∀ c : Dev Cert.FfnLastRefIdeal.nD,
      r.2.mem ((c.tc : Thread Cert.FfnLastRefIdeal.nD Cert.FfnLastRefIdeal.τ).loc Cert.FfnLastRefIdeal.main_arg0) = m ((c.tc : Thread Cert.FfnLastRefIdeal.nD Cert.FfnLastRefIdeal.τ).loc Cert.FfnLastRefIdeal.main_arg0)
      ∧ r.2.mem ((c.tc : Thread Cert.FfnLastRefIdeal.nD Cert.FfnLastRefIdeal.τ).loc Cert.FfnLastRefIdeal.main_arg1) = m ((c.tc : Thread Cert.FfnLastRefIdeal.nD Cert.FfnLastRefIdeal.τ).loc Cert.FfnLastRefIdeal.main_arg1)
      ∧ r.2.mem ((c.tc : Thread Cert.FfnLastRefIdeal.nD Cert.FfnLastRefIdeal.τ).loc Cert.FfnLastRefIdeal.main_arg2) = m ((c.tc : Thread Cert.FfnLastRefIdeal.nD Cert.FfnLastRefIdeal.τ).loc Cert.FfnLastRefIdeal.main_arg2)
      ∧ r.2.mem ((c.tc : Thread Cert.FfnLastRefIdeal.nD Cert.FfnLastRefIdeal.τ).loc Cert.FfnLastRefIdeal.main_arg3) = m ((c.tc : Thread Cert.FfnLastRefIdeal.nD Cert.FfnLastRefIdeal.τ).loc Cert.FfnLastRefIdeal.main_arg3)
      ∧ r.2.mem ((c.tc : Thread Cert.FfnLastRefIdeal.nD Cert.FfnLastRefIdeal.τ).loc Cert.FfnLastRefIdeal.main_arg4) = m ((c.tc : Thread Cert.FfnLastRefIdeal.nD Cert.FfnLastRefIdeal.τ).loc Cert.FfnLastRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_OutProjWide [hOutProjWide : Cert.OutProjWide.Facts] : Prop :=
  ∀ (m : (ℓ : Loc Cert.OutProjWide.nD Cert.OutProjWide.τ Cert.OutProjWide.sig) → Buf (Elt Bits) ℓ) (g : Dev Cert.OutProjWide.nD → PrngReg), Pre_OutProjWide m →
    θ_run (Cert.OutProjWide.defs (F := Bits)) (onTc (τ := Cert.OutProjWide.τ) (Cert.OutProjWide.main (F := Bits))) ⟨m, fun _ => 0, g⟩ (fun r => (∀ c : Dev Cert.OutProjWide.nD,
      r.2.mem ((c.tc : Thread Cert.OutProjWide.nD Cert.OutProjWide.τ).loc Cert.OutProjWide.main_arg0) = m ((c.tc : Thread Cert.OutProjWide.nD Cert.OutProjWide.τ).loc Cert.OutProjWide.main_arg0)
      ∧ r.2.mem ((c.tc : Thread Cert.OutProjWide.nD Cert.OutProjWide.τ).loc Cert.OutProjWide.main_arg1) = m ((c.tc : Thread Cert.OutProjWide.nD Cert.OutProjWide.τ).loc Cert.OutProjWide.main_arg1)
      ∧ r.2.mem ((c.tc : Thread Cert.OutProjWide.nD Cert.OutProjWide.τ).loc Cert.OutProjWide.main_arg2) = m ((c.tc : Thread Cert.OutProjWide.nD Cert.OutProjWide.τ).loc Cert.OutProjWide.main_arg2))
      ∧ r.2.sem = fun _ => 0)

def quiescent_OutProjWideIdeal [hOutProjWideIdeal : Cert.OutProjWideIdeal.Facts] : Prop :=
  ∀ (m : (ℓ : Loc Cert.OutProjWideIdeal.nD Cert.OutProjWideIdeal.τ Cert.OutProjWideIdeal.sig) → Buf (Elt Ideal) ℓ) (g : Dev Cert.OutProjWideIdeal.nD → PrngReg), Pre_OutProjWideIdeal m →
    θ_run (Cert.OutProjWideIdeal.defs (F := Ideal)) (onTc (τ := Cert.OutProjWideIdeal.τ) (Cert.OutProjWideIdeal.main (F := Ideal))) ⟨m, fun _ => 0, g⟩ (fun r => (∀ c : Dev Cert.OutProjWideIdeal.nD,
      r.2.mem ((c.tc : Thread Cert.OutProjWideIdeal.nD Cert.OutProjWideIdeal.τ).loc Cert.OutProjWideIdeal.main_arg0) = m ((c.tc : Thread Cert.OutProjWideIdeal.nD Cert.OutProjWideIdeal.τ).loc Cert.OutProjWideIdeal.main_arg0)
      ∧ r.2.mem ((c.tc : Thread Cert.OutProjWideIdeal.nD Cert.OutProjWideIdeal.τ).loc Cert.OutProjWideIdeal.main_arg1) = m ((c.tc : Thread Cert.OutProjWideIdeal.nD Cert.OutProjWideIdeal.τ).loc Cert.OutProjWideIdeal.main_arg1)
      ∧ r.2.mem ((c.tc : Thread Cert.OutProjWideIdeal.nD Cert.OutProjWideIdeal.τ).loc Cert.OutProjWideIdeal.main_arg2) = m ((c.tc : Thread Cert.OutProjWideIdeal.nD Cert.OutProjWideIdeal.τ).loc Cert.OutProjWideIdeal.main_arg2))
      ∧ r.2.sem = fun _ => 0)

def quiescent_OutProjWideRefIdeal [hOutProjWideRefIdeal : Cert.OutProjWideRefIdeal.Facts] : Prop :=
  ∀ (m : (ℓ : Loc Cert.OutProjWideRefIdeal.nD Cert.OutProjWideRefIdeal.τ Cert.OutProjWideRefIdeal.sig) → Buf (Elt Ideal) ℓ) (g : Dev Cert.OutProjWideRefIdeal.nD → PrngReg), Pre_OutProjWideRefIdeal m →
    θ_run (Cert.OutProjWideRefIdeal.defs (F := Ideal)) (onTc (τ := Cert.OutProjWideRefIdeal.τ) (Cert.OutProjWideRefIdeal.main (F := Ideal))) ⟨m, fun _ => 0, g⟩ (fun r => (∀ c : Dev Cert.OutProjWideRefIdeal.nD,
      r.2.mem ((c.tc : Thread Cert.OutProjWideRefIdeal.nD Cert.OutProjWideRefIdeal.τ).loc Cert.OutProjWideRefIdeal.main_arg0) = m ((c.tc : Thread Cert.OutProjWideRefIdeal.nD Cert.OutProjWideRefIdeal.τ).loc Cert.OutProjWideRefIdeal.main_arg0)
      ∧ r.2.mem ((c.tc : Thread Cert.OutProjWideRefIdeal.nD Cert.OutProjWideRefIdeal.τ).loc Cert.OutProjWideRefIdeal.main_arg1) = m ((c.tc : Thread Cert.OutProjWideRefIdeal.nD Cert.OutProjWideRefIdeal.τ).loc Cert.OutProjWideRefIdeal.main_arg1)
      ∧ r.2.mem ((c.tc : Thread Cert.OutProjWideRefIdeal.nD Cert.OutProjWideRefIdeal.τ).loc Cert.OutProjWideRefIdeal.main_arg2) = m ((c.tc : Thread Cert.OutProjWideRefIdeal.nD Cert.OutProjWideRefIdeal.τ).loc Cert.OutProjWideRefIdeal.main_arg2))
      ∧ r.2.sem = fun _ => 0)

def quiescent_GlaProj [hGlaProj : Cert.GlaProj.Facts] : Prop :=
  ∀ (m : (ℓ : Loc Cert.GlaProj.nD Cert.GlaProj.τ Cert.GlaProj.sig) → Buf (Elt Bits) ℓ) (g : Dev Cert.GlaProj.nD → PrngReg), Pre_GlaProj m →
    θ_run (Cert.GlaProj.defs (F := Bits)) (onTc (τ := Cert.GlaProj.τ) (Cert.GlaProj.main (F := Bits))) ⟨m, fun _ => 0, g⟩ (fun r => (∀ c : Dev Cert.GlaProj.nD,
      r.2.mem ((c.tc : Thread Cert.GlaProj.nD Cert.GlaProj.τ).loc Cert.GlaProj.main_arg0) = m ((c.tc : Thread Cert.GlaProj.nD Cert.GlaProj.τ).loc Cert.GlaProj.main_arg0)
      ∧ r.2.mem ((c.tc : Thread Cert.GlaProj.nD Cert.GlaProj.τ).loc Cert.GlaProj.main_arg1) = m ((c.tc : Thread Cert.GlaProj.nD Cert.GlaProj.τ).loc Cert.GlaProj.main_arg1)
      ∧ r.2.mem ((c.tc : Thread Cert.GlaProj.nD Cert.GlaProj.τ).loc Cert.GlaProj.main_arg2) = m ((c.tc : Thread Cert.GlaProj.nD Cert.GlaProj.τ).loc Cert.GlaProj.main_arg2))
      ∧ r.2.sem = fun _ => 0)

def quiescent_GlaProjIdeal [hGlaProjIdeal : Cert.GlaProjIdeal.Facts] : Prop :=
  ∀ (m : (ℓ : Loc Cert.GlaProjIdeal.nD Cert.GlaProjIdeal.τ Cert.GlaProjIdeal.sig) → Buf (Elt Ideal) ℓ) (g : Dev Cert.GlaProjIdeal.nD → PrngReg), Pre_GlaProjIdeal m →
    θ_run (Cert.GlaProjIdeal.defs (F := Ideal)) (onTc (τ := Cert.GlaProjIdeal.τ) (Cert.GlaProjIdeal.main (F := Ideal))) ⟨m, fun _ => 0, g⟩ (fun r => (∀ c : Dev Cert.GlaProjIdeal.nD,
      r.2.mem ((c.tc : Thread Cert.GlaProjIdeal.nD Cert.GlaProjIdeal.τ).loc Cert.GlaProjIdeal.main_arg0) = m ((c.tc : Thread Cert.GlaProjIdeal.nD Cert.GlaProjIdeal.τ).loc Cert.GlaProjIdeal.main_arg0)
      ∧ r.2.mem ((c.tc : Thread Cert.GlaProjIdeal.nD Cert.GlaProjIdeal.τ).loc Cert.GlaProjIdeal.main_arg1) = m ((c.tc : Thread Cert.GlaProjIdeal.nD Cert.GlaProjIdeal.τ).loc Cert.GlaProjIdeal.main_arg1)
      ∧ r.2.mem ((c.tc : Thread Cert.GlaProjIdeal.nD Cert.GlaProjIdeal.τ).loc Cert.GlaProjIdeal.main_arg2) = m ((c.tc : Thread Cert.GlaProjIdeal.nD Cert.GlaProjIdeal.τ).loc Cert.GlaProjIdeal.main_arg2))
      ∧ r.2.sem = fun _ => 0)

def quiescent_GlaProjRefIdeal [hGlaProjRefIdeal : Cert.GlaProjRefIdeal.Facts] : Prop :=
  ∀ (m : (ℓ : Loc Cert.GlaProjRefIdeal.nD Cert.GlaProjRefIdeal.τ Cert.GlaProjRefIdeal.sig) → Buf (Elt Ideal) ℓ) (g : Dev Cert.GlaProjRefIdeal.nD → PrngReg), Pre_GlaProjRefIdeal m →
    θ_run (Cert.GlaProjRefIdeal.defs (F := Ideal)) (onTc (τ := Cert.GlaProjRefIdeal.τ) (Cert.GlaProjRefIdeal.main (F := Ideal))) ⟨m, fun _ => 0, g⟩ (fun r => (∀ c : Dev Cert.GlaProjRefIdeal.nD,
      r.2.mem ((c.tc : Thread Cert.GlaProjRefIdeal.nD Cert.GlaProjRefIdeal.τ).loc Cert.GlaProjRefIdeal.main_arg0) = m ((c.tc : Thread Cert.GlaProjRefIdeal.nD Cert.GlaProjRefIdeal.τ).loc Cert.GlaProjRefIdeal.main_arg0)
      ∧ r.2.mem ((c.tc : Thread Cert.GlaProjRefIdeal.nD Cert.GlaProjRefIdeal.τ).loc Cert.GlaProjRefIdeal.main_arg1) = m ((c.tc : Thread Cert.GlaProjRefIdeal.nD Cert.GlaProjRefIdeal.τ).loc Cert.GlaProjRefIdeal.main_arg1)
      ∧ r.2.mem ((c.tc : Thread Cert.GlaProjRefIdeal.nD Cert.GlaProjRefIdeal.τ).loc Cert.GlaProjRefIdeal.main_arg2) = m ((c.tc : Thread Cert.GlaProjRefIdeal.nD Cert.GlaProjRefIdeal.τ).loc Cert.GlaProjRefIdeal.main_arg2))
      ∧ r.2.sem = fun _ => 0)

def quiescent_SsdProj [hSsdProj : Cert.SsdProj.Facts] : Prop :=
  ∀ (m : (ℓ : Loc Cert.SsdProj.nD Cert.SsdProj.τ Cert.SsdProj.sig) → Buf (Elt Bits) ℓ) (g : Dev Cert.SsdProj.nD → PrngReg), Pre_SsdProj m →
    θ_run (Cert.SsdProj.defs (F := Bits)) (onTc (τ := Cert.SsdProj.τ) (Cert.SsdProj.main (F := Bits))) ⟨m, fun _ => 0, g⟩ (fun r => (∀ c : Dev Cert.SsdProj.nD,
      r.2.mem ((c.tc : Thread Cert.SsdProj.nD Cert.SsdProj.τ).loc Cert.SsdProj.main_arg0) = m ((c.tc : Thread Cert.SsdProj.nD Cert.SsdProj.τ).loc Cert.SsdProj.main_arg0)
      ∧ r.2.mem ((c.tc : Thread Cert.SsdProj.nD Cert.SsdProj.τ).loc Cert.SsdProj.main_arg1) = m ((c.tc : Thread Cert.SsdProj.nD Cert.SsdProj.τ).loc Cert.SsdProj.main_arg1)
      ∧ r.2.mem ((c.tc : Thread Cert.SsdProj.nD Cert.SsdProj.τ).loc Cert.SsdProj.main_arg2) = m ((c.tc : Thread Cert.SsdProj.nD Cert.SsdProj.τ).loc Cert.SsdProj.main_arg2))
      ∧ r.2.sem = fun _ => 0)

def quiescent_SsdProjIdeal [hSsdProjIdeal : Cert.SsdProjIdeal.Facts] : Prop :=
  ∀ (m : (ℓ : Loc Cert.SsdProjIdeal.nD Cert.SsdProjIdeal.τ Cert.SsdProjIdeal.sig) → Buf (Elt Ideal) ℓ) (g : Dev Cert.SsdProjIdeal.nD → PrngReg), Pre_SsdProjIdeal m →
    θ_run (Cert.SsdProjIdeal.defs (F := Ideal)) (onTc (τ := Cert.SsdProjIdeal.τ) (Cert.SsdProjIdeal.main (F := Ideal))) ⟨m, fun _ => 0, g⟩ (fun r => (∀ c : Dev Cert.SsdProjIdeal.nD,
      r.2.mem ((c.tc : Thread Cert.SsdProjIdeal.nD Cert.SsdProjIdeal.τ).loc Cert.SsdProjIdeal.main_arg0) = m ((c.tc : Thread Cert.SsdProjIdeal.nD Cert.SsdProjIdeal.τ).loc Cert.SsdProjIdeal.main_arg0)
      ∧ r.2.mem ((c.tc : Thread Cert.SsdProjIdeal.nD Cert.SsdProjIdeal.τ).loc Cert.SsdProjIdeal.main_arg1) = m ((c.tc : Thread Cert.SsdProjIdeal.nD Cert.SsdProjIdeal.τ).loc Cert.SsdProjIdeal.main_arg1)
      ∧ r.2.mem ((c.tc : Thread Cert.SsdProjIdeal.nD Cert.SsdProjIdeal.τ).loc Cert.SsdProjIdeal.main_arg2) = m ((c.tc : Thread Cert.SsdProjIdeal.nD Cert.SsdProjIdeal.τ).loc Cert.SsdProjIdeal.main_arg2))
      ∧ r.2.sem = fun _ => 0)

def quiescent_SsdProjRefIdeal [hSsdProjRefIdeal : Cert.SsdProjRefIdeal.Facts] : Prop :=
  ∀ (m : (ℓ : Loc Cert.SsdProjRefIdeal.nD Cert.SsdProjRefIdeal.τ Cert.SsdProjRefIdeal.sig) → Buf (Elt Ideal) ℓ) (g : Dev Cert.SsdProjRefIdeal.nD → PrngReg), Pre_SsdProjRefIdeal m →
    θ_run (Cert.SsdProjRefIdeal.defs (F := Ideal)) (onTc (τ := Cert.SsdProjRefIdeal.τ) (Cert.SsdProjRefIdeal.main (F := Ideal))) ⟨m, fun _ => 0, g⟩ (fun r => (∀ c : Dev Cert.SsdProjRefIdeal.nD,
      r.2.mem ((c.tc : Thread Cert.SsdProjRefIdeal.nD Cert.SsdProjRefIdeal.τ).loc Cert.SsdProjRefIdeal.main_arg0) = m ((c.tc : Thread Cert.SsdProjRefIdeal.nD Cert.SsdProjRefIdeal.τ).loc Cert.SsdProjRefIdeal.main_arg0)
      ∧ r.2.mem ((c.tc : Thread Cert.SsdProjRefIdeal.nD Cert.SsdProjRefIdeal.τ).loc Cert.SsdProjRefIdeal.main_arg1) = m ((c.tc : Thread Cert.SsdProjRefIdeal.nD Cert.SsdProjRefIdeal.τ).loc Cert.SsdProjRefIdeal.main_arg1)
      ∧ r.2.mem ((c.tc : Thread Cert.SsdProjRefIdeal.nD Cert.SsdProjRefIdeal.τ).loc Cert.SsdProjRefIdeal.main_arg2) = m ((c.tc : Thread Cert.SsdProjRefIdeal.nD Cert.SsdProjRefIdeal.τ).loc Cert.SsdProjRefIdeal.main_arg2))
      ∧ r.2.sem = fun _ => 0)

def quiescent_MlaProj [hMlaProj : Cert.MlaProj.Facts] : Prop :=
  ∀ (m : (ℓ : Loc Cert.MlaProj.nD Cert.MlaProj.τ Cert.MlaProj.sig) → Buf (Elt Bits) ℓ) (g : Dev Cert.MlaProj.nD → PrngReg), Pre_MlaProj m →
    θ_run (Cert.MlaProj.defs (F := Bits)) (onTc (τ := Cert.MlaProj.τ) (Cert.MlaProj.main (F := Bits))) ⟨m, fun _ => 0, g⟩ (fun r => (∀ c : Dev Cert.MlaProj.nD,
      r.2.mem ((c.tc : Thread Cert.MlaProj.nD Cert.MlaProj.τ).loc Cert.MlaProj.main_arg0) = m ((c.tc : Thread Cert.MlaProj.nD Cert.MlaProj.τ).loc Cert.MlaProj.main_arg0)
      ∧ r.2.mem ((c.tc : Thread Cert.MlaProj.nD Cert.MlaProj.τ).loc Cert.MlaProj.main_arg1) = m ((c.tc : Thread Cert.MlaProj.nD Cert.MlaProj.τ).loc Cert.MlaProj.main_arg1)
      ∧ r.2.mem ((c.tc : Thread Cert.MlaProj.nD Cert.MlaProj.τ).loc Cert.MlaProj.main_arg2) = m ((c.tc : Thread Cert.MlaProj.nD Cert.MlaProj.τ).loc Cert.MlaProj.main_arg2))
      ∧ r.2.sem = fun _ => 0)

def quiescent_MlaProjIdeal [hMlaProjIdeal : Cert.MlaProjIdeal.Facts] : Prop :=
  ∀ (m : (ℓ : Loc Cert.MlaProjIdeal.nD Cert.MlaProjIdeal.τ Cert.MlaProjIdeal.sig) → Buf (Elt Ideal) ℓ) (g : Dev Cert.MlaProjIdeal.nD → PrngReg), Pre_MlaProjIdeal m →
    θ_run (Cert.MlaProjIdeal.defs (F := Ideal)) (onTc (τ := Cert.MlaProjIdeal.τ) (Cert.MlaProjIdeal.main (F := Ideal))) ⟨m, fun _ => 0, g⟩ (fun r => (∀ c : Dev Cert.MlaProjIdeal.nD,
      r.2.mem ((c.tc : Thread Cert.MlaProjIdeal.nD Cert.MlaProjIdeal.τ).loc Cert.MlaProjIdeal.main_arg0) = m ((c.tc : Thread Cert.MlaProjIdeal.nD Cert.MlaProjIdeal.τ).loc Cert.MlaProjIdeal.main_arg0)
      ∧ r.2.mem ((c.tc : Thread Cert.MlaProjIdeal.nD Cert.MlaProjIdeal.τ).loc Cert.MlaProjIdeal.main_arg1) = m ((c.tc : Thread Cert.MlaProjIdeal.nD Cert.MlaProjIdeal.τ).loc Cert.MlaProjIdeal.main_arg1)
      ∧ r.2.mem ((c.tc : Thread Cert.MlaProjIdeal.nD Cert.MlaProjIdeal.τ).loc Cert.MlaProjIdeal.main_arg2) = m ((c.tc : Thread Cert.MlaProjIdeal.nD Cert.MlaProjIdeal.τ).loc Cert.MlaProjIdeal.main_arg2))
      ∧ r.2.sem = fun _ => 0)

def quiescent_MlaProjRefIdeal [hMlaProjRefIdeal : Cert.MlaProjRefIdeal.Facts] : Prop :=
  ∀ (m : (ℓ : Loc Cert.MlaProjRefIdeal.nD Cert.MlaProjRefIdeal.τ Cert.MlaProjRefIdeal.sig) → Buf (Elt Ideal) ℓ) (g : Dev Cert.MlaProjRefIdeal.nD → PrngReg), Pre_MlaProjRefIdeal m →
    θ_run (Cert.MlaProjRefIdeal.defs (F := Ideal)) (onTc (τ := Cert.MlaProjRefIdeal.τ) (Cert.MlaProjRefIdeal.main (F := Ideal))) ⟨m, fun _ => 0, g⟩ (fun r => (∀ c : Dev Cert.MlaProjRefIdeal.nD,
      r.2.mem ((c.tc : Thread Cert.MlaProjRefIdeal.nD Cert.MlaProjRefIdeal.τ).loc Cert.MlaProjRefIdeal.main_arg0) = m ((c.tc : Thread Cert.MlaProjRefIdeal.nD Cert.MlaProjRefIdeal.τ).loc Cert.MlaProjRefIdeal.main_arg0)
      ∧ r.2.mem ((c.tc : Thread Cert.MlaProjRefIdeal.nD Cert.MlaProjRefIdeal.τ).loc Cert.MlaProjRefIdeal.main_arg1) = m ((c.tc : Thread Cert.MlaProjRefIdeal.nD Cert.MlaProjRefIdeal.τ).loc Cert.MlaProjRefIdeal.main_arg1)
      ∧ r.2.mem ((c.tc : Thread Cert.MlaProjRefIdeal.nD Cert.MlaProjRefIdeal.τ).loc Cert.MlaProjRefIdeal.main_arg2) = m ((c.tc : Thread Cert.MlaProjRefIdeal.nD Cert.MlaProjRefIdeal.τ).loc Cert.MlaProjRefIdeal.main_arg2))
      ∧ r.2.sem = fun _ => 0)

def quiescent_MlaQkv [hMlaQkv : Cert.MlaQkv.Facts] : Prop :=
  ∀ (m : (ℓ : Loc Cert.MlaQkv.nD Cert.MlaQkv.τ Cert.MlaQkv.sig) → Buf (Elt Bits) ℓ) (g : Dev Cert.MlaQkv.nD → PrngReg), Pre_MlaQkv m →
    θ_run (Cert.MlaQkv.defs (F := Bits)) (onTc (τ := Cert.MlaQkv.τ) (Cert.MlaQkv.main (F := Bits))) ⟨m, fun _ => 0, g⟩ (fun r => (∀ c : Dev Cert.MlaQkv.nD,
      r.2.mem ((c.tc : Thread Cert.MlaQkv.nD Cert.MlaQkv.τ).loc Cert.MlaQkv.main_arg0) = m ((c.tc : Thread Cert.MlaQkv.nD Cert.MlaQkv.τ).loc Cert.MlaQkv.main_arg0)
      ∧ r.2.mem ((c.tc : Thread Cert.MlaQkv.nD Cert.MlaQkv.τ).loc Cert.MlaQkv.main_arg1) = m ((c.tc : Thread Cert.MlaQkv.nD Cert.MlaQkv.τ).loc Cert.MlaQkv.main_arg1)
      ∧ r.2.mem ((c.tc : Thread Cert.MlaQkv.nD Cert.MlaQkv.τ).loc Cert.MlaQkv.main_arg2) = m ((c.tc : Thread Cert.MlaQkv.nD Cert.MlaQkv.τ).loc Cert.MlaQkv.main_arg2)
      ∧ r.2.mem ((c.tc : Thread Cert.MlaQkv.nD Cert.MlaQkv.τ).loc Cert.MlaQkv.main_arg3) = m ((c.tc : Thread Cert.MlaQkv.nD Cert.MlaQkv.τ).loc Cert.MlaQkv.main_arg3)
      ∧ r.2.mem ((c.tc : Thread Cert.MlaQkv.nD Cert.MlaQkv.τ).loc Cert.MlaQkv.main_arg4) = m ((c.tc : Thread Cert.MlaQkv.nD Cert.MlaQkv.τ).loc Cert.MlaQkv.main_arg4)
      ∧ r.2.mem ((c.tc : Thread Cert.MlaQkv.nD Cert.MlaQkv.τ).loc Cert.MlaQkv.main_arg5) = m ((c.tc : Thread Cert.MlaQkv.nD Cert.MlaQkv.τ).loc Cert.MlaQkv.main_arg5)
      ∧ r.2.mem ((c.tc : Thread Cert.MlaQkv.nD Cert.MlaQkv.τ).loc Cert.MlaQkv.main_arg6) = m ((c.tc : Thread Cert.MlaQkv.nD Cert.MlaQkv.τ).loc Cert.MlaQkv.main_arg6)
      ∧ r.2.mem ((c.tc : Thread Cert.MlaQkv.nD Cert.MlaQkv.τ).loc Cert.MlaQkv.main_arg7) = m ((c.tc : Thread Cert.MlaQkv.nD Cert.MlaQkv.τ).loc Cert.MlaQkv.main_arg7))
      ∧ r.2.sem = fun _ => 0)

def quiescent_MlaQkvIdeal [hMlaQkvIdeal : Cert.MlaQkvIdeal.Facts] : Prop :=
  ∀ (m : (ℓ : Loc Cert.MlaQkvIdeal.nD Cert.MlaQkvIdeal.τ Cert.MlaQkvIdeal.sig) → Buf (Elt Ideal) ℓ) (g : Dev Cert.MlaQkvIdeal.nD → PrngReg), Pre_MlaQkvIdeal m →
    θ_run (Cert.MlaQkvIdeal.defs (F := Ideal)) (onTc (τ := Cert.MlaQkvIdeal.τ) (Cert.MlaQkvIdeal.main (F := Ideal))) ⟨m, fun _ => 0, g⟩ (fun r => (∀ c : Dev Cert.MlaQkvIdeal.nD,
      r.2.mem ((c.tc : Thread Cert.MlaQkvIdeal.nD Cert.MlaQkvIdeal.τ).loc Cert.MlaQkvIdeal.main_arg0) = m ((c.tc : Thread Cert.MlaQkvIdeal.nD Cert.MlaQkvIdeal.τ).loc Cert.MlaQkvIdeal.main_arg0)
      ∧ r.2.mem ((c.tc : Thread Cert.MlaQkvIdeal.nD Cert.MlaQkvIdeal.τ).loc Cert.MlaQkvIdeal.main_arg1) = m ((c.tc : Thread Cert.MlaQkvIdeal.nD Cert.MlaQkvIdeal.τ).loc Cert.MlaQkvIdeal.main_arg1)
      ∧ r.2.mem ((c.tc : Thread Cert.MlaQkvIdeal.nD Cert.MlaQkvIdeal.τ).loc Cert.MlaQkvIdeal.main_arg2) = m ((c.tc : Thread Cert.MlaQkvIdeal.nD Cert.MlaQkvIdeal.τ).loc Cert.MlaQkvIdeal.main_arg2)
      ∧ r.2.mem ((c.tc : Thread Cert.MlaQkvIdeal.nD Cert.MlaQkvIdeal.τ).loc Cert.MlaQkvIdeal.main_arg3) = m ((c.tc : Thread Cert.MlaQkvIdeal.nD Cert.MlaQkvIdeal.τ).loc Cert.MlaQkvIdeal.main_arg3)
      ∧ r.2.mem ((c.tc : Thread Cert.MlaQkvIdeal.nD Cert.MlaQkvIdeal.τ).loc Cert.MlaQkvIdeal.main_arg4) = m ((c.tc : Thread Cert.MlaQkvIdeal.nD Cert.MlaQkvIdeal.τ).loc Cert.MlaQkvIdeal.main_arg4)
      ∧ r.2.mem ((c.tc : Thread Cert.MlaQkvIdeal.nD Cert.MlaQkvIdeal.τ).loc Cert.MlaQkvIdeal.main_arg5) = m ((c.tc : Thread Cert.MlaQkvIdeal.nD Cert.MlaQkvIdeal.τ).loc Cert.MlaQkvIdeal.main_arg5)
      ∧ r.2.mem ((c.tc : Thread Cert.MlaQkvIdeal.nD Cert.MlaQkvIdeal.τ).loc Cert.MlaQkvIdeal.main_arg6) = m ((c.tc : Thread Cert.MlaQkvIdeal.nD Cert.MlaQkvIdeal.τ).loc Cert.MlaQkvIdeal.main_arg6)
      ∧ r.2.mem ((c.tc : Thread Cert.MlaQkvIdeal.nD Cert.MlaQkvIdeal.τ).loc Cert.MlaQkvIdeal.main_arg7) = m ((c.tc : Thread Cert.MlaQkvIdeal.nD Cert.MlaQkvIdeal.τ).loc Cert.MlaQkvIdeal.main_arg7))
      ∧ r.2.sem = fun _ => 0)

def quiescent_MlaQkvIdeal_pre_key_halves_swapped [hMlaQkvIdeal : Cert.MlaQkvIdeal.Facts] [hPre_key_halves_swapped : Cert.Pre_key_halves_swapped.Facts] : Prop :=
  ∀ (m : (ℓ : Loc Cert.MlaQkvIdeal.nD Cert.MlaQkvIdeal.τ Cert.MlaQkvIdeal.sig) → Buf (Elt Ideal) ℓ) (g : Dev Cert.MlaQkvIdeal.nD → PrngReg), Pre_MlaQkvIdeal_key_halves_swapped m →
    θ_run (Cert.MlaQkvIdeal.defs (F := Ideal)) (onTc (τ := Cert.MlaQkvIdeal.τ) (Cert.MlaQkvIdeal.main (F := Ideal))) ⟨m, fun _ => 0, g⟩ (fun r => (∀ c : Dev Cert.MlaQkvIdeal.nD,
      r.2.mem ((c.tc : Thread Cert.MlaQkvIdeal.nD Cert.MlaQkvIdeal.τ).loc Cert.MlaQkvIdeal.main_arg0) = m ((c.tc : Thread Cert.MlaQkvIdeal.nD Cert.MlaQkvIdeal.τ).loc Cert.MlaQkvIdeal.main_arg0)
      ∧ r.2.mem ((c.tc : Thread Cert.MlaQkvIdeal.nD Cert.MlaQkvIdeal.τ).loc Cert.MlaQkvIdeal.main_arg1) = m ((c.tc : Thread Cert.MlaQkvIdeal.nD Cert.MlaQkvIdeal.τ).loc Cert.MlaQkvIdeal.main_arg1)
      ∧ r.2.mem ((c.tc : Thread Cert.MlaQkvIdeal.nD Cert.MlaQkvIdeal.τ).loc Cert.MlaQkvIdeal.main_arg2) = m ((c.tc : Thread Cert.MlaQkvIdeal.nD Cert.MlaQkvIdeal.τ).loc Cert.MlaQkvIdeal.main_arg2)
      ∧ r.2.mem ((c.tc : Thread Cert.MlaQkvIdeal.nD Cert.MlaQkvIdeal.τ).loc Cert.MlaQkvIdeal.main_arg3) = m ((c.tc : Thread Cert.MlaQkvIdeal.nD Cert.MlaQkvIdeal.τ).loc Cert.MlaQkvIdeal.main_arg3)
      ∧ r.2.mem ((c.tc : Thread Cert.MlaQkvIdeal.nD Cert.MlaQkvIdeal.τ).loc Cert.MlaQkvIdeal.main_arg4) = m ((c.tc : Thread Cert.MlaQkvIdeal.nD Cert.MlaQkvIdeal.τ).loc Cert.MlaQkvIdeal.main_arg4)
      ∧ r.2.mem ((c.tc : Thread Cert.MlaQkvIdeal.nD Cert.MlaQkvIdeal.τ).loc Cert.MlaQkvIdeal.main_arg5) = m ((c.tc : Thread Cert.MlaQkvIdeal.nD Cert.MlaQkvIdeal.τ).loc Cert.MlaQkvIdeal.main_arg5)
      ∧ r.2.mem ((c.tc : Thread Cert.MlaQkvIdeal.nD Cert.MlaQkvIdeal.τ).loc Cert.MlaQkvIdeal.main_arg6) = m ((c.tc : Thread Cert.MlaQkvIdeal.nD Cert.MlaQkvIdeal.τ).loc Cert.MlaQkvIdeal.main_arg6)
      ∧ r.2.mem ((c.tc : Thread Cert.MlaQkvIdeal.nD Cert.MlaQkvIdeal.τ).loc Cert.MlaQkvIdeal.main_arg7) = m ((c.tc : Thread Cert.MlaQkvIdeal.nD Cert.MlaQkvIdeal.τ).loc Cert.MlaQkvIdeal.main_arg7))
      ∧ r.2.sem = fun _ => 0)

def quiescent_MlaQkvRefIdeal [hMlaQkvRefIdeal : Cert.MlaQkvRefIdeal.Facts] : Prop :=
  ∀ (m : (ℓ : Loc Cert.MlaQkvRefIdeal.nD Cert.MlaQkvRefIdeal.τ Cert.MlaQkvRefIdeal.sig) → Buf (Elt Ideal) ℓ) (g : Dev Cert.MlaQkvRefIdeal.nD → PrngReg), Pre_MlaQkvRefIdeal m →
    θ_run (Cert.MlaQkvRefIdeal.defs (F := Ideal)) (onTc (τ := Cert.MlaQkvRefIdeal.τ) (Cert.MlaQkvRefIdeal.main (F := Ideal))) ⟨m, fun _ => 0, g⟩ (fun r => (∀ c : Dev Cert.MlaQkvRefIdeal.nD,
      r.2.mem ((c.tc : Thread Cert.MlaQkvRefIdeal.nD Cert.MlaQkvRefIdeal.τ).loc Cert.MlaQkvRefIdeal.main_arg0) = m ((c.tc : Thread Cert.MlaQkvRefIdeal.nD Cert.MlaQkvRefIdeal.τ).loc Cert.MlaQkvRefIdeal.main_arg0)
      ∧ r.2.mem ((c.tc : Thread Cert.MlaQkvRefIdeal.nD Cert.MlaQkvRefIdeal.τ).loc Cert.MlaQkvRefIdeal.main_arg1) = m ((c.tc : Thread Cert.MlaQkvRefIdeal.nD Cert.MlaQkvRefIdeal.τ).loc Cert.MlaQkvRefIdeal.main_arg1)
      ∧ r.2.mem ((c.tc : Thread Cert.MlaQkvRefIdeal.nD Cert.MlaQkvRefIdeal.τ).loc Cert.MlaQkvRefIdeal.main_arg2) = m ((c.tc : Thread Cert.MlaQkvRefIdeal.nD Cert.MlaQkvRefIdeal.τ).loc Cert.MlaQkvRefIdeal.main_arg2)
      ∧ r.2.mem ((c.tc : Thread Cert.MlaQkvRefIdeal.nD Cert.MlaQkvRefIdeal.τ).loc Cert.MlaQkvRefIdeal.main_arg3) = m ((c.tc : Thread Cert.MlaQkvRefIdeal.nD Cert.MlaQkvRefIdeal.τ).loc Cert.MlaQkvRefIdeal.main_arg3)
      ∧ r.2.mem ((c.tc : Thread Cert.MlaQkvRefIdeal.nD Cert.MlaQkvRefIdeal.τ).loc Cert.MlaQkvRefIdeal.main_arg4) = m ((c.tc : Thread Cert.MlaQkvRefIdeal.nD Cert.MlaQkvRefIdeal.τ).loc Cert.MlaQkvRefIdeal.main_arg4)
      ∧ r.2.mem ((c.tc : Thread Cert.MlaQkvRefIdeal.nD Cert.MlaQkvRefIdeal.τ).loc Cert.MlaQkvRefIdeal.main_arg5) = m ((c.tc : Thread Cert.MlaQkvRefIdeal.nD Cert.MlaQkvRefIdeal.τ).loc Cert.MlaQkvRefIdeal.main_arg5)
      ∧ r.2.mem ((c.tc : Thread Cert.MlaQkvRefIdeal.nD Cert.MlaQkvRefIdeal.τ).loc Cert.MlaQkvRefIdeal.main_arg6) = m ((c.tc : Thread Cert.MlaQkvRefIdeal.nD Cert.MlaQkvRefIdeal.τ).loc Cert.MlaQkvRefIdeal.main_arg6)
      ∧ r.2.mem ((c.tc : Thread Cert.MlaQkvRefIdeal.nD Cert.MlaQkvRefIdeal.τ).loc Cert.MlaQkvRefIdeal.main_arg7) = m ((c.tc : Thread Cert.MlaQkvRefIdeal.nD Cert.MlaQkvRefIdeal.τ).loc Cert.MlaQkvRefIdeal.main_arg7))
      ∧ r.2.sem = fun _ => 0)

def quiescent_MlaQkvRefIdeal_pre_key_halves_swapped [hMlaQkvRefIdeal : Cert.MlaQkvRefIdeal.Facts] [hPre_key_halves_swapped : Cert.Pre_key_halves_swapped.Facts] : Prop :=
  ∀ (m : (ℓ : Loc Cert.MlaQkvRefIdeal.nD Cert.MlaQkvRefIdeal.τ Cert.MlaQkvRefIdeal.sig) → Buf (Elt Ideal) ℓ) (g : Dev Cert.MlaQkvRefIdeal.nD → PrngReg), Pre_MlaQkvRefIdeal_key_halves_swapped m →
    θ_run (Cert.MlaQkvRefIdeal.defs (F := Ideal)) (onTc (τ := Cert.MlaQkvRefIdeal.τ) (Cert.MlaQkvRefIdeal.main (F := Ideal))) ⟨m, fun _ => 0, g⟩ (fun r => (∀ c : Dev Cert.MlaQkvRefIdeal.nD,
      r.2.mem ((c.tc : Thread Cert.MlaQkvRefIdeal.nD Cert.MlaQkvRefIdeal.τ).loc Cert.MlaQkvRefIdeal.main_arg0) = m ((c.tc : Thread Cert.MlaQkvRefIdeal.nD Cert.MlaQkvRefIdeal.τ).loc Cert.MlaQkvRefIdeal.main_arg0)
      ∧ r.2.mem ((c.tc : Thread Cert.MlaQkvRefIdeal.nD Cert.MlaQkvRefIdeal.τ).loc Cert.MlaQkvRefIdeal.main_arg1) = m ((c.tc : Thread Cert.MlaQkvRefIdeal.nD Cert.MlaQkvRefIdeal.τ).loc Cert.MlaQkvRefIdeal.main_arg1)
      ∧ r.2.mem ((c.tc : Thread Cert.MlaQkvRefIdeal.nD Cert.MlaQkvRefIdeal.τ).loc Cert.MlaQkvRefIdeal.main_arg2) = m ((c.tc : Thread Cert.MlaQkvRefIdeal.nD Cert.MlaQkvRefIdeal.τ).loc Cert.MlaQkvRefIdeal.main_arg2)
      ∧ r.2.mem ((c.tc : Thread Cert.MlaQkvRefIdeal.nD Cert.MlaQkvRefIdeal.τ).loc Cert.MlaQkvRefIdeal.main_arg3) = m ((c.tc : Thread Cert.MlaQkvRefIdeal.nD Cert.MlaQkvRefIdeal.τ).loc Cert.MlaQkvRefIdeal.main_arg3)
      ∧ r.2.mem ((c.tc : Thread Cert.MlaQkvRefIdeal.nD Cert.MlaQkvRefIdeal.τ).loc Cert.MlaQkvRefIdeal.main_arg4) = m ((c.tc : Thread Cert.MlaQkvRefIdeal.nD Cert.MlaQkvRefIdeal.τ).loc Cert.MlaQkvRefIdeal.main_arg4)
      ∧ r.2.mem ((c.tc : Thread Cert.MlaQkvRefIdeal.nD Cert.MlaQkvRefIdeal.τ).loc Cert.MlaQkvRefIdeal.main_arg5) = m ((c.tc : Thread Cert.MlaQkvRefIdeal.nD Cert.MlaQkvRefIdeal.τ).loc Cert.MlaQkvRefIdeal.main_arg5)
      ∧ r.2.mem ((c.tc : Thread Cert.MlaQkvRefIdeal.nD Cert.MlaQkvRefIdeal.τ).loc Cert.MlaQkvRefIdeal.main_arg6) = m ((c.tc : Thread Cert.MlaQkvRefIdeal.nD Cert.MlaQkvRefIdeal.τ).loc Cert.MlaQkvRefIdeal.main_arg6)
      ∧ r.2.mem ((c.tc : Thread Cert.MlaQkvRefIdeal.nD Cert.MlaQkvRefIdeal.τ).loc Cert.MlaQkvRefIdeal.main_arg7) = m ((c.tc : Thread Cert.MlaQkvRefIdeal.nD Cert.MlaQkvRefIdeal.τ).loc Cert.MlaQkvRefIdeal.main_arg7))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v10)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v21) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_FfnLast_FfnLastIdeal : Prop :=
  True

def algebraic_FfnLastIdeal_FfnLastRefIdeal [hFfnLastIdeal : Cert.FfnLastIdeal.Facts] [hFfnLastRefIdeal : Cert.FfnLastRefIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg)
    (m' : (ℓ : Loc Cert.FfnLastRefIdeal.nD Cert.FfnLastRefIdeal.τ Cert.FfnLastRefIdeal.sig) → Buf (Elt Ideal) ℓ) (g' : Dev Cert.FfnLastRefIdeal.nD → PrngReg), Pre_FfnLastIdeal m →
    (∀ c : Dev Cert.FfnLastIdeal.nD,
      m' ((c.tc : Thread Cert.FfnLastRefIdeal.nD Cert.FfnLastRefIdeal.τ).loc Cert.FfnLastRefIdeal.main_arg0) = m ((c.tc : Thread Cert.FfnLastIdeal.nD Cert.FfnLastIdeal.τ).loc Cert.FfnLastIdeal.main_arg0)
      ∧ m' ((c.tc : Thread Cert.FfnLastRefIdeal.nD Cert.FfnLastRefIdeal.τ).loc Cert.FfnLastRefIdeal.main_arg1) = m ((c.tc : Thread Cert.FfnLastIdeal.nD Cert.FfnLastIdeal.τ).loc Cert.FfnLastIdeal.main_arg1)
      ∧ m' ((c.tc : Thread Cert.FfnLastRefIdeal.nD Cert.FfnLastRefIdeal.τ).loc Cert.FfnLastRefIdeal.main_arg2) = m ((c.tc : Thread Cert.FfnLastIdeal.nD Cert.FfnLastIdeal.τ).loc Cert.FfnLastIdeal.main_arg2)
      ∧ m' ((c.tc : Thread Cert.FfnLastRefIdeal.nD Cert.FfnLastRefIdeal.τ).loc Cert.FfnLastRefIdeal.main_arg3) = m ((c.tc : Thread Cert.FfnLastIdeal.nD Cert.FfnLastIdeal.τ).loc Cert.FfnLastIdeal.main_arg3)
      ∧ m' ((c.tc : Thread Cert.FfnLastRefIdeal.nD Cert.FfnLastRefIdeal.τ).loc Cert.FfnLastRefIdeal.main_arg4) = m ((c.tc : Thread Cert.FfnLastIdeal.nD Cert.FfnLastIdeal.τ).loc Cert.FfnLastIdeal.main_arg4)) →
    ∃ (v0 : (c : Dev Cert.FfnLastIdeal.nD) → Buf (Elt Ideal) ((c.tc : Thread Cert.FfnLastIdeal.nD Cert.FfnLastIdeal.τ).loc Cert.FfnLastIdeal.main_v11)),
      θ_run (Cert.FfnLastIdeal.defs (F := Ideal)) (onTc (τ := Cert.FfnLastIdeal.τ) (Cert.FfnLastIdeal.main (F := Ideal))) ⟨m, fun _ => 0, g⟩ (fun r => ∀ c : Dev Cert.FfnLastIdeal.nD,
          r.2.mem ((c.tc : Thread Cert.FfnLastIdeal.nD Cert.FfnLastIdeal.τ).loc Cert.FfnLastIdeal.main_v11) = v0 c
          ∧ r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
          ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
          ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
          ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
          ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4))
      ∧ θ_run (Cert.FfnLastRefIdeal.defs (F := Ideal)) (onTc (τ := Cert.FfnLastRefIdeal.τ) (Cert.FfnLastRefIdeal.main (F := Ideal))) ⟨m', fun _ => 0, g'⟩ (fun r => ∀ c : Dev Cert.FfnLastRefIdeal.nD,
          r.2.mem ((c.tc : Thread Cert.FfnLastRefIdeal.nD Cert.FfnLastRefIdeal.τ).loc Cert.FfnLastRefIdeal.main_v34) = v0 c
          ∧ r.2.mem ((c.tc : Thread Cert.FfnLastRefIdeal.nD Cert.FfnLastRefIdeal.τ).loc Cert.FfnLastRefIdeal.main_arg0) = m' ((c.tc : Thread Cert.FfnLastRefIdeal.nD Cert.FfnLastRefIdeal.τ).loc Cert.FfnLastRefIdeal.main_arg0)
          ∧ r.2.mem ((c.tc : Thread Cert.FfnLastRefIdeal.nD Cert.FfnLastRefIdeal.τ).loc Cert.FfnLastRefIdeal.main_arg1) = m' ((c.tc : Thread Cert.FfnLastRefIdeal.nD Cert.FfnLastRefIdeal.τ).loc Cert.FfnLastRefIdeal.main_arg1)
          ∧ r.2.mem ((c.tc : Thread Cert.FfnLastRefIdeal.nD Cert.FfnLastRefIdeal.τ).loc Cert.FfnLastRefIdeal.main_arg2) = m' ((c.tc : Thread Cert.FfnLastRefIdeal.nD Cert.FfnLastRefIdeal.τ).loc Cert.FfnLastRefIdeal.main_arg2)
          ∧ r.2.mem ((c.tc : Thread Cert.FfnLastRefIdeal.nD Cert.FfnLastRefIdeal.τ).loc Cert.FfnLastRefIdeal.main_arg3) = m' ((c.tc : Thread Cert.FfnLastRefIdeal.nD Cert.FfnLastRefIdeal.τ).loc Cert.FfnLastRefIdeal.main_arg3)
          ∧ r.2.mem ((c.tc : Thread Cert.FfnLastRefIdeal.nD Cert.FfnLastRefIdeal.τ).loc Cert.FfnLastRefIdeal.main_arg4) = m' ((c.tc : Thread Cert.FfnLastRefIdeal.nD Cert.FfnLastRefIdeal.τ).loc Cert.FfnLastRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_OutProjWide_OutProjWideIdeal : Prop :=
  True

def algebraic_OutProjWideIdeal_OutProjWideRefIdeal [hOutProjWideIdeal : Cert.OutProjWideIdeal.Facts] [hOutProjWideRefIdeal : Cert.OutProjWideRefIdeal.Facts] : Prop :=
  ∀ (m : (ℓ : Loc Cert.OutProjWideIdeal.nD Cert.OutProjWideIdeal.τ Cert.OutProjWideIdeal.sig) → Buf (Elt Ideal) ℓ) (g : Dev Cert.OutProjWideIdeal.nD → PrngReg)
    (m' : (ℓ : Loc Cert.OutProjWideRefIdeal.nD Cert.OutProjWideRefIdeal.τ Cert.OutProjWideRefIdeal.sig) → Buf (Elt Ideal) ℓ) (g' : Dev Cert.OutProjWideRefIdeal.nD → PrngReg), Pre_OutProjWideIdeal m →
    (∀ c : Dev Cert.OutProjWideIdeal.nD,
      m' ((c.tc : Thread Cert.OutProjWideRefIdeal.nD Cert.OutProjWideRefIdeal.τ).loc Cert.OutProjWideRefIdeal.main_arg0) = m ((c.tc : Thread Cert.OutProjWideIdeal.nD Cert.OutProjWideIdeal.τ).loc Cert.OutProjWideIdeal.main_arg0)
      ∧ m' ((c.tc : Thread Cert.OutProjWideRefIdeal.nD Cert.OutProjWideRefIdeal.τ).loc Cert.OutProjWideRefIdeal.main_arg1) = m ((c.tc : Thread Cert.OutProjWideIdeal.nD Cert.OutProjWideIdeal.τ).loc Cert.OutProjWideIdeal.main_arg1)
      ∧ m' ((c.tc : Thread Cert.OutProjWideRefIdeal.nD Cert.OutProjWideRefIdeal.τ).loc Cert.OutProjWideRefIdeal.main_arg2) = m ((c.tc : Thread Cert.OutProjWideIdeal.nD Cert.OutProjWideIdeal.τ).loc Cert.OutProjWideIdeal.main_arg2)) →
    ∃ (v0 : (c : Dev Cert.OutProjWideIdeal.nD) → Buf (Elt Ideal) ((c.tc : Thread Cert.OutProjWideIdeal.nD Cert.OutProjWideIdeal.τ).loc Cert.OutProjWideIdeal.main_v1)),
      θ_run (Cert.OutProjWideIdeal.defs (F := Ideal)) (onTc (τ := Cert.OutProjWideIdeal.τ) (Cert.OutProjWideIdeal.main (F := Ideal))) ⟨m, fun _ => 0, g⟩ (fun r => ∀ c : Dev Cert.OutProjWideIdeal.nD,
          r.2.mem ((c.tc : Thread Cert.OutProjWideIdeal.nD Cert.OutProjWideIdeal.τ).loc Cert.OutProjWideIdeal.main_v1) = v0 c
          ∧ r.2.mem ((c.tc : Thread Cert.OutProjWideIdeal.nD Cert.OutProjWideIdeal.τ).loc Cert.OutProjWideIdeal.main_arg0) = m ((c.tc : Thread Cert.OutProjWideIdeal.nD Cert.OutProjWideIdeal.τ).loc Cert.OutProjWideIdeal.main_arg0)
          ∧ r.2.mem ((c.tc : Thread Cert.OutProjWideIdeal.nD Cert.OutProjWideIdeal.τ).loc Cert.OutProjWideIdeal.main_arg1) = m ((c.tc : Thread Cert.OutProjWideIdeal.nD Cert.OutProjWideIdeal.τ).loc Cert.OutProjWideIdeal.main_arg1)
          ∧ r.2.mem ((c.tc : Thread Cert.OutProjWideIdeal.nD Cert.OutProjWideIdeal.τ).loc Cert.OutProjWideIdeal.main_arg2) = m ((c.tc : Thread Cert.OutProjWideIdeal.nD Cert.OutProjWideIdeal.τ).loc Cert.OutProjWideIdeal.main_arg2))
      ∧ θ_run (Cert.OutProjWideRefIdeal.defs (F := Ideal)) (onTc (τ := Cert.OutProjWideRefIdeal.τ) (Cert.OutProjWideRefIdeal.main (F := Ideal))) ⟨m', fun _ => 0, g'⟩ (fun r => ∀ c : Dev Cert.OutProjWideRefIdeal.nD,
          r.2.mem ((c.tc : Thread Cert.OutProjWideRefIdeal.nD Cert.OutProjWideRefIdeal.τ).loc Cert.OutProjWideRefIdeal.main_v2) = v0 c
          ∧ r.2.mem ((c.tc : Thread Cert.OutProjWideRefIdeal.nD Cert.OutProjWideRefIdeal.τ).loc Cert.OutProjWideRefIdeal.main_arg0) = m' ((c.tc : Thread Cert.OutProjWideRefIdeal.nD Cert.OutProjWideRefIdeal.τ).loc Cert.OutProjWideRefIdeal.main_arg0)
          ∧ r.2.mem ((c.tc : Thread Cert.OutProjWideRefIdeal.nD Cert.OutProjWideRefIdeal.τ).loc Cert.OutProjWideRefIdeal.main_arg1) = m' ((c.tc : Thread Cert.OutProjWideRefIdeal.nD Cert.OutProjWideRefIdeal.τ).loc Cert.OutProjWideRefIdeal.main_arg1)
          ∧ r.2.mem ((c.tc : Thread Cert.OutProjWideRefIdeal.nD Cert.OutProjWideRefIdeal.τ).loc Cert.OutProjWideRefIdeal.main_arg2) = m' ((c.tc : Thread Cert.OutProjWideRefIdeal.nD Cert.OutProjWideRefIdeal.τ).loc Cert.OutProjWideRefIdeal.main_arg2))

def preserves_GlaProj_GlaProjIdeal : Prop :=
  True

def algebraic_GlaProjIdeal_GlaProjRefIdeal [hGlaProjIdeal : Cert.GlaProjIdeal.Facts] [hGlaProjRefIdeal : Cert.GlaProjRefIdeal.Facts] : Prop :=
  ∀ (m : (ℓ : Loc Cert.GlaProjIdeal.nD Cert.GlaProjIdeal.τ Cert.GlaProjIdeal.sig) → Buf (Elt Ideal) ℓ) (g : Dev Cert.GlaProjIdeal.nD → PrngReg)
    (m' : (ℓ : Loc Cert.GlaProjRefIdeal.nD Cert.GlaProjRefIdeal.τ Cert.GlaProjRefIdeal.sig) → Buf (Elt Ideal) ℓ) (g' : Dev Cert.GlaProjRefIdeal.nD → PrngReg), Pre_GlaProjIdeal m →
    (∀ c : Dev Cert.GlaProjIdeal.nD,
      m' ((c.tc : Thread Cert.GlaProjRefIdeal.nD Cert.GlaProjRefIdeal.τ).loc Cert.GlaProjRefIdeal.main_arg0) = m ((c.tc : Thread Cert.GlaProjIdeal.nD Cert.GlaProjIdeal.τ).loc Cert.GlaProjIdeal.main_arg0)
      ∧ m' ((c.tc : Thread Cert.GlaProjRefIdeal.nD Cert.GlaProjRefIdeal.τ).loc Cert.GlaProjRefIdeal.main_arg1) = m ((c.tc : Thread Cert.GlaProjIdeal.nD Cert.GlaProjIdeal.τ).loc Cert.GlaProjIdeal.main_arg1)
      ∧ m' ((c.tc : Thread Cert.GlaProjRefIdeal.nD Cert.GlaProjRefIdeal.τ).loc Cert.GlaProjRefIdeal.main_arg2) = m ((c.tc : Thread Cert.GlaProjIdeal.nD Cert.GlaProjIdeal.τ).loc Cert.GlaProjIdeal.main_arg2)) →
    ∃ (v0 : (c : Dev Cert.GlaProjIdeal.nD) → Buf (Elt Ideal) ((c.tc : Thread Cert.GlaProjIdeal.nD Cert.GlaProjIdeal.τ).loc Cert.GlaProjIdeal.main_v8_0)) (v1 : (c : Dev Cert.GlaProjIdeal.nD) → Buf (Elt Ideal) ((c.tc : Thread Cert.GlaProjIdeal.nD Cert.GlaProjIdeal.τ).loc Cert.GlaProjIdeal.main_v8_1)) (v2 : (c : Dev Cert.GlaProjIdeal.nD) → Buf (Elt Ideal) ((c.tc : Thread Cert.GlaProjIdeal.nD Cert.GlaProjIdeal.τ).loc Cert.GlaProjIdeal.main_v8_2)) (v3 : (c : Dev Cert.GlaProjIdeal.nD) → Buf (Elt Ideal) ((c.tc : Thread Cert.GlaProjIdeal.nD Cert.GlaProjIdeal.τ).loc Cert.GlaProjIdeal.main_v8_3)) (v4 : (c : Dev Cert.GlaProjIdeal.nD) → Buf (Elt Ideal) ((c.tc : Thread Cert.GlaProjIdeal.nD Cert.GlaProjIdeal.τ).loc Cert.GlaProjIdeal.main_v8_4)),
      θ_run (Cert.GlaProjIdeal.defs (F := Ideal)) (onTc (τ := Cert.GlaProjIdeal.τ) (Cert.GlaProjIdeal.main (F := Ideal))) ⟨m, fun _ => 0, g⟩ (fun r => ∀ c : Dev Cert.GlaProjIdeal.nD,
          r.2.mem ((c.tc : Thread Cert.GlaProjIdeal.nD Cert.GlaProjIdeal.τ).loc Cert.GlaProjIdeal.main_v8_0) = v0 c
          ∧ r.2.mem ((c.tc : Thread Cert.GlaProjIdeal.nD Cert.GlaProjIdeal.τ).loc Cert.GlaProjIdeal.main_v8_1) = v1 c
          ∧ r.2.mem ((c.tc : Thread Cert.GlaProjIdeal.nD Cert.GlaProjIdeal.τ).loc Cert.GlaProjIdeal.main_v8_2) = v2 c
          ∧ r.2.mem ((c.tc : Thread Cert.GlaProjIdeal.nD Cert.GlaProjIdeal.τ).loc Cert.GlaProjIdeal.main_v8_3) = v3 c
          ∧ r.2.mem ((c.tc : Thread Cert.GlaProjIdeal.nD Cert.GlaProjIdeal.τ).loc Cert.GlaProjIdeal.main_v8_4) = v4 c
          ∧ r.2.mem ((c.tc : Thread Cert.GlaProjIdeal.nD Cert.GlaProjIdeal.τ).loc Cert.GlaProjIdeal.main_arg0) = m ((c.tc : Thread Cert.GlaProjIdeal.nD Cert.GlaProjIdeal.τ).loc Cert.GlaProjIdeal.main_arg0)
          ∧ r.2.mem ((c.tc : Thread Cert.GlaProjIdeal.nD Cert.GlaProjIdeal.τ).loc Cert.GlaProjIdeal.main_arg1) = m ((c.tc : Thread Cert.GlaProjIdeal.nD Cert.GlaProjIdeal.τ).loc Cert.GlaProjIdeal.main_arg1)
          ∧ r.2.mem ((c.tc : Thread Cert.GlaProjIdeal.nD Cert.GlaProjIdeal.τ).loc Cert.GlaProjIdeal.main_arg2) = m ((c.tc : Thread Cert.GlaProjIdeal.nD Cert.GlaProjIdeal.τ).loc Cert.GlaProjIdeal.main_arg2))
      ∧ θ_run (Cert.GlaProjRefIdeal.defs (F := Ideal)) (onTc (τ := Cert.GlaProjRefIdeal.τ) (Cert.GlaProjRefIdeal.main (F := Ideal))) ⟨m', fun _ => 0, g'⟩ (fun r => ∀ c : Dev Cert.GlaProjRefIdeal.nD,
          r.2.mem ((c.tc : Thread Cert.GlaProjRefIdeal.nD Cert.GlaProjRefIdeal.τ).loc Cert.GlaProjRefIdeal.main_v14) = v0 c
          ∧ r.2.mem ((c.tc : Thread Cert.GlaProjRefIdeal.nD Cert.GlaProjRefIdeal.τ).loc Cert.GlaProjRefIdeal.main_v15) = v1 c
          ∧ r.2.mem ((c.tc : Thread Cert.GlaProjRefIdeal.nD Cert.GlaProjRefIdeal.τ).loc Cert.GlaProjRefIdeal.main_v16) = v2 c
          ∧ r.2.mem ((c.tc : Thread Cert.GlaProjRefIdeal.nD Cert.GlaProjRefIdeal.τ).loc Cert.GlaProjRefIdeal.main_v17) = v3 c
          ∧ r.2.mem ((c.tc : Thread Cert.GlaProjRefIdeal.nD Cert.GlaProjRefIdeal.τ).loc Cert.GlaProjRefIdeal.main_v19) = v4 c
          ∧ r.2.mem ((c.tc : Thread Cert.GlaProjRefIdeal.nD Cert.GlaProjRefIdeal.τ).loc Cert.GlaProjRefIdeal.main_arg0) = m' ((c.tc : Thread Cert.GlaProjRefIdeal.nD Cert.GlaProjRefIdeal.τ).loc Cert.GlaProjRefIdeal.main_arg0)
          ∧ r.2.mem ((c.tc : Thread Cert.GlaProjRefIdeal.nD Cert.GlaProjRefIdeal.τ).loc Cert.GlaProjRefIdeal.main_arg1) = m' ((c.tc : Thread Cert.GlaProjRefIdeal.nD Cert.GlaProjRefIdeal.τ).loc Cert.GlaProjRefIdeal.main_arg1)
          ∧ r.2.mem ((c.tc : Thread Cert.GlaProjRefIdeal.nD Cert.GlaProjRefIdeal.τ).loc Cert.GlaProjRefIdeal.main_arg2) = m' ((c.tc : Thread Cert.GlaProjRefIdeal.nD Cert.GlaProjRefIdeal.τ).loc Cert.GlaProjRefIdeal.main_arg2))

def preserves_SsdProj_SsdProjIdeal : Prop :=
  True

def algebraic_SsdProjIdeal_SsdProjRefIdeal [hSsdProjIdeal : Cert.SsdProjIdeal.Facts] [hSsdProjRefIdeal : Cert.SsdProjRefIdeal.Facts] : Prop :=
  ∀ (m : (ℓ : Loc Cert.SsdProjIdeal.nD Cert.SsdProjIdeal.τ Cert.SsdProjIdeal.sig) → Buf (Elt Ideal) ℓ) (g : Dev Cert.SsdProjIdeal.nD → PrngReg)
    (m' : (ℓ : Loc Cert.SsdProjRefIdeal.nD Cert.SsdProjRefIdeal.τ Cert.SsdProjRefIdeal.sig) → Buf (Elt Ideal) ℓ) (g' : Dev Cert.SsdProjRefIdeal.nD → PrngReg), Pre_SsdProjIdeal m →
    (∀ c : Dev Cert.SsdProjIdeal.nD,
      m' ((c.tc : Thread Cert.SsdProjRefIdeal.nD Cert.SsdProjRefIdeal.τ).loc Cert.SsdProjRefIdeal.main_arg0) = m ((c.tc : Thread Cert.SsdProjIdeal.nD Cert.SsdProjIdeal.τ).loc Cert.SsdProjIdeal.main_arg0)
      ∧ m' ((c.tc : Thread Cert.SsdProjRefIdeal.nD Cert.SsdProjRefIdeal.τ).loc Cert.SsdProjRefIdeal.main_arg1) = m ((c.tc : Thread Cert.SsdProjIdeal.nD Cert.SsdProjIdeal.τ).loc Cert.SsdProjIdeal.main_arg1)
      ∧ m' ((c.tc : Thread Cert.SsdProjRefIdeal.nD Cert.SsdProjRefIdeal.τ).loc Cert.SsdProjRefIdeal.main_arg2) = m ((c.tc : Thread Cert.SsdProjIdeal.nD Cert.SsdProjIdeal.τ).loc Cert.SsdProjIdeal.main_arg2)) →
    ∃ (v0 : (c : Dev Cert.SsdProjIdeal.nD) → Buf (Elt Ideal) ((c.tc : Thread Cert.SsdProjIdeal.nD Cert.SsdProjIdeal.τ).loc Cert.SsdProjIdeal.main_v6_0)) (v1 : (c : Dev Cert.SsdProjIdeal.nD) → Buf (Elt Ideal) ((c.tc : Thread Cert.SsdProjIdeal.nD Cert.SsdProjIdeal.τ).loc Cert.SsdProjIdeal.main_v6_1)) (v2 : (c : Dev Cert.SsdProjIdeal.nD) → Buf (Elt Ideal) ((c.tc : Thread Cert.SsdProjIdeal.nD Cert.SsdProjIdeal.τ).loc Cert.SsdProjIdeal.main_v6_2)),
      θ_run (Cert.SsdProjIdeal.defs (F := Ideal)) (onTc (τ := Cert.SsdProjIdeal.τ) (Cert.SsdProjIdeal.main (F := Ideal))) ⟨m, fun _ => 0, g⟩ (fun r => ∀ c : Dev Cert.SsdProjIdeal.nD,
          r.2.mem ((c.tc : Thread Cert.SsdProjIdeal.nD Cert.SsdProjIdeal.τ).loc Cert.SsdProjIdeal.main_v6_0) = v0 c
          ∧ r.2.mem ((c.tc : Thread Cert.SsdProjIdeal.nD Cert.SsdProjIdeal.τ).loc Cert.SsdProjIdeal.main_v6_1) = v1 c
          ∧ r.2.mem ((c.tc : Thread Cert.SsdProjIdeal.nD Cert.SsdProjIdeal.τ).loc Cert.SsdProjIdeal.main_v6_2) = v2 c
          ∧ r.2.mem ((c.tc : Thread Cert.SsdProjIdeal.nD Cert.SsdProjIdeal.τ).loc Cert.SsdProjIdeal.main_arg0) = m ((c.tc : Thread Cert.SsdProjIdeal.nD Cert.SsdProjIdeal.τ).loc Cert.SsdProjIdeal.main_arg0)
          ∧ r.2.mem ((c.tc : Thread Cert.SsdProjIdeal.nD Cert.SsdProjIdeal.τ).loc Cert.SsdProjIdeal.main_arg1) = m ((c.tc : Thread Cert.SsdProjIdeal.nD Cert.SsdProjIdeal.τ).loc Cert.SsdProjIdeal.main_arg1)
          ∧ r.2.mem ((c.tc : Thread Cert.SsdProjIdeal.nD Cert.SsdProjIdeal.τ).loc Cert.SsdProjIdeal.main_arg2) = m ((c.tc : Thread Cert.SsdProjIdeal.nD Cert.SsdProjIdeal.τ).loc Cert.SsdProjIdeal.main_arg2))
      ∧ θ_run (Cert.SsdProjRefIdeal.defs (F := Ideal)) (onTc (τ := Cert.SsdProjRefIdeal.τ) (Cert.SsdProjRefIdeal.main (F := Ideal))) ⟨m', fun _ => 0, g'⟩ (fun r => ∀ c : Dev Cert.SsdProjRefIdeal.nD,
          r.2.mem ((c.tc : Thread Cert.SsdProjRefIdeal.nD Cert.SsdProjRefIdeal.τ).loc Cert.SsdProjRefIdeal.main_v14) = v0 c
          ∧ r.2.mem ((c.tc : Thread Cert.SsdProjRefIdeal.nD Cert.SsdProjRefIdeal.τ).loc Cert.SsdProjRefIdeal.main_v15) = v1 c
          ∧ r.2.mem ((c.tc : Thread Cert.SsdProjRefIdeal.nD Cert.SsdProjRefIdeal.τ).loc Cert.SsdProjRefIdeal.main_v17) = v2 c
          ∧ r.2.mem ((c.tc : Thread Cert.SsdProjRefIdeal.nD Cert.SsdProjRefIdeal.τ).loc Cert.SsdProjRefIdeal.main_arg0) = m' ((c.tc : Thread Cert.SsdProjRefIdeal.nD Cert.SsdProjRefIdeal.τ).loc Cert.SsdProjRefIdeal.main_arg0)
          ∧ r.2.mem ((c.tc : Thread Cert.SsdProjRefIdeal.nD Cert.SsdProjRefIdeal.τ).loc Cert.SsdProjRefIdeal.main_arg1) = m' ((c.tc : Thread Cert.SsdProjRefIdeal.nD Cert.SsdProjRefIdeal.τ).loc Cert.SsdProjRefIdeal.main_arg1)
          ∧ r.2.mem ((c.tc : Thread Cert.SsdProjRefIdeal.nD Cert.SsdProjRefIdeal.τ).loc Cert.SsdProjRefIdeal.main_arg2) = m' ((c.tc : Thread Cert.SsdProjRefIdeal.nD Cert.SsdProjRefIdeal.τ).loc Cert.SsdProjRefIdeal.main_arg2))

def preserves_MlaProj_MlaProjIdeal : Prop :=
  True

def algebraic_MlaProjIdeal_MlaProjRefIdeal [hMlaProjIdeal : Cert.MlaProjIdeal.Facts] [hMlaProjRefIdeal : Cert.MlaProjRefIdeal.Facts] : Prop :=
  ∀ (m : (ℓ : Loc Cert.MlaProjIdeal.nD Cert.MlaProjIdeal.τ Cert.MlaProjIdeal.sig) → Buf (Elt Ideal) ℓ) (g : Dev Cert.MlaProjIdeal.nD → PrngReg)
    (m' : (ℓ : Loc Cert.MlaProjRefIdeal.nD Cert.MlaProjRefIdeal.τ Cert.MlaProjRefIdeal.sig) → Buf (Elt Ideal) ℓ) (g' : Dev Cert.MlaProjRefIdeal.nD → PrngReg), Pre_MlaProjIdeal m →
    (∀ c : Dev Cert.MlaProjIdeal.nD,
      m' ((c.tc : Thread Cert.MlaProjRefIdeal.nD Cert.MlaProjRefIdeal.τ).loc Cert.MlaProjRefIdeal.main_arg0) = m ((c.tc : Thread Cert.MlaProjIdeal.nD Cert.MlaProjIdeal.τ).loc Cert.MlaProjIdeal.main_arg0)
      ∧ m' ((c.tc : Thread Cert.MlaProjRefIdeal.nD Cert.MlaProjRefIdeal.τ).loc Cert.MlaProjRefIdeal.main_arg1) = m ((c.tc : Thread Cert.MlaProjIdeal.nD Cert.MlaProjIdeal.τ).loc Cert.MlaProjIdeal.main_arg1)
      ∧ m' ((c.tc : Thread Cert.MlaProjRefIdeal.nD Cert.MlaProjRefIdeal.τ).loc Cert.MlaProjRefIdeal.main_arg2) = m ((c.tc : Thread Cert.MlaProjIdeal.nD Cert.MlaProjIdeal.τ).loc Cert.MlaProjIdeal.main_arg2)) →
    ∃ (v0 : (c : Dev Cert.MlaProjIdeal.nD) → Buf (Elt Ideal) ((c.tc : Thread Cert.MlaProjIdeal.nD Cert.MlaProjIdeal.τ).loc Cert.MlaProjIdeal.main_v11_0)) (v1 : (c : Dev Cert.MlaProjIdeal.nD) → Buf (Elt Ideal) ((c.tc : Thread Cert.MlaProjIdeal.nD Cert.MlaProjIdeal.τ).loc Cert.MlaProjIdeal.main_v11_1)) (v2 : (c : Dev Cert.MlaProjIdeal.nD) → Buf (Elt Ideal) ((c.tc : Thread Cert.MlaProjIdeal.nD Cert.MlaProjIdeal.τ).loc Cert.MlaProjIdeal.main_v11_2)),
      θ_run (Cert.MlaProjIdeal.defs (F := Ideal)) (onTc (τ := Cert.MlaProjIdeal.τ) (Cert.MlaProjIdeal.main (F := Ideal))) ⟨m, fun _ => 0, g⟩ (fun r => ∀ c : Dev Cert.MlaProjIdeal.nD,
          r.2.mem ((c.tc : Thread Cert.MlaProjIdeal.nD Cert.MlaProjIdeal.τ).loc Cert.MlaProjIdeal.main_v11_0) = v0 c
          ∧ r.2.mem ((c.tc : Thread Cert.MlaProjIdeal.nD Cert.MlaProjIdeal.τ).loc Cert.MlaProjIdeal.main_v11_1) = v1 c
          ∧ r.2.mem ((c.tc : Thread Cert.MlaProjIdeal.nD Cert.MlaProjIdeal.τ).loc Cert.MlaProjIdeal.main_v11_2) = v2 c
          ∧ r.2.mem ((c.tc : Thread Cert.MlaProjIdeal.nD Cert.MlaProjIdeal.τ).loc Cert.MlaProjIdeal.main_arg0) = m ((c.tc : Thread Cert.MlaProjIdeal.nD Cert.MlaProjIdeal.τ).loc Cert.MlaProjIdeal.main_arg0)
          ∧ r.2.mem ((c.tc : Thread Cert.MlaProjIdeal.nD Cert.MlaProjIdeal.τ).loc Cert.MlaProjIdeal.main_arg1) = m ((c.tc : Thread Cert.MlaProjIdeal.nD Cert.MlaProjIdeal.τ).loc Cert.MlaProjIdeal.main_arg1)
          ∧ r.2.mem ((c.tc : Thread Cert.MlaProjIdeal.nD Cert.MlaProjIdeal.τ).loc Cert.MlaProjIdeal.main_arg2) = m ((c.tc : Thread Cert.MlaProjIdeal.nD Cert.MlaProjIdeal.τ).loc Cert.MlaProjIdeal.main_arg2))
      ∧ θ_run (Cert.MlaProjRefIdeal.defs (F := Ideal)) (onTc (τ := Cert.MlaProjRefIdeal.τ) (Cert.MlaProjRefIdeal.main (F := Ideal))) ⟨m', fun _ => 0, g'⟩ (fun r => ∀ c : Dev Cert.MlaProjRefIdeal.nD,
          r.2.mem ((c.tc : Thread Cert.MlaProjRefIdeal.nD Cert.MlaProjRefIdeal.τ).loc Cert.MlaProjRefIdeal.main_v14) = v0 c
          ∧ r.2.mem ((c.tc : Thread Cert.MlaProjRefIdeal.nD Cert.MlaProjRefIdeal.τ).loc Cert.MlaProjRefIdeal.main_v15) = v1 c
          ∧ r.2.mem ((c.tc : Thread Cert.MlaProjRefIdeal.nD Cert.MlaProjRefIdeal.τ).loc Cert.MlaProjRefIdeal.main_v19) = v2 c
          ∧ r.2.mem ((c.tc : Thread Cert.MlaProjRefIdeal.nD Cert.MlaProjRefIdeal.τ).loc Cert.MlaProjRefIdeal.main_arg0) = m' ((c.tc : Thread Cert.MlaProjRefIdeal.nD Cert.MlaProjRefIdeal.τ).loc Cert.MlaProjRefIdeal.main_arg0)
          ∧ r.2.mem ((c.tc : Thread Cert.MlaProjRefIdeal.nD Cert.MlaProjRefIdeal.τ).loc Cert.MlaProjRefIdeal.main_arg1) = m' ((c.tc : Thread Cert.MlaProjRefIdeal.nD Cert.MlaProjRefIdeal.τ).loc Cert.MlaProjRefIdeal.main_arg1)
          ∧ r.2.mem ((c.tc : Thread Cert.MlaProjRefIdeal.nD Cert.MlaProjRefIdeal.τ).loc Cert.MlaProjRefIdeal.main_arg2) = m' ((c.tc : Thread Cert.MlaProjRefIdeal.nD Cert.MlaProjRefIdeal.τ).loc Cert.MlaProjRefIdeal.main_arg2))

def preserves_MlaQkv_MlaQkvIdeal : Prop :=
  True

def algebraic_MlaQkvIdeal_MlaQkvRefIdeal_pre_key_halves_swapped [hMlaQkvIdeal : Cert.MlaQkvIdeal.Facts] [hMlaQkvRefIdeal : Cert.MlaQkvRefIdeal.Facts] [hPre_key_halves_swapped : Cert.Pre_key_halves_swapped.Facts] : Prop :=
  ∀ (m : (ℓ : Loc Cert.MlaQkvIdeal.nD Cert.MlaQkvIdeal.τ Cert.MlaQkvIdeal.sig) → Buf (Elt Ideal) ℓ) (g : Dev Cert.MlaQkvIdeal.nD → PrngReg)
    (m' : (ℓ : Loc Cert.MlaQkvRefIdeal.nD Cert.MlaQkvRefIdeal.τ Cert.MlaQkvRefIdeal.sig) → Buf (Elt Ideal) ℓ) (g' : Dev Cert.MlaQkvRefIdeal.nD → PrngReg), Pre_MlaQkvIdeal_key_halves_swapped m →
    (∀ c : Dev Cert.MlaQkvIdeal.nD,
      m' ((c.tc : Thread Cert.MlaQkvRefIdeal.nD Cert.MlaQkvRefIdeal.τ).loc Cert.MlaQkvRefIdeal.main_arg0) = m ((c.tc : Thread Cert.MlaQkvIdeal.nD Cert.MlaQkvIdeal.τ).loc Cert.MlaQkvIdeal.main_arg0)
      ∧ m' ((c.tc : Thread Cert.MlaQkvRefIdeal.nD Cert.MlaQkvRefIdeal.τ).loc Cert.MlaQkvRefIdeal.main_arg1) = m ((c.tc : Thread Cert.MlaQkvIdeal.nD Cert.MlaQkvIdeal.τ).loc Cert.MlaQkvIdeal.main_arg1)
      ∧ m' ((c.tc : Thread Cert.MlaQkvRefIdeal.nD Cert.MlaQkvRefIdeal.τ).loc Cert.MlaQkvRefIdeal.main_arg2) = m ((c.tc : Thread Cert.MlaQkvIdeal.nD Cert.MlaQkvIdeal.τ).loc Cert.MlaQkvIdeal.main_arg2)
      ∧ m' ((c.tc : Thread Cert.MlaQkvRefIdeal.nD Cert.MlaQkvRefIdeal.τ).loc Cert.MlaQkvRefIdeal.main_arg3) = m ((c.tc : Thread Cert.MlaQkvIdeal.nD Cert.MlaQkvIdeal.τ).loc Cert.MlaQkvIdeal.main_arg3)
      ∧ m' ((c.tc : Thread Cert.MlaQkvRefIdeal.nD Cert.MlaQkvRefIdeal.τ).loc Cert.MlaQkvRefIdeal.main_arg4) = m ((c.tc : Thread Cert.MlaQkvIdeal.nD Cert.MlaQkvIdeal.τ).loc Cert.MlaQkvIdeal.main_arg4)
      ∧ m' ((c.tc : Thread Cert.MlaQkvRefIdeal.nD Cert.MlaQkvRefIdeal.τ).loc Cert.MlaQkvRefIdeal.main_arg5) = m ((c.tc : Thread Cert.MlaQkvIdeal.nD Cert.MlaQkvIdeal.τ).loc Cert.MlaQkvIdeal.main_arg5)
      ∧ m' ((c.tc : Thread Cert.MlaQkvRefIdeal.nD Cert.MlaQkvRefIdeal.τ).loc Cert.MlaQkvRefIdeal.main_arg6) = m ((c.tc : Thread Cert.MlaQkvIdeal.nD Cert.MlaQkvIdeal.τ).loc Cert.MlaQkvIdeal.main_arg6)
      ∧ m' ((c.tc : Thread Cert.MlaQkvRefIdeal.nD Cert.MlaQkvRefIdeal.τ).loc Cert.MlaQkvRefIdeal.main_arg7) = m ((c.tc : Thread Cert.MlaQkvIdeal.nD Cert.MlaQkvIdeal.τ).loc Cert.MlaQkvIdeal.main_arg7)) →
    ∃ (v0 : (c : Dev Cert.MlaQkvIdeal.nD) → Buf (Elt Ideal) ((c.tc : Thread Cert.MlaQkvIdeal.nD Cert.MlaQkvIdeal.τ).loc Cert.MlaQkvIdeal.main_v34_0)) (v1 : (c : Dev Cert.MlaQkvIdeal.nD) → Buf (Elt Ideal) ((c.tc : Thread Cert.MlaQkvIdeal.nD Cert.MlaQkvIdeal.τ).loc Cert.MlaQkvIdeal.main_v34_1)) (v2 : (c : Dev Cert.MlaQkvIdeal.nD) → Buf (Elt Ideal) ((c.tc : Thread Cert.MlaQkvIdeal.nD Cert.MlaQkvIdeal.τ).loc Cert.MlaQkvIdeal.main_v34_2)),
      θ_run (Cert.MlaQkvIdeal.defs (F := Ideal)) (onTc (τ := Cert.MlaQkvIdeal.τ) (Cert.MlaQkvIdeal.main (F := Ideal))) ⟨m, fun _ => 0, g⟩ (fun r => ∀ c : Dev Cert.MlaQkvIdeal.nD,
          r.2.mem ((c.tc : Thread Cert.MlaQkvIdeal.nD Cert.MlaQkvIdeal.τ).loc Cert.MlaQkvIdeal.main_v34_0) = v0 c
          ∧ r.2.mem ((c.tc : Thread Cert.MlaQkvIdeal.nD Cert.MlaQkvIdeal.τ).loc Cert.MlaQkvIdeal.main_v34_1) = v1 c
          ∧ r.2.mem ((c.tc : Thread Cert.MlaQkvIdeal.nD Cert.MlaQkvIdeal.τ).loc Cert.MlaQkvIdeal.main_v34_2) = v2 c
          ∧ r.2.mem ((c.tc : Thread Cert.MlaQkvIdeal.nD Cert.MlaQkvIdeal.τ).loc Cert.MlaQkvIdeal.main_arg0) = m ((c.tc : Thread Cert.MlaQkvIdeal.nD Cert.MlaQkvIdeal.τ).loc Cert.MlaQkvIdeal.main_arg0)
          ∧ r.2.mem ((c.tc : Thread Cert.MlaQkvIdeal.nD Cert.MlaQkvIdeal.τ).loc Cert.MlaQkvIdeal.main_arg1) = m ((c.tc : Thread Cert.MlaQkvIdeal.nD Cert.MlaQkvIdeal.τ).loc Cert.MlaQkvIdeal.main_arg1)
          ∧ r.2.mem ((c.tc : Thread Cert.MlaQkvIdeal.nD Cert.MlaQkvIdeal.τ).loc Cert.MlaQkvIdeal.main_arg2) = m ((c.tc : Thread Cert.MlaQkvIdeal.nD Cert.MlaQkvIdeal.τ).loc Cert.MlaQkvIdeal.main_arg2)
          ∧ r.2.mem ((c.tc : Thread Cert.MlaQkvIdeal.nD Cert.MlaQkvIdeal.τ).loc Cert.MlaQkvIdeal.main_arg3) = m ((c.tc : Thread Cert.MlaQkvIdeal.nD Cert.MlaQkvIdeal.τ).loc Cert.MlaQkvIdeal.main_arg3)
          ∧ r.2.mem ((c.tc : Thread Cert.MlaQkvIdeal.nD Cert.MlaQkvIdeal.τ).loc Cert.MlaQkvIdeal.main_arg4) = m ((c.tc : Thread Cert.MlaQkvIdeal.nD Cert.MlaQkvIdeal.τ).loc Cert.MlaQkvIdeal.main_arg4)
          ∧ r.2.mem ((c.tc : Thread Cert.MlaQkvIdeal.nD Cert.MlaQkvIdeal.τ).loc Cert.MlaQkvIdeal.main_arg5) = m ((c.tc : Thread Cert.MlaQkvIdeal.nD Cert.MlaQkvIdeal.τ).loc Cert.MlaQkvIdeal.main_arg5)
          ∧ r.2.mem ((c.tc : Thread Cert.MlaQkvIdeal.nD Cert.MlaQkvIdeal.τ).loc Cert.MlaQkvIdeal.main_arg6) = m ((c.tc : Thread Cert.MlaQkvIdeal.nD Cert.MlaQkvIdeal.τ).loc Cert.MlaQkvIdeal.main_arg6)
          ∧ r.2.mem ((c.tc : Thread Cert.MlaQkvIdeal.nD Cert.MlaQkvIdeal.τ).loc Cert.MlaQkvIdeal.main_arg7) = m ((c.tc : Thread Cert.MlaQkvIdeal.nD Cert.MlaQkvIdeal.τ).loc Cert.MlaQkvIdeal.main_arg7))
      ∧ θ_run (Cert.MlaQkvRefIdeal.defs (F := Ideal)) (onTc (τ := Cert.MlaQkvRefIdeal.τ) (Cert.MlaQkvRefIdeal.main (F := Ideal))) ⟨m', fun _ => 0, g'⟩ (fun r => ∀ c : Dev Cert.MlaQkvRefIdeal.nD,
          r.2.mem ((c.tc : Thread Cert.MlaQkvRefIdeal.nD Cert.MlaQkvRefIdeal.τ).loc Cert.MlaQkvRefIdeal.main_v85) = v0 c
          ∧ r.2.mem ((c.tc : Thread Cert.MlaQkvRefIdeal.nD Cert.MlaQkvRefIdeal.τ).loc Cert.MlaQkvRefIdeal.main_v88) = v1 c
          ∧ r.2.mem ((c.tc : Thread Cert.MlaQkvRefIdeal.nD Cert.MlaQkvRefIdeal.τ).loc Cert.MlaQkvRefIdeal.main_v91) = v2 c
          ∧ r.2.mem ((c.tc : Thread Cert.MlaQkvRefIdeal.nD Cert.MlaQkvRefIdeal.τ).loc Cert.MlaQkvRefIdeal.main_arg0) = m' ((c.tc : Thread Cert.MlaQkvRefIdeal.nD Cert.MlaQkvRefIdeal.τ).loc Cert.MlaQkvRefIdeal.main_arg0)
          ∧ r.2.mem ((c.tc : Thread Cert.MlaQkvRefIdeal.nD Cert.MlaQkvRefIdeal.τ).loc Cert.MlaQkvRefIdeal.main_arg1) = m' ((c.tc : Thread Cert.MlaQkvRefIdeal.nD Cert.MlaQkvRefIdeal.τ).loc Cert.MlaQkvRefIdeal.main_arg1)
          ∧ r.2.mem ((c.tc : Thread Cert.MlaQkvRefIdeal.nD Cert.MlaQkvRefIdeal.τ).loc Cert.MlaQkvRefIdeal.main_arg2) = m' ((c.tc : Thread Cert.MlaQkvRefIdeal.nD Cert.MlaQkvRefIdeal.τ).loc Cert.MlaQkvRefIdeal.main_arg2)
          ∧ r.2.mem ((c.tc : Thread Cert.MlaQkvRefIdeal.nD Cert.MlaQkvRefIdeal.τ).loc Cert.MlaQkvRefIdeal.main_arg3) = m' ((c.tc : Thread Cert.MlaQkvRefIdeal.nD Cert.MlaQkvRefIdeal.τ).loc Cert.MlaQkvRefIdeal.main_arg3)
          ∧ r.2.mem ((c.tc : Thread Cert.MlaQkvRefIdeal.nD Cert.MlaQkvRefIdeal.τ).loc Cert.MlaQkvRefIdeal.main_arg4) = m' ((c.tc : Thread Cert.MlaQkvRefIdeal.nD Cert.MlaQkvRefIdeal.τ).loc Cert.MlaQkvRefIdeal.main_arg4)
          ∧ r.2.mem ((c.tc : Thread Cert.MlaQkvRefIdeal.nD Cert.MlaQkvRefIdeal.τ).loc Cert.MlaQkvRefIdeal.main_arg5) = m' ((c.tc : Thread Cert.MlaQkvRefIdeal.nD Cert.MlaQkvRefIdeal.τ).loc Cert.MlaQkvRefIdeal.main_arg5)
          ∧ r.2.mem ((c.tc : Thread Cert.MlaQkvRefIdeal.nD Cert.MlaQkvRefIdeal.τ).loc Cert.MlaQkvRefIdeal.main_arg6) = m' ((c.tc : Thread Cert.MlaQkvRefIdeal.nD Cert.MlaQkvRefIdeal.τ).loc Cert.MlaQkvRefIdeal.main_arg6)
          ∧ r.2.mem ((c.tc : Thread Cert.MlaQkvRefIdeal.nD Cert.MlaQkvRefIdeal.τ).loc Cert.MlaQkvRefIdeal.main_arg7) = m' ((c.tc : Thread Cert.MlaQkvRefIdeal.nD Cert.MlaQkvRefIdeal.τ).loc Cert.MlaQkvRefIdeal.main_arg7))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hFfnLast : Cert.FfnLast.Facts) (hFfnLastIdeal : Cert.FfnLastIdeal.Facts) (hFfnLastRefIdeal : Cert.FfnLastRefIdeal.Facts) (hOutProj : Cert.OutProj.Facts) (hOutProjIdeal : Cert.OutProjIdeal.Facts) (hOutProjRefIdeal : Cert.OutProjRefIdeal.Facts) (hOutProjWide : Cert.OutProjWide.Facts) (hOutProjWideIdeal : Cert.OutProjWideIdeal.Facts) (hOutProjWideRefIdeal : Cert.OutProjWideRefIdeal.Facts) (hGlaProj : Cert.GlaProj.Facts) (hGlaProjIdeal : Cert.GlaProjIdeal.Facts) (hGlaProjRefIdeal : Cert.GlaProjRefIdeal.Facts) (hSsdProj : Cert.SsdProj.Facts) (hSsdProjIdeal : Cert.SsdProjIdeal.Facts) (hSsdProjRefIdeal : Cert.SsdProjRefIdeal.Facts) (hMlaProj : Cert.MlaProj.Facts) (hMlaProjIdeal : Cert.MlaProjIdeal.Facts) (hMlaProjRefIdeal : Cert.MlaProjRefIdeal.Facts) (hMlaQkv : Cert.MlaQkv.Facts) (hMlaQkvIdeal : Cert.MlaQkvIdeal.Facts) (hMlaQkvRefIdeal : Cert.MlaQkvRefIdeal.Facts) (hPre_scores_finite : Cert.Pre_scores_finite.Facts) (hPre_key_halves_swapped : Cert.Pre_key_halves_swapped.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Ffn (hFfn := hFfn)
    ∧ quiescent_FfnIdeal (hFfnIdeal := hFfnIdeal)
    ∧ quiescent_FfnRefIdeal (hFfnRefIdeal := hFfnRefIdeal)
    ∧ quiescent_FfnLast (hFfnLast := hFfnLast)
    ∧ quiescent_FfnLastIdeal (hFfnLastIdeal := hFfnLastIdeal)
    ∧ quiescent_FfnLastRefIdeal (hFfnLastRefIdeal := hFfnLastRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_OutProjWide (hOutProjWide := hOutProjWide)
    ∧ quiescent_OutProjWideIdeal (hOutProjWideIdeal := hOutProjWideIdeal)
    ∧ quiescent_OutProjWideRefIdeal (hOutProjWideRefIdeal := hOutProjWideRefIdeal)
    ∧ quiescent_GlaProj (hGlaProj := hGlaProj)
    ∧ quiescent_GlaProjIdeal (hGlaProjIdeal := hGlaProjIdeal)
    ∧ quiescent_GlaProjRefIdeal (hGlaProjRefIdeal := hGlaProjRefIdeal)
    ∧ quiescent_SsdProj (hSsdProj := hSsdProj)
    ∧ quiescent_SsdProjIdeal (hSsdProjIdeal := hSsdProjIdeal)
    ∧ quiescent_SsdProjRefIdeal (hSsdProjRefIdeal := hSsdProjRefIdeal)
    ∧ quiescent_MlaProj (hMlaProj := hMlaProj)
    ∧ quiescent_MlaProjIdeal (hMlaProjIdeal := hMlaProjIdeal)
    ∧ quiescent_MlaProjRefIdeal (hMlaProjRefIdeal := hMlaProjRefIdeal)
    ∧ quiescent_MlaQkv (hMlaQkv := hMlaQkv)
    ∧ quiescent_MlaQkvIdeal (hMlaQkvIdeal := hMlaQkvIdeal)
    ∧ quiescent_MlaQkvIdeal_pre_key_halves_swapped (hMlaQkvIdeal := hMlaQkvIdeal) (hPre_key_halves_swapped := hPre_key_halves_swapped)
    ∧ quiescent_MlaQkvRefIdeal (hMlaQkvRefIdeal := hMlaQkvRefIdeal)
    ∧ quiescent_MlaQkvRefIdeal_pre_key_halves_swapped (hMlaQkvRefIdeal := hMlaQkvRefIdeal) (hPre_key_halves_swapped := hPre_key_halves_swapped)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Ffn_FfnIdeal
    ∧ algebraic_FfnIdeal_FfnRefIdeal (hFfnIdeal := hFfnIdeal) (hFfnRefIdeal := hFfnRefIdeal)
    ∧ preserves_FfnLast_FfnLastIdeal
    ∧ algebraic_FfnLastIdeal_FfnLastRefIdeal (hFfnLastIdeal := hFfnLastIdeal) (hFfnLastRefIdeal := hFfnLastRefIdeal)
    ∧ preserves_OutProj_OutProjIdeal
    ∧ algebraic_OutProjIdeal_OutProjRefIdeal (hOutProjIdeal := hOutProjIdeal) (hOutProjRefIdeal := hOutProjRefIdeal)
    ∧ preserves_OutProjWide_OutProjWideIdeal
    ∧ algebraic_OutProjWideIdeal_OutProjWideRefIdeal (hOutProjWideIdeal := hOutProjWideIdeal) (hOutProjWideRefIdeal := hOutProjWideRefIdeal)
    ∧ preserves_GlaProj_GlaProjIdeal
    ∧ algebraic_GlaProjIdeal_GlaProjRefIdeal (hGlaProjIdeal := hGlaProjIdeal) (hGlaProjRefIdeal := hGlaProjRefIdeal)
    ∧ preserves_SsdProj_SsdProjIdeal
    ∧ algebraic_SsdProjIdeal_SsdProjRefIdeal (hSsdProjIdeal := hSsdProjIdeal) (hSsdProjRefIdeal := hSsdProjRefIdeal)
    ∧ preserves_MlaProj_MlaProjIdeal
    ∧ algebraic_MlaProjIdeal_MlaProjRefIdeal (hMlaProjIdeal := hMlaProjIdeal) (hMlaProjRefIdeal := hMlaProjRefIdeal)
    ∧ preserves_MlaQkv_MlaQkvIdeal
    ∧ algebraic_MlaQkvIdeal_MlaQkvRefIdeal_pre_key_halves_swapped (hMlaQkvIdeal := hMlaQkvIdeal) (hMlaQkvRefIdeal := hMlaQkvRefIdeal) (hPre_key_halves_swapped := hPre_key_halves_swapped)
-- ==== Pre_key_halves_swapped.lean ====
abbrev S32768x384 : Shape := ⟨2, ![32768, 384]⟩
abbrev S32768x256 : Shape := ⟨2, ![32768, 256]⟩
abbrev S32768x128 : Shape := ⟨2, ![32768, 128]⟩
abbrev S8x4096 : Shape := ⟨2, ![8, 4096]⟩
abbrev S384 : Shape := ⟨1, ![384]⟩
abbrev S384x1536 : Shape := ⟨2, ![384, 1536]⟩
abbrev S256 : Shape := ⟨1, ![256]⟩
abbrev S256x2048 : Shape := ⟨2, ![256, 2048]⟩
abbrev S32768x64 : Shape := ⟨2, ![32768, 64]⟩
abbrev S32768x32 : Shape := ⟨2, ![32768, 32]⟩

class Facts : Prop where
  slices_S32768x128_S32768x64_0_64 : S32768x128.Slices ![0, 64] S32768x64
  slices_S32768x128_S32768x32_0_32 : S32768x128.Slices ![0, 32] S32768x32
  slices_S32768x128_S32768x32_0_0 : S32768x128.Slices ![0, 0] S32768x32
  concatenates_S32768x32_S32768x32_S32768x64_d1 : Shape.Concatenates [S32768x32, S32768x32] S32768x64 1

variable [Facts]

def fn {F : FTy → Type} [FloatOps F] (main_arg0 : FVec F S32768x384 .f32) (main_arg1 : FVec F S32768x256 .f32) (main_arg2 : FVec F S32768x128 .f32) (main_arg3 : IVec S8x4096 32) (main_arg4 : FVec F S384 .f32) (main_arg5 : FVec F S384x1536 .f32) (main_arg6 : FVec F S256 .f32) (main_arg7 : FVec F S256x2048 .f32) : IVec S32768x64 1 :=
  let main_v0 : FVec F S32768x64 .f32 := (extractStridedSlice S32768x64 ![0, 64] · slices_S32768x128_S32768x64_0_64) main_arg2
  let main_v1 : FVec F S32768x32 .f32 := (extractStridedSlice S32768x32 ![0, 32] · slices_S32768x128_S32768x32_0_32) main_arg2
  let main_v2 : FVec F S32768x32 .f32 := (extractStridedSlice S32768x32 ![0, 0] · slices_S32768x128_S32768x32_0_0) main_arg2
  let main_v3 : FVec F S32768x64 .f32 := (fun a b => concatenate S32768x64 1 [⟨S32768x32, a⟩, ⟨S32768x32, b⟩] concatenates_S32768x32_S32768x32_S32768x64_d1) main_v1 main_v2
  let main_v4 : IVec S32768x64 1 := cmpf .oeq main_v0 main_v3
  main_v4
-- ==== Pre_scores_finite.lean ====
abbrev S8x4096x2048 : Shape := ⟨3, ![8, 4096, 2048]⟩
abbrev S8x4096x1024 : Shape := ⟨3, ![8, 4096, 1024]⟩
abbrev S_ : Shape := ⟨0, ![]⟩

class Facts : Prop where
  bcast_S_S8x4096x2048 : S_.BroadcastsInDim S8x4096x2048 (![] : Fin 0 → Fin S8x4096x2048.rank)

variable [Facts]

def fn {F : FTy → Type} [FloatOps F] (main_arg0 : FVec F S8x4096x2048 .bf16) (main_arg1 : FVec F S8x4096x2048 .bf16) (main_arg2 : FVec F S8x4096x1024 .bf16) : IVec S8x4096x2048 1 :=
  let main_v0 : FVec F S8x4096x2048 .bf16 := Host.absf main_arg0
  let main_cst : FVec F S_ .bf16 := constant S_ .bf16 0x7F80#16
  let main_v1 : FVec F S8x4096x2048 .bf16 := broadcastInDim S8x4096x2048 ![] bcast_S_S8x4096x2048 main_cst
  let main_v2 : IVec S8x4096x2048 1 := cmpf .olt main_v0 main_v1
  let main_v3 : FVec F S8x4096x2048 .bf16 := Host.absf main_arg1
  let main_cst_0 : FVec F S_ .bf16 := constant S_ .bf16 0x7F80#16
  let main_v4 : FVec F S8x4096x2048 .bf16 := broadcastInDim S8x4096x2048 ![] bcast_S_S8x4096x2048 main_cst_0
  let main_v5 : IVec S8x4096x2048 1 := cmpf .olt main_v3 main_v4
  let main_v6 : IVec S8x4096x2048 1 := andi main_v2 main_v5
  main_v6
-- ==== Kernel.lean ====
abbrev S8x4096x2048 : Shape := ⟨3, ![8, 4096, 2048]⟩
abbrev S8x4096x1024 : Shape := ⟨3, ![8, 4096, 1024]⟩
abbrev S1x512x256 : Shape := ⟨3, ![1, 512, 256]⟩
abbrev S1x4096x256 : Shape := ⟨3, ![1, 4096, 256]⟩
abbrev S1x4096x128 : Shape := ⟨3, ![1, 4096, 128]⟩
abbrev S1x512x128 : Shape := ⟨3, ![1, 512, 128]⟩
abbrev S512x256 : Shape := ⟨2, ![512, 256]⟩
abbrev S512x512 : Shape := ⟨2, ![512, 512]⟩
abbrev S512x1 : Shape := ⟨2, ![512, 1]⟩
abbrev S512x128 : Shape := ⟨2, ![512, 128]⟩
abbrev S512 : Shape := ⟨1, ![512]⟩

abbrev nBuf : Space → Nat
  | .hbm => 4
  | .vmem => 8
  | .smem => 0
  | _ => 0

abbrev bufTy : (tb : Table) → Fin (tcTables nBuf tb) → BufTy
  | .hbm, ⟨0, _⟩ => ⟨S8x4096x2048, .bf16⟩
  | .hbm, ⟨1, _⟩ => ⟨S8x4096x2048, .bf16⟩
  | .hbm, ⟨2, _⟩ => ⟨S8x4096x1024, .bf16⟩
  | .hbm, ⟨3, _⟩ => ⟨S8x4096x1024, .bf16⟩
  | .local _ .vmem, ⟨0, _⟩ => ⟨S1x512x256, .bf16⟩
  | .local _ .vmem, ⟨1, _⟩ => ⟨S1x512x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x512x128, .bf16⟩
  | .local _ .vmem, ⟨7, _⟩ => ⟨S1x512x128, .bf16⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 8], ![false, false, false]⟩

@[reducible] def k0_t1_loop (i : grid0.Coords) : Scf.Loop 32 :=
  let c0_i32 : BitVec 32 := 0#32
  let arg2 : BitVec 32 := BitVec.ofNat 32 (i 2).val
  let v7 : BitVec 32 := Scalar.subi arg2 c0_i32
  let c1_i32 : BitVec 32 := 1#32
  let v9 : BitVec 32 := Scalar.divsi v7 c1_i32
  let v10 : BitVec 32 := Scalar.muli v9 c1_i32
  let v11 : BitVec 32 := Scalar.addi c0_i32 v10
  let c1_i32_4 : BitVec 32 := 1#32
  ⟨c0_i32, v11, c1_i32_4⟩
def k0_mult1 (i : grid0.Coords) (k0_t1 : Fin (k0_t1_loop i).trips) : BitVec 32 :=
  let c0_i32 : BitVec 32 := 0#32
  let c1_i32_4 : BitVec 32 := 1#32
  let arg7 : BitVec 32 := Scf.iv c0_i32 c1_i32_4 k0_t1
  let c512_i32_18 : BitVec 32 := 512#32
  let v49 : BitVec 32 := Scalar.muli arg7 c512_i32_18
  v49
def k0_off1 (i : grid0.Coords) (k0_t1 : Fin (k0_t1_loop i).trips) : Fin 3 → Nat :=
  let c0_19 : Index := 0#32
  let c0_i32 : BitVec 32 := 0#32
  let c1_i32_4 : BitVec 32 := 1#32
  let arg7 : BitVec 32 := Scf.iv c0_i32 c1_i32_4 k0_t1
  let c512_i32_18 : BitVec 32 := 512#32
  let v49 : BitVec 32 := Scalar.muli arg7 c512_i32_18
  let v50 : BitVec 32 := v49
  let v51 : Index := Scalar.indexCast v50
  let c0_20 : Index := 0#32
  ![0, v51.toNat, 0]
def k0_off2 (i : grid0.Coords) (k0_t1 : Fin (k0_t1_loop i).trips) : Fin 3 → Nat :=
  let c0_24 : Index := 0#32
  let c0_i32 : BitVec 32 := 0#32
  let c1_i32_4 : BitVec 32 := 1#32
  let arg7 : BitVec 32 := Scf.iv c0_i32 c1_i32_4 k0_t1
  let c512_i32_18 : BitVec 32 := 512#32
  let v49 : BitVec 32 := Scalar.muli arg7 c512_i32_18
  let v50 : BitVec 32 := v49
  let v70 : Index := Scalar.indexCast v50
  let c0_25 : Index := 0#32
  ![0, v70.toNat, 0]
@[reducible] def k0_t2_loop (i : grid0.Coords) : Scf.Loop 32 :=
  let c0_i32 : BitVec 32 := 0#32
  let arg2 : BitVec 32 := BitVec.ofNat 32 (i 2).val
  let v7 : BitVec 32 := Scalar.subi arg2 c0_i32
  let c1_i32 : BitVec 32 := 1#32
  let v9 : BitVec 32 := Scalar.divsi v7 c1_i32
  let v10 : BitVec 32 := Scalar.muli v9 c1_i32
  let v11 : BitVec 32 := Scalar.addi c0_i32 v10
  let v8 : BitVec 32 := Scalar.addi c0_i32 v7
  let c1_i32_5 : BitVec 32 := 1#32
  ⟨v11, v8, c1_i32_5⟩
def k0_mult2 (i : grid0.Coords) (k0_t2 : Fin (k0_t2_loop i).trips) : BitVec 32 :=
  let c0_i32 : BitVec 32 := 0#32
  let arg2 : BitVec 32 := BitVec.ofNat 32 (i 2).val
  let v7 : BitVec 32 := Scalar.subi arg2 c0_i32
  let c1_i32 : BitVec 32 := 1#32
  let v9 : BitVec 32 := Scalar.divsi v7 c1_i32
  let v10 : BitVec 32 := Scalar.muli v9 c1_i32
  let v11 : BitVec 32 := Scalar.addi c0_i32 v10
  let c1_i32_5 : BitVec 32 := 1#32
  let arg7 : BitVec 32 := Scf.iv v11 c1_i32_5 k0_t2
  let c512_i32_18 : BitVec 32 := 512#32
  let v49 : BitVec 32 := Scalar.muli arg7 c512_i32_18
  v49
def k0_off3 (i : grid0.Coords) (k0_t2 : Fin (k0_t2_loop i).trips) : Fin 3 → Nat :=
  let c0_19 : Index := 0#32
  let c0_i32 : BitVec 32 := 0#32
  let arg2 : BitVec 32 := BitVec.ofNat 32 (i 2).val
  let v7 : BitVec 32 := Scalar.subi arg2 c0_i32
  let c1_i32 : BitVec 32 := 1#32
  let v9 : BitVec 32 := Scalar.divsi v7 c1_i32
  let v10 : BitVec 32 := Scalar.muli v9 c1_i32
  let v11 : BitVec 32 := Scalar.addi c0_i32 v10
  let c1_i32_5 : BitVec 32 := 1#32
  let arg7 : BitVec 32 := Scf.iv v11 c1_i32_5 k0_t2
  let c512_i32_18 : BitVec 32 := 512#32
  let v49 : BitVec 32 := Scalar.muli arg7 c512_i32_18
  let v50 : BitVec 32 := v49
  let v51 : Index := Scalar.indexCast v50
  let c0_20 : Index := 0#32
  ![0, v51.toNat, 0]
def k0_off4 (i : grid0.Coords) (k0_t2 : Fin (k0_t2_loop i).trips) : Fin 3 → Nat :=
  let c0_24 : Index := 0#32
  let c0_i32 : BitVec 32 := 0#32
  let arg2 : BitVec 32 := BitVec.ofNat 32 (i 2).val
  let v7 : BitVec 32 := Scalar.subi arg2 c0_i32
  let c1_i32 : BitVec 32 := 1#32
  let v9 : BitVec 32 := Scalar.divsi v7 c1_i32
  let v10 : BitVec 32 := Scalar.muli v9 c1_i32
  let v11 : BitVec 32 := Scalar.addi c0_i32 v10
  let c1_i32_5 : BitVec 32 := 1#32
  let arg7 : BitVec 32 := Scf.iv v11 c1_i32_5 k0_t2
  let c512_i32_18 : BitVec 32 := 512#32
  let v49 : BitVec 32 := Scalar.muli arg7 c512_i32_18
  let v50 : BitVec 32 := v49
  let v70 : Index := Scalar.indexCast v50
  let c0_25 : Index := 0#32
  ![0, v70.toNat, 0]
def k0_mult3 (i : grid0.Coords) : BitVec 32 :=
  let arg2 : BitVec 32 := BitVec.ofNat 32 (i 2).val
  let c512_i32 : BitVec 32 := 512#32
  let v14 : BitVec 32 := Scalar.muli arg2 c512_i32
  v14
def k0_off5 (i : grid0.Coords) : Fin 3 → Nat :=
  let c0_6 : Index := 0#32
  let arg2 : BitVec 32 := BitVec.ofNat 32 (i 2).val
  let c512_i32 : BitVec 32 := 512#32
  let v14 : BitVec 32 := Scalar.muli arg2 c512_i32
  let v15 : BitVec 32 := v14
  let v16 : Index := Scalar.indexCast v15
  let c0_7 : Index := 0#32
  ![0, v16.toNat, 0]
def k0_off6 (i : grid0.Coords) : Fin 3 → Nat :=
  let c0_12 : Index := 0#32
  let arg2 : BitVec 32 := BitVec.ofNat 32 (i 2).val
  let c512_i32 : BitVec 32 := 512#32
  let v14 : BitVec 32 := Scalar.muli arg2 c512_i32
  let v15 : BitVec 32 := v14
  let v38 : Index := Scalar.indexCast v15
  let c0_13 : Index := 0#32
  ![0, v38.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8x4096x2048 : Shape := ⟨3, ![8, 4096, 2048]⟩
abbrev S8x4096x1024 : Shape := ⟨3, ![8, 4096, 1024]⟩
abbrev S8x4096x8x256 : Shape := ⟨4, ![8, 4096, 8, 256]⟩
abbrev S8x4096x8x128 : Shape := ⟨4, ![8, 4096, 8, 128]⟩
abbrev S4096 : Shape := ⟨1, ![4096]⟩
abbrev S8x8x4096x4096 : Shape := ⟨4, ![8, 8, 4096, 4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S8x8x4096 : Shape := ⟨3, ![8, 8, 4096]⟩
abbrev S8x8x4096x1 : Shape := ⟨4, ![8, 8, 4096, 1]⟩
abbrev S8x8x128x4096 : Shape := ⟨4, ![8, 8, 128, 4096]⟩

abbrev nBuf : Space → Nat
  | .hbm => 39
  | .vmem => 0
  | .smem => 0
  | _ => 0

abbrev bufTy : (tb : Table) → Fin (tcTables nBuf tb) → BufTy
  | .hbm, ⟨0, _⟩ => ⟨S8x4096x2048, .bf16⟩
  | .hbm, ⟨1, _⟩ => ⟨S8x4096x2048, .bf16⟩
  | .hbm, ⟨2, _⟩ => ⟨S8x4096x1024, .bf16⟩
  | .hbm, ⟨3, _⟩ => ⟨S8x4096x8x256, .bf16⟩
  | .hbm, ⟨4, _⟩ => ⟨S8x4096x8x256, .f32⟩
  | .hbm, ⟨5, _⟩ => ⟨S8x4096x8x256, .bf16⟩
  | .hbm, ⟨6, _⟩ => ⟨S8x4096x8x256, .f32⟩
  | .hbm, ⟨7, _⟩ => ⟨S8x4096x8x128, .bf16⟩
  | .hbm, ⟨8, _⟩ => ⟨S8x4096x8x128, .f32⟩
  | .hbm, ⟨9, _⟩ => ⟨S4096, .i32⟩
  | .hbm, ⟨10, _⟩ => ⟨S8x8x4096x4096, .f32⟩
  | .hbm, ⟨11, _⟩ => ⟨S1x4096, .i32⟩
  | .hbm, ⟨12, _⟩ => ⟨S4096x1, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S_, .f32⟩
  | .hbm, ⟨17, _⟩ => ⟨S_, .f32⟩
  | .hbm, ⟨18, _⟩ => ⟨S8x8x4096x4096, .i1⟩
  | .hbm, ⟨19, _⟩ => ⟨S8x8x4096x4096, .f32⟩
  | .hbm, ⟨20, _⟩ => ⟨S8x8x4096x4096, .f32⟩
  | .hbm, ⟨21, _⟩ => ⟨S_, .f32⟩
  | .hbm, ⟨22, _⟩ => ⟨S8x8x4096, .f32⟩
  | .hbm, ⟨23, _⟩ => ⟨S_, .f32⟩
  | .hbm, ⟨24, _⟩ => ⟨S8x8x4096, .f32⟩
  | .hbm, ⟨25, _⟩ => ⟨S8x8x4096, .f32⟩
  | .hbm, ⟨26, _⟩ => ⟨S8x8x4096x1, .f32⟩
  | .hbm, ⟨27, _⟩ => ⟨S8x8x4096x4096, .f32⟩
  | .hbm, ⟨28, _⟩ => ⟨S8x8x4096x4096, .f32⟩
  | .hbm, ⟨29, _⟩ => ⟨S8x8x4096x4096, .f32⟩
  | .hbm, ⟨30, _⟩ => ⟨S_, .f32⟩
  | .hbm, ⟨31, _⟩ => ⟨S8x8x4096, .f32⟩
  | .hbm, ⟨32, _⟩ => ⟨S8x8x4096x1, .f32⟩
  | .hbm, ⟨33, _⟩ => ⟨S8x8x4096x4096, .f32⟩
  | .hbm, ⟨34, _⟩ => ⟨S8x8x4096x4096, .f32⟩
  | .hbm, ⟨35, _⟩ => ⟨S8x8x128x4096, .f32⟩
  | .hbm, ⟨36, _⟩ => ⟨S8x4096x8x128, .f32⟩
  | .hbm, ⟨37, _⟩ => ⟨S8x4096x1024, .f32⟩
  | .hbm, ⟨38, _⟩ => ⟨S8x4096x1024, .bf16⟩
  | _, _ => ⟨S8x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Ffn.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S1024x2816 : Shape := ⟨2, ![1024, 2816]⟩
abbrev S1024x11x256 : Shape := ⟨3, ![1024, 11, 256]⟩
abbrev S1024x11x512 : Shape := ⟨3, ![1024, 11, 512]⟩
abbrev S11x1024x512 : Shape := ⟨3, ![11, 1024, 512]⟩
abbrev S11x256x1024 : Shape := ⟨3, ![11, 256, 1024]⟩
abbrev S1x1024 : Shape := ⟨2, ![1, 1024]⟩
abbrev S1024x1024 : Shape := ⟨2, ![1024, 1024]⟩
abbrev S1024x1 : Shape := ⟨2, ![1024, 1]⟩
abbrev S1x1024x512 : Shape := ⟨3, ![1, 1024, 512]⟩
abbrev S1024x512 : Shape := ⟨2, ![1024, 512]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 15
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024x2816, .f32⟩
  | .hbm, ⟨5, _⟩ => ⟨S1024x11x256, .f32⟩
  | .hbm, ⟨6, _⟩ => ⟨S1024x2816, .f32⟩
  | .hbm, ⟨7, _⟩ => ⟨S1024x11x256, .f32⟩
  | .hbm, ⟨8, _⟩ => ⟨S1024x11x512, .f32⟩
  | .hbm, ⟨9, _⟩ => ⟨S11x1024x512, .f32⟩
  | .hbm, ⟨10, _⟩ => ⟨S11x1024x512, .bf16⟩
  | .hbm, ⟨11, _⟩ => ⟨S11x256x1024, .f32⟩
  | .hbm, ⟨12, _⟩ => ⟨S11x256x1024, .bf16⟩
  | .hbm, ⟨13, _⟩ => ⟨S1x1024, .f32⟩
  | .hbm, ⟨14, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S11x1024x512, .bf16⟩
  | .local _ .vmem, ⟨4, _⟩ => ⟨S11x256x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c11_i32 : BitVec 32 := 11#32
  let v23 : BitVec 32 := Scalar.addi c0_i32 c11_i32
  let c1_i32 : BitVec 32 := 1#32
  ⟨c0_i32, v23, c1_i32⟩
def k0_off1 (k0_t1 : Fin k0_t1_loop.trips) : Fin 3 → Nat :=
  let c0_i32 : BitVec 32 := 0#32
  let c1_i32 : BitVec 32 := 1#32
  let arg8 : BitVec 32 := Scf.iv c0_i32 c1_i32 k0_t1
  let v31 : Index := Scalar.indexCast arg8
  let c0_20 : Index := 0#32
  let c0_21 : Index := 0#32
  ![v31.toNat, 0, 0]
def k0_off2 (k0_t1 : Fin k0_t1_loop.trips) : Fin 3 → Nat :=
  let c0_i32 : BitVec 32 := 0#32
  let c1_i32 : BitVec 32 := 1#32
  let arg8 : BitVec 32 := Scf.iv c0_i32 c1_i32 k0_t1
  let v46 : Index := Scalar.indexCast arg8
  let c0_27 : Index := 0#32
  let c0_28 : Index := 0#32
  ![v46.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S11x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S11x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnRefIdeal.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S32768x2816 : Shape := ⟨2, ![32768, 2816]⟩

abbrev nBuf : Space → Nat
  | .hbm => 38
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x5632, .f32⟩
  | .hbm, ⟨21, _⟩ => ⟨S32768x2816, .f32⟩
  | .hbm, ⟨22, _⟩ => ⟨S32768x2816, .f32⟩
  | .hbm, ⟨23, _⟩ => ⟨S32768x2816, .f32⟩
  | .hbm, ⟨24, _⟩ => ⟨S32768x2816, .f32⟩
  | .hbm, ⟨25, _⟩ => ⟨S_, .f32⟩
  | .hbm, ⟨26, _⟩ => ⟨S32768x2816, .f32⟩
  | .hbm, ⟨27, _⟩ => ⟨S32768x2816, .f32⟩
  | .hbm, ⟨28, _⟩ => ⟨S_, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x1024, .f32⟩
  | .hbm, ⟨34, _⟩ => ⟨S_, .f32⟩
  | .hbm, ⟨35, _⟩ => ⟨S32768x1024, .f32⟩
  | .hbm, ⟨36, _⟩ => ⟨S32768x1024, .f32⟩
  | .hbm, ⟨37, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== FfnLast.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S1024x2816 : Shape := ⟨2, ![1024, 2816]⟩
abbrev S1024x11x256 : Shape := ⟨3, ![1024, 11, 256]⟩
abbrev S1024x11x512 : Shape := ⟨3, ![1024, 11, 512]⟩
abbrev S11x1024x512 : Shape := ⟨3, ![11, 1024, 512]⟩
abbrev S11x256x1024 : Shape := ⟨3, ![11, 256, 1024]⟩
abbrev S1x1024 : Shape := ⟨2, ![1, 1024]⟩
abbrev S1024x1024 : Shape := ⟨2, ![1024, 1024]⟩
abbrev S1024x1 : Shape := ⟨2, ![1024, 1]⟩
abbrev S1x1024x512 : Shape := ⟨3, ![1, 1024, 512]⟩
abbrev S1024x512 : Shape := ⟨2, ![1024, 512]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 17
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024x2816, .f32⟩
  | .hbm, ⟨6, _⟩ => ⟨S1024x11x256, .f32⟩
  | .hbm, ⟨7, _⟩ => ⟨S1024x2816, .f32⟩
  | .hbm, ⟨8, _⟩ => ⟨S1024x11x256, .f32⟩
  | .hbm, ⟨9, _⟩ => ⟨S1024x11x512, .f32⟩
  | .hbm, ⟨10, _⟩ => ⟨S11x1024x512, .f32⟩
  | .hbm, ⟨11, _⟩ => ⟨S11x1024x512, .bf16⟩
  | .hbm, ⟨12, _⟩ => ⟨S11x256x1024, .f32⟩
  | .hbm, ⟨13, _⟩ => ⟨S11x256x1024, .bf16⟩
  | .hbm, ⟨14, _⟩ => ⟨S1x1024, .f32⟩
  | .hbm, ⟨15, _⟩ => ⟨S1x1024, .f32⟩
  | .hbm, ⟨16, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S11x1024x512, .bf16⟩
  | .local _ .vmem, ⟨4, _⟩ => ⟨S11x256x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c11_i32 : BitVec 32 := 11#32
  let v23 : BitVec 32 := Scalar.addi c0_i32 c11_i32
  let c1_i32 : BitVec 32 := 1#32
  ⟨c0_i32, v23, c1_i32⟩
def k0_off1 (k0_t1 : Fin k0_t1_loop.trips) : Fin 3 → Nat :=
  let c0_i32 : BitVec 32 := 0#32
  let c1_i32 : BitVec 32 := 1#32
  let arg9 : BitVec 32 := Scf.iv c0_i32 c1_i32 k0_t1
  let v45 : Index := Scalar.indexCast arg9
  let c0_25 : Index := 0#32
  let c0_26 : Index := 0#32
  ![v45.toNat, 0, 0]
def k0_off2 (k0_t1 : Fin k0_t1_loop.trips) : Fin 3 → Nat :=
  let c0_i32 : BitVec 32 := 0#32
  let c1_i32 : BitVec 32 := 1#32
  let arg9 : BitVec 32 := Scf.iv c0_i32 c1_i32 k0_t1
  let v60 : Index := Scalar.indexCast arg9
  let c0_32 : Index := 0#32
  let c0_33 : Index := 0#32
  ![v60.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S11x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S11x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnLastRefIdeal.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S32768x2816 : Shape := ⟨2, ![32768, 2816]⟩

abbrev nBuf : Space → Nat
  | .hbm => 55
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x5632, .f32⟩
  | .hbm, ⟨22, _⟩ => ⟨S32768x2816, .f32⟩
  | .hbm, ⟨23, _⟩ => ⟨S32768x2816, .f32⟩
  | .hbm, ⟨24, _⟩ => ⟨S32768x2816, .f32⟩
  | .hbm, ⟨25, _⟩ => ⟨S32768x2816, .f32⟩
  | .hbm, ⟨26, _⟩ => ⟨S_, .f32⟩
  | .hbm, ⟨27, _⟩ => ⟨S32768x2816, .f32⟩
  | .hbm, ⟨28, _⟩ => ⟨S32768x2816, .f32⟩
  | .hbm, ⟨29, _⟩ => ⟨S_, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S32768x1024, .f32⟩
  | .hbm, ⟨35, _⟩ => ⟨S_, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S_, .f32⟩
  | .hbm, ⟨41, _⟩ => ⟨S32768, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S32768x1, .f32⟩
  | .hbm, ⟨50, _⟩ => ⟨S32768x1024, .f32⟩
  | .hbm, ⟨51, _⟩ => ⟨S32768x1024, .f32⟩
  | .hbm, ⟨52, _⟩ => ⟨S1x1024, .f32⟩
  | .hbm, ⟨53, _⟩ => ⟨S32768x1024, .f32⟩
  | .hbm, ⟨54, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== OutProj.lean ====
abbrev S32768x1024 : Shape := ⟨2, ![32768, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .f32⟩
  | .hbm, ⟨2, _⟩ => ⟨S32768x1024, .f32⟩
  | .hbm, ⟨3, _⟩ => ⟨S1024x1024, .bf16⟩
  | .hbm, ⟨4, _⟩ => ⟨S32768x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutProjIdeal.lean ====
abbrev S32768x1024 : Shape := ⟨2, ![32768, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .f32⟩
  | .hbm, ⟨2, _⟩ => ⟨S32768x1024, .f32⟩
  | .hbm, ⟨3, _⟩ => ⟨S1024x1024, .bf16⟩
  | .hbm, ⟨4, _⟩ => ⟨S32768x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutProjRefIdeal.lean ====
abbrev S32768x1024 : Shape := ⟨2, ![32768, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .f32⟩
  | .hbm, ⟨2, _⟩ => ⟨S32768x1024, .f32⟩
  | .hbm, ⟨3, _⟩ => ⟨S32768x1024, .f32⟩
  | .hbm, ⟨4, _⟩ => ⟨S32768x1024, .f32⟩
  | .hbm, ⟨5, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutProjWide.lean ====
abbrev S32768x2048 : Shape := ⟨2, ![32768, 2048]⟩
abbrev S2048x1024 : Shape := ⟨2, ![2048, 1024]⟩
abbrev S32768x1024 : Shape := ⟨2, ![32768, 1024]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S32768x2048, .bf16⟩
  | .hbm, ⟨1, _⟩ => ⟨S2048x1024, .f32⟩
  | .hbm, ⟨2, _⟩ => ⟨S32768x1024, .f32⟩
  | .hbm, ⟨3, _⟩ => ⟨S2048x1024, .bf16⟩
  | .hbm, ⟨4, _⟩ => ⟨S32768x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutProjWideRefIdeal.lean ====
abbrev S32768x2048 : Shape := ⟨2, ![32768, 2048]⟩
abbrev S2048x1024 : Shape := ⟨2, ![2048, 1024]⟩
abbrev S32768x1024 : Shape := ⟨2, ![32768, 1024]⟩

abbrev nBuf : Space → Nat
  | .hbm => 6
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x1024, .f32⟩
  | .hbm, ⟨2, _⟩ => ⟨S32768x1024, .f32⟩
  | .hbm, ⟨3, _⟩ => ⟨S32768x2048, .f32⟩
  | .hbm, ⟨4, _⟩ => ⟨S32768x1024, .f32⟩
  | .hbm, ⟨5, _⟩ => ⟨S32768x1024, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== GlaProj.lean ====
abbrev S32768x1024 : Shape := ⟨2, ![32768, 1024]⟩
abbrev S1024 : Shape := ⟨1, ![1024]⟩
abbrev S1024x3088 : Shape := ⟨2, ![1024, 3088]⟩
abbrev S1024x512 : Shape := ⟨2, ![1024, 512]⟩
abbrev S1024x1024 : Shape := ⟨2, ![1024, 1024]⟩
abbrev S1024x16 : Shape := ⟨2, ![1024, 16]⟩
abbrev S_ : Shape := ⟨0, ![]⟩
abbrev S1024x128 : Shape := ⟨2, ![1024, 128]⟩
abbrev S1x1024 : Shape := ⟨2, ![1, 1024]⟩
abbrev S32768x512 : Shape := ⟨2, ![32768, 512]⟩
abbrev S32768x128 : Shape := ⟨2, ![32768, 128]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 18
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3088, .f32⟩
  | .hbm, ⟨3, _⟩ => ⟨S1024x3088, .bf16⟩
  | .hbm, ⟨4, _⟩ => ⟨S1024x512, .bf16⟩
  | .hbm, ⟨5, _⟩ => ⟨S1024x512, .bf16⟩
  | .hbm, ⟨6, _⟩ => ⟨S1024x1024, .bf16⟩
  | .hbm, ⟨7, _⟩ => ⟨S1024x1024, .bf16⟩
  | .hbm, ⟨8, _⟩ => ⟨S1024x16, .bf16⟩
  | .hbm, ⟨9, _⟩ => ⟨S_, .i32⟩
  | .hbm, ⟨10, _⟩ => ⟨S_, .bf16⟩
  | .hbm, ⟨11, _⟩ => ⟨S1024x128, .bf16⟩
  | .hbm, ⟨12, _⟩ => ⟨S1x1024, .f32⟩
  | .hbm, ⟨13, _⟩ => ⟨S32768x512, .f32⟩
  | .hbm, ⟨14, _⟩ => ⟨S32768x512, .f32⟩
  | .hbm, ⟨15, _⟩ => ⟨S32768x1024, .f32⟩
  | .hbm, ⟨16, _⟩ => ⟨S32768x1024, .f32⟩
  | .hbm, ⟨17, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x1024, .bf16⟩
  | .local _ .vmem, ⟨6, _⟩ => ⟨S1024x1024, .bf16⟩
  | .local _ .vmem, ⟨7, _⟩ => ⟨S1024x128, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x128, .f32⟩
  | .local _ .vmem, ⟨17, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev main_v8_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== GlaProjRefIdeal.lean ====
abbrev S32768x1024 : Shape := ⟨2, ![32768, 1024]⟩
abbrev S1024 : Shape := ⟨1, ![1024]⟩
abbrev S1024x3088 : Shape := ⟨2, ![1024, 3088]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3088 : Shape := ⟨2, ![32768, 3088]⟩
abbrev S32768x512 : Shape := ⟨2, ![32768, 512]⟩
abbrev S32768x16 : Shape := ⟨2, ![32768, 16]⟩
abbrev S32768x128 : Shape := ⟨2, ![32768, 128]⟩

abbrev nBuf : Space → Nat
  | .hbm => 28
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3088, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x3088, .f32⟩
  | .hbm, ⟨20, _⟩ => ⟨S32768x512, .f32⟩
  | .hbm, ⟨21, _⟩ => ⟨S32768x512, .f32⟩
  | .hbm, ⟨22, _⟩ => ⟨S32768x1024, .f32⟩
  | .hbm, ⟨23, _⟩ => ⟨S32768x1024, .f32⟩
  | .hbm, ⟨24, _⟩ => ⟨S32768x16, .f32⟩
  | .hbm, ⟨25, _⟩ => ⟨S_, .i32⟩
  | .hbm, ⟨26, _⟩ => ⟨S_, .f32⟩
  | .hbm, ⟨27, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== SsdProj.lean ====
abbrev S32768x1024 : Shape := ⟨2, ![32768, 1024]⟩
abbrev S1024 : Shape := ⟨1, ![1024]⟩
abbrev S1024x5152 : Shape := ⟨2, ![1024, 5152]⟩
abbrev S1024x2048 : Shape := ⟨2, ![1024, 2048]⟩
abbrev S1024x3072 : Shape := ⟨2, ![1024, 3072]⟩
abbrev S1024x32 : Shape := ⟨2, ![1024, 32]⟩
abbrev S_ : Shape := ⟨0, ![]⟩
abbrev S1024x128 : Shape := ⟨2, ![1024, 128]⟩
abbrev S1x1024 : Shape := ⟨2, ![1, 1024]⟩
abbrev S32768x2048 : Shape := ⟨2, ![32768, 2048]⟩
abbrev S32768x3072 : Shape := ⟨2, ![32768, 3072]⟩
abbrev S32768x128 : Shape := ⟨2, ![32768, 128]⟩
abbrev S512x1024 : Shape := ⟨2, ![512, 1024]⟩
abbrev S512x2048 : Shape := ⟨2, ![512, 2048]⟩
abbrev S512x3072 : Shape := ⟨2, ![512, 3072]⟩
abbrev S512x128 : Shape := ⟨2, ![512, 128]⟩
abbrev S512 : Shape := ⟨1, ![512]⟩
abbrev S512x1 : Shape := ⟨2, ![512, 1]⟩

abbrev nBuf : Space → Nat
  | .hbm => 14
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5152, .f32⟩
  | .hbm, ⟨3, _⟩ => ⟨S1024x5152, .bf16⟩
  | .hbm, ⟨4, _⟩ => ⟨S1024x2048, .bf16⟩
  | .hbm, ⟨5, _⟩ => ⟨S1024x3072, .bf16⟩
  | .hbm, ⟨6, _⟩ => ⟨S1024x32, .bf16⟩
  | .hbm, ⟨7, _⟩ => ⟨S_, .i32⟩
  | .hbm, ⟨8, _⟩ => ⟨S_, .bf16⟩
  | .hbm, ⟨9, _⟩ => ⟨S1024x128, .bf16⟩
  | .hbm, ⟨10, _⟩ => ⟨S1x1024, .f32⟩
  | .hbm, ⟨11, _⟩ => ⟨S32768x2048, .f32⟩
  | .hbm, ⟨12, _⟩ => ⟨S32768x3072, .f32⟩
  | .hbm, ⟨13, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1024x3072, .bf16⟩
  | .local _ .vmem, ⟨5, _⟩ => ⟨S1024x128, .bf16⟩
  | .local _ .vmem, ⟨6, _⟩ => ⟨S512x2048, .f32⟩
  | .local _ .vmem, ⟨7, _⟩ => ⟨S512x2048, .f32⟩
  | .local _ .vmem, ⟨8, _⟩ => ⟨S512x3072, .f32⟩
  | .local _ .vmem, ⟨9, _⟩ => ⟨S512x3072, .f32⟩
  | .local _ .vmem, ⟨10, _⟩ => ⟨S512x128, .f32⟩
  | .local _ .vmem, ⟨11, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SsdProjRefIdeal.lean ====
abbrev S32768x1024 : Shape := ⟨2, ![32768, 1024]⟩
abbrev S1024 : Shape := ⟨1, ![1024]⟩
abbrev S1024x5152 : Shape := ⟨2, ![1024, 5152]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5152 : Shape := ⟨2, ![32768, 5152]⟩
abbrev S32768x2048 : Shape := ⟨2, ![32768, 2048]⟩
abbrev S32768x3072 : Shape := ⟨2, ![32768, 3072]⟩
abbrev S32768x32 : Shape := ⟨2, ![32768, 32]⟩
abbrev S32768x128 : Shape := ⟨2, ![32768, 128]⟩

abbrev nBuf : Space → Nat
  | .hbm => 26
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5152, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x5152, .f32⟩
  | .hbm, ⟨20, _⟩ => ⟨S32768x2048, .f32⟩
  | .hbm, ⟨21, _⟩ => ⟨S32768x3072, .f32⟩
  | .hbm, ⟨22, _⟩ => ⟨S32768x32, .f32⟩
  | .hbm, ⟨23, _⟩ => ⟨S_, .i32⟩
  | .hbm, ⟨24, _⟩ => ⟨S_, .f32⟩
  | .hbm, ⟨25, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== MlaProj.lean ====
abbrev S32768x1024 : Shape := ⟨2, ![32768, 1024]⟩
abbrev S1024 : Shape := ⟨1, ![1024]⟩
abbrev S1024x704 : Shape := ⟨2, ![1024, 704]⟩
abbrev S1024x64 : Shape := ⟨2, ![1024, 64]⟩
abbrev S1024x384 : Shape := ⟨2, ![1024, 384]⟩
abbrev S1024x256 : Shape := ⟨2, ![1024, 256]⟩
abbrev S1024x32 : Shape := ⟨2, ![1024, 32]⟩
abbrev S1024x128 : Shape := ⟨2, ![1024, 128]⟩
abbrev S1x1024 : Shape := ⟨2, ![1, 1024]⟩
abbrev S32768x384 : Shape := ⟨2, ![32768, 384]⟩
abbrev S32768x256 : Shape := ⟨2, ![32768, 256]⟩
abbrev S32768x128 : Shape := ⟨2, ![32768, 128]⟩
abbrev S512x1024 : Shape := ⟨2, ![512, 1024]⟩
abbrev S512x384 : Shape := ⟨2, ![512, 384]⟩
abbrev S512x256 : Shape := ⟨2, ![512, 256]⟩
abbrev S512x128 : Shape := ⟨2, ![512, 128]⟩
abbrev S512 : Shape := ⟨1, ![512]⟩
abbrev S512x1 : Shape := ⟨2, ![512, 1]⟩

abbrev nBuf : Space → Nat
  | .hbm => 17
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x704, .f32⟩
  | .hbm, ⟨3, _⟩ => ⟨S1024x64, .f32⟩
  | .hbm, ⟨4, _⟩ => ⟨S1024x384, .f32⟩
  | .hbm, ⟨5, _⟩ => ⟨S1024x384, .bf16⟩
  | .hbm, ⟨6, _⟩ => ⟨S1024x256, .f32⟩
  | .hbm, ⟨7, _⟩ => ⟨S1024x256, .bf16⟩
  | .hbm, ⟨8, _⟩ => ⟨S1024x32, .f32⟩
  | .hbm, ⟨9, _⟩ => ⟨S1024x32, .f32⟩
  | .hbm, ⟨10, _⟩ => ⟨S1024x64, .f32⟩
  | .hbm, ⟨11, _⟩ => ⟨S1024x128, .f32⟩
  | .hbm, ⟨12, _⟩ => ⟨S1024x128, .bf16⟩
  | .hbm, ⟨13, _⟩ => ⟨S1x1024, .f32⟩
  | .hbm, ⟨14, _⟩ => ⟨S32768x384, .f32⟩
  | .hbm, ⟨15, _⟩ => ⟨S32768x256, .f32⟩
  | .hbm, ⟨16, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x384, .bf16⟩
  | .local _ .vmem, ⟨4, _⟩ => ⟨S1024x256, .bf16⟩
  | .local _ .vmem, ⟨5, _⟩ => ⟨S1024x128, .bf16⟩
  | .local _ .vmem, ⟨6, _⟩ => ⟨S512x384, .f32⟩
  | .local _ .vmem, ⟨7, _⟩ => ⟨S512x384, .f32⟩
  | .local _ .vmem, ⟨8, _⟩ => ⟨S512x256, .f32⟩
  | .local _ .vmem, ⟨9, _⟩ => ⟨S512x256, .f32⟩
  | .local _ .vmem, ⟨10, _⟩ => ⟨S512x128, .f32⟩
  | .local _ .vmem, ⟨11, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11_0 : Ref sig .tc := ⟨.hbm, 14, rfl⟩
abbrev main_v11_1 : Ref sig .tc := ⟨.hbm, 15, rfl⟩
abbrev main_v11_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MlaProjRefIdeal.lean ====
abbrev S32768x1024 : Shape := ⟨2, ![32768, 1024]⟩
abbrev S1024 : Shape := ⟨1, ![1024]⟩
abbrev S1024x704 : Shape := ⟨2, ![1024, 704]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x704 : Shape := ⟨2, ![32768, 704]⟩
abbrev S32768x384 : Shape := ⟨2, ![32768, 384]⟩
abbrev S32768x256 : Shape := ⟨2, ![32768, 256]⟩
abbrev S32768x64 : Shape := ⟨2, ![32768, 64]⟩
abbrev S32768x32 : Shape := ⟨2, ![32768, 32]⟩
abbrev S32768x128 : Shape := ⟨2, ![32768, 128]⟩

abbrev nBuf : Space → Nat
  | .hbm => 26
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x704, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x704, .f32⟩
  | .hbm, ⟨20, _⟩ => ⟨S32768x384, .f32⟩
  | .hbm, ⟨21, _⟩ => ⟨S32768x256, .f32⟩
  | .hbm, ⟨22, _⟩ => ⟨S32768x64, .f32⟩
  | .hbm, ⟨23, _⟩ => ⟨S32768x32, .f32⟩
  | .hbm, ⟨24, _⟩ => ⟨S32768x32, .f32⟩
  | .hbm, ⟨25, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== MlaQkv.lean ====
abbrev S32768x384 : Shape := ⟨2, ![32768, 384]⟩
abbrev S32768x256 : Shape := ⟨2, ![32768, 256]⟩
abbrev S32768x128 : Shape := ⟨2, ![32768, 128]⟩
abbrev S8x4096 : Shape := ⟨2, ![8, 4096]⟩
abbrev S384 : Shape := ⟨1, ![384]⟩
abbrev S384x1536 : Shape := ⟨2, ![384, 1536]⟩
abbrev S256 : Shape := ⟨1, ![256]⟩
abbrev S256x2048 : Shape := ⟨2, ![256, 2048]⟩
abbrev S384x8x192 : Shape := ⟨3, ![384, 8, 192]⟩
abbrev S384x8x64 : Shape := ⟨3, ![384, 8, 64]⟩
abbrev S384x8x128 : Shape := ⟨3, ![384, 8, 128]⟩
abbrev S384x8x32 : Shape := ⟨3, ![384, 8, 32]⟩
abbrev S384x8x256 : Shape := ⟨3, ![384, 8, 256]⟩
abbrev S384x2048 : Shape := ⟨2, ![384, 2048]⟩
abbrev S256x8x256 : Shape := ⟨3, ![256, 8, 256]⟩
abbrev S256x8x128 : Shape := ⟨3, ![256, 8, 128]⟩
abbrev S256x1024 : Shape := ⟨2, ![256, 1024]⟩
abbrev S32 : Shape := ⟨1, ![32]⟩
abbrev S_ : Shape := ⟨0, ![]⟩
abbrev S64 : Shape := ⟨1, ![64]⟩
abbrev S128 : Shape := ⟨1, ![128]⟩
abbrev S1x128 : Shape := ⟨2, ![1, 128]⟩
abbrev S32768x1 : Shape := ⟨2, ![32768, 1]⟩
abbrev S1x384 : Shape := ⟨2, ![1, 384]⟩
abbrev S1x256 : Shape := ⟨2, ![1, 256]⟩
abbrev S32768x2048 : Shape := ⟨2, ![32768, 2048]⟩
abbrev S32768x1024 : Shape := ⟨2, ![32768, 1024]⟩
abbrev S512x384 : Shape := ⟨2, ![512, 384]⟩
abbrev S512x256 : Shape := ⟨2, ![512, 256]⟩
abbrev S512x128 : Shape := ⟨2, ![512, 128]⟩
abbrev S512x1 : Shape := ⟨2, ![512, 1]⟩
abbrev S512x2048 : Shape := ⟨2, ![512, 2048]⟩
abbrev S512x1024 : Shape := ⟨2, ![512, 1024]⟩
abbrev S512 : Shape := ⟨1, ![512]⟩

abbrev nBuf : Space → Nat
  | .hbm => 51
  | .vmem => 20
  | .smem => 0
  | _ => 0

abbrev bufTy : (tb : Table) → Fin (tcTables nBuf tb) → BufTy
  | .hbm, ⟨0, _⟩ => ⟨S32768x384, .f32⟩
  | .hbm, ⟨1, _⟩ => ⟨S32768x256, .f32⟩
  | .hbm, ⟨2, _⟩ => ⟨S32768x128, .f32⟩
  | .hbm, ⟨3, _⟩ => ⟨S8x4096, .i32⟩
  | .hbm, ⟨4, _⟩ => ⟨S384, .f32⟩
  | .hbm, ⟨5, _⟩ => ⟨S384x1536, .f32⟩
  | .hbm, ⟨6, _⟩ => ⟨S256, .f32⟩
  | .hbm, ⟨7, _⟩ => ⟨S256x2048, .f32⟩
  | .hbm, ⟨8, _⟩ => ⟨S384x8x192, .f32⟩
  | .hbm, ⟨9, _⟩ => ⟨S384x8x64, .f32⟩
  | .hbm, ⟨10, _⟩ => ⟨S384x8x128, .f32⟩
  | .hbm, ⟨11, _⟩ => ⟨S384x8x32, .f32⟩
  | .hbm, ⟨12, _⟩ => ⟨S384x8x32, .f32⟩
  | .hbm, ⟨13, _⟩ => ⟨S384x8x64, .f32⟩
  | .hbm, ⟨14, _⟩ => ⟨S384x8x256, .f32⟩
  | .hbm, ⟨15, _⟩ => ⟨S384x2048, .f32⟩
  | .hbm, ⟨16, _⟩ => ⟨S384x2048, .bf16⟩
  | .hbm, ⟨17, _⟩ => ⟨S256x8x256, .f32⟩
  | .hbm, ⟨18, _⟩ => ⟨S256x8x128, .f32⟩
  | .hbm, ⟨19, _⟩ => ⟨S256x1024, .f32⟩
  | .hbm, ⟨20, _⟩ => ⟨S256x1024, .bf16⟩
  | .hbm, ⟨21, _⟩ => ⟨S256x8x128, .f32⟩
  | .hbm, ⟨22, _⟩ => ⟨S256x1024, .f32⟩
  | .hbm, ⟨23, _⟩ => ⟨S256x1024, .bf16⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S64, .f32⟩
  | .hbm, ⟨42, _⟩ => ⟨S128, .f32⟩
  | .hbm, ⟨43, _⟩ => ⟨S1x128, .f32⟩
  | .hbm, ⟨44, _⟩ => ⟨S8x4096, .f32⟩
  | .hbm, ⟨45, _⟩ => ⟨S32768x1, .f32⟩
  | .hbm, ⟨46, _⟩ => ⟨S1x384, .f32⟩
  | .hbm, ⟨47, _⟩ => ⟨S1x256, .f32⟩
  | .hbm, ⟨48, _⟩ => ⟨S32768x2048, .bf16⟩
  | .hbm, ⟨49, _⟩ => ⟨S32768x2048, .bf16⟩
  | .hbm, ⟨50, _⟩ => ⟨S32768x1024, .bf16⟩
  | .local _ .vmem, ⟨0, _⟩ => ⟨S512x384, .f32⟩
  | .local _ .vmem, ⟨1, _⟩ => ⟨S512x384, .f32⟩
  | .local _ .vmem, ⟨2, _⟩ => ⟨S512x256, .f32⟩
  | .local _ .vmem, ⟨3, _⟩ => ⟨S512x256, .f32⟩
  | .local _ .vmem, ⟨4, _⟩ => ⟨S512x128, .f32⟩
  | .local _ .vmem, ⟨5, _⟩ => ⟨S512x128, .f32⟩
  | .local _ .vmem, ⟨6, _⟩ => ⟨S512x1, .f32⟩
  | .local _ .vmem, ⟨7, _⟩ => ⟨S512x1, .f32⟩
  | .local _ .vmem, ⟨8, _⟩ => ⟨S1x384, .f32⟩
  | .local _ .vmem, ⟨9, _⟩ => ⟨S1x256, .f32⟩
  | .local _ .vmem, ⟨10, _⟩ => ⟨S384x2048, .bf16⟩
  | .local _ .vmem, ⟨11, _⟩ => ⟨S256x1024, .bf16⟩
  | .local _ .vmem, ⟨12, _⟩ => ⟨S256x1024, .bf16⟩
  | .local _ .vmem, ⟨13, _⟩ => ⟨S1x128, .f32⟩
  | .local _ .vmem, ⟨14, _⟩ => ⟨S512x2048, .bf16⟩
  | .local _ .vmem, ⟨15, _⟩ => ⟨S512x2048, .bf16⟩
  | .local _ .vmem, ⟨16, _⟩ => ⟨S512x2048, .bf16⟩
  | .local _ .vmem, ⟨17, _⟩ => ⟨S512x2048, .bf16⟩
  | .local _ .vmem, ⟨18, _⟩ => ⟨S512x1024, .bf16⟩
  | .local _ .vmem, ⟨19, _⟩ => ⟨S512x1024, .bf16⟩
  | _, _ => ⟨S32768x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34_0 : Ref sig .tc := ⟨.hbm, 48, rfl⟩
abbrev main_v34_1 : Ref sig .tc := ⟨.hbm, 49, rfl⟩
abbrev main_v34_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MlaQkvRefIdeal.lean ====
abbrev S32768x384 : Shape := ⟨2, ![32768, 384]⟩
abbrev S32768x256 : Shape := ⟨2, ![32768, 256]⟩
abbrev S32768x128 : Shape := ⟨2, ![32768, 128]⟩
abbrev S8x4096 : Shape := ⟨2, ![8, 4096]⟩
abbrev S384 : Shape := ⟨1, ![384]⟩
abbrev S384x1536 : Shape := ⟨2, ![384, 1536]⟩
abbrev S256 : Shape := ⟨1, ![256]⟩
abbrev S256x2048 : Shape := ⟨2, ![256, 2048]⟩
abbrev S_ : Shape := ⟨0, ![]⟩
abbrev S32768 : Shape := ⟨1, ![32768]⟩
abbrev S32768x1 : Shape := ⟨2, ![32768, 1]⟩
abbrev S1x384 : Shape := ⟨2, ![1, 384]⟩
abbrev S32768x1536 : Shape := ⟨2, ![32768, 1536]⟩
abbrev S32768x8x192 : Shape := ⟨3, ![32768, 8, 192]⟩
abbrev S1x256 : Shape := ⟨2, ![1, 256]⟩
abbrev S32768x2048 : Shape := ⟨2, ![32768, 2048]⟩
abbrev S32768x8x256 : Shape := ⟨3, ![32768, 8, 256]⟩
abbrev S32 : Shape := ⟨1, ![32]⟩
abbrev S1x32 : Shape := ⟨2, ![1, 32]⟩
abbrev S32768x32 : Shape := ⟨2, ![32768, 32]⟩
abbrev S32768x1x32 : Shape := ⟨3, ![32768, 1, 32]⟩
abbrev S32768x64 : Shape := ⟨2, ![32768, 64]⟩
abbrev S32768x1x64 : Shape := ⟨3, ![32768, 1, 64]⟩
abbrev S32768x8x64 : Shape := ⟨3, ![32768, 8, 64]⟩
abbrev S32768x8x128 : Shape := ⟨3, ![32768, 8, 128]⟩
abbrev S32768x8x32 : Shape := ⟨3, ![32768, 8, 32]⟩
abbrev S32768x1024 : Shape := ⟨2, ![32768, 1024]⟩

abbrev nBuf : Space → Nat
  | .hbm => 116
  | .vmem => 0
  | .smem => 0
  | _ => 0

abbrev bufTy : (tb : Table) → Fin (tcTables nBuf tb) → BufTy
  | .hbm, ⟨0, _⟩ => ⟨S32768x384, .f32⟩
  | .hbm, ⟨1, _⟩ => ⟨S32768x256, .f32⟩
  | .hbm, ⟨2, _⟩ => ⟨S32768x128, .f32⟩
  | .hbm, ⟨3, _⟩ => ⟨S8x4096, .i32⟩
  | .hbm, ⟨4, _⟩ => ⟨S384, .f32⟩
  | .hbm, ⟨5, _⟩ => ⟨S384x1536, .f32⟩
  | .hbm, ⟨6, _⟩ => ⟨S256, .f32⟩
  | .hbm, ⟨7, _⟩ => ⟨S256x2048, .f32⟩
  | .hbm, ⟨8, _⟩ => ⟨S32768x384, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x384, .f32⟩
  | .hbm, ⟨20, _⟩ => ⟨S32768x384, .f32⟩
  | .hbm, ⟨21, _⟩ => ⟨S1x384, .f32⟩
  | .hbm, ⟨22, _⟩ => ⟨S32768x384, .f32⟩
  | .hbm, ⟨23, _⟩ => ⟨S32768x384, .f32⟩
  | .hbm, ⟨24, _⟩ => ⟨S32768x1536, .f32⟩
  | .hbm, ⟨25, _⟩ => ⟨S32768x8x192, .f32⟩
  | .hbm, ⟨26, _⟩ => ⟨S32768x256, .f32⟩
  | .hbm, ⟨27, _⟩ => ⟨S_, .f32⟩
  | .hbm, ⟨28, _⟩ => ⟨S32768, .f32⟩
  | .hbm, ⟨29, _⟩ => ⟨S32768x1, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S_, .f32⟩
  | .hbm, ⟨34, _⟩ => ⟨S32768x1, .f32⟩
  | .hbm, ⟨35, _⟩ => ⟨S32768x1, .f32⟩
  | .hbm, ⟨36, _⟩ => ⟨S32768x1, .f32⟩
  | .hbm, ⟨37, _⟩ => ⟨S32768x256, .f32⟩
  | .hbm, ⟨38, _⟩ => ⟨S32768x256, .f32⟩
  | .hbm, ⟨39, _⟩ => ⟨S1x256, .f32⟩
  | .hbm, ⟨40, _⟩ => ⟨S32768x256, .f32⟩
  | .hbm, ⟨41, _⟩ => ⟨S32768x256, .f32⟩
  | .hbm, ⟨42, _⟩ => ⟨S32768x2048, .f32⟩
  | .hbm, ⟨43, _⟩ => ⟨S32768x8x256, .f32⟩
  | .hbm, ⟨44, _⟩ => ⟨S32, .f32⟩
  | .hbm, ⟨45, _⟩ => ⟨S_, .f32⟩
  | .hbm, ⟨46, _⟩ => ⟨S32, .f32⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S8x4096, .f32⟩
  | .hbm, ⟨61, _⟩ => ⟨S32768x1, .f32⟩
  | .hbm, ⟨62, _⟩ => ⟨S1x32, .f32⟩
  | .hbm, ⟨63, _⟩ => ⟨S32768x32, .f32⟩
  | .hbm, ⟨64, _⟩ => ⟨S32768x32, .f32⟩
  | .hbm, ⟨65, _⟩ => ⟨S32768x32, .f32⟩
  | .hbm, ⟨66, _⟩ => ⟨S32768x32, .f32⟩
  | .hbm, ⟨67, _⟩ => ⟨S32768x1x32, .f32⟩
  | .hbm, ⟨68, _⟩ => ⟨S32768x32, .f32⟩
  | .hbm, ⟨69, _⟩ => ⟨S32768x1x32, .f32⟩
  | .hbm, ⟨70, _⟩ => ⟨S32768x64, .f32⟩
  | .hbm, ⟨71, _⟩ => ⟨S32768x1x64, .f32⟩
  | .hbm, ⟨72, _⟩ => ⟨S32768x1x32, .f32⟩
  | .hbm, ⟨73, _⟩ => ⟨S32768x1x32, .f32⟩
  | .hbm, ⟨74, _⟩ => ⟨S32768x1x32, .f32⟩
  | .hbm, ⟨75, _⟩ => ⟨S32768x1x32, .f32⟩
  | .hbm, ⟨76, _⟩ => ⟨S32768x1x32, .f32⟩
  | .hbm, ⟨77, _⟩ => ⟨S32768x1x32, .f32⟩
  | .hbm, ⟨78, _⟩ => ⟨S32768x1x32, .f32⟩
  | .hbm, ⟨79, _⟩ => ⟨S32768x1x32, .f32⟩
  | .hbm, ⟨80, _⟩ => ⟨S32768x1x64, .f32⟩
  | .hbm, ⟨81, _⟩ => ⟨S32768x8x64, .f32⟩
  | .hbm, ⟨82, _⟩ => ⟨S32768x8x128, .f32⟩
  | .hbm, ⟨83, _⟩ => ⟨S32768x8x64, .f32⟩
  | .hbm, ⟨84, _⟩ => ⟨S32768x8x32, .f32⟩
  | .hbm, ⟨85, _⟩ => ⟨S32768x8x32, .f32⟩
  | .hbm, ⟨86, _⟩ => ⟨S32768x8x32, .f32⟩
  | .hbm, ⟨87, _⟩ => ⟨S32768x8x32, .f32⟩
  | .hbm, ⟨88, _⟩ => ⟨S32768x8x32, .f32⟩
  | .hbm, ⟨89, _⟩ => ⟨S32768x8x32, .f32⟩
  | .hbm, ⟨90, _⟩ => ⟨S32768x8x32, .f32⟩
  | .hbm, ⟨91, _⟩ => ⟨S32768x8x32, .f32⟩
  | .hbm, ⟨92, _⟩ => ⟨S32768x8x32, .f32⟩
  | .hbm, ⟨93, _⟩ => ⟨S32768x8x32, .f32⟩
  | .hbm, ⟨94, _⟩ => ⟨S32768x8x32, .f32⟩
  | .hbm, ⟨95, _⟩ => ⟨S32768x8x32, .f32⟩
  | .hbm, ⟨96, _⟩ => ⟨S32768x8x64, .f32⟩
  | .hbm, ⟨97, _⟩ => ⟨S32768x8x192, .f32⟩
  | .hbm, ⟨98, _⟩ => ⟨S_, .f32⟩
  | .hbm, ⟨99, _⟩ => ⟨S32768x8x192, .f32⟩
  | .hbm, ⟨100, _⟩ => ⟨S32768x8x192, .f32⟩
  | .hbm, ⟨101, _⟩ => ⟨S32768x8x128, .f32⟩
  | .hbm, ⟨102, _⟩ => ⟨S32768x8x192, .f32⟩
  | .hbm, ⟨103, _⟩ => ⟨S_, .i32⟩
  | .hbm, ⟨104, _⟩ => ⟨S_, .f32⟩
  | .hbm, ⟨105, _⟩ => ⟨S32768x8x256, .f32⟩
  | .hbm, ⟨106, _⟩ => ⟨S32768x2048, .f32⟩
  | .hbm, ⟨107, _⟩ => ⟨S32768x2048, .bf16⟩
  | .hbm, ⟨108, _⟩ => ⟨S_, .i32⟩
  | .hbm, ⟨109, _⟩ => ⟨S_, .f32⟩
  | .hbm, ⟨110, _⟩ => ⟨S32768x8x256, .f32⟩
  | .hbm, ⟨111, _⟩ => ⟨S32768x2048, .f32⟩
  | .hbm, ⟨112, _⟩ => ⟨S32768x2048, .bf16⟩
  | .hbm, ⟨113, _⟩ => ⟨S32768x8x128, .f32⟩
  | .hbm, ⟨114, _⟩ => ⟨S32768x1024, .f32⟩
  | .hbm, ⟨115, _⟩ => ⟨S32768x1024, .bf16⟩
  | _, _ => ⟨S32768x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_10 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_c : Ref sig .tc := ⟨.hbm, 103, rfl⟩
abbrev main_call0_v0 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_c_11 : Ref sig .tc := ⟨.hbm, 108, rfl⟩
abbrev main_call1_v0 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩

abbrev nD : Nat := 1
abbrev τ : Topo := Topo.v7x

variable {F : FTy → Type} [FloatOps F]
-- ==== Proof.OnlineSoftmax.lean ====
/- The softmax average of a row computed tile by tile, on the extended reals.

   A row has eight tiles of 512 scores. The running maximum, the running sum of exponentials and the running weighted sum
   are rescaled when the maximum moves. This module shows that after any number of tiles they are what the whole sums
   over those tiles give, and that the quotient after the last tile is the softmax average of the row. -/
module

public import Idealize.ShloMosaic.Lib.Pointwise

@[expose] public section

noncomputable section

open Idealize.ShloMosaic

namespace Cert.Proof.OnlineSoftmax

/-- The largest of finitely many extended reals, `⊥` for none. -/
def top {n : ℕ} (s : Fin n → EReal) : EReal := Finset.univ.fold max ⊥ s

/-- Every score is at most the largest one. -/
theorem le_top {n : ℕ} (s : Fin n → EReal) (x : Fin n) : s x ≤ top s :=
  (Finset.le_fold_max (s x)).2 (Or.inr ⟨x, Finset.mem_univ x, le_rfl⟩)

/-- The largest score is at most `c` when `c` bounds every score. -/
theorem top_le {n : ℕ} (s : Fin n → EReal) (c : EReal) (h : ∀ x, s x ≤ c) : top s ≤ c :=
  (Finset.fold_max_le c).2 ⟨bot_le, fun x _ => h x⟩

/-- The exponential is nonnegative. -/
theorem exp_nonneg (x : EReal) : 0 ≤ Ideal.exp x := by
  induction x with
  | bot => simp
  | coe r => rw [Ideal.exp_coe]; exact_mod_cast (Real.exp_pos r).le
  | top => simp

/-- The exponential of a nonpositive difference is at most one, hence finite. -/
theorem exp_sub_ne_top {a b : EReal} (h : a ≤ b) : Ideal.exp (a - b) ≠ ⊤ := by
  induction a with
  | bot => simp
  | top =>
    obtain rfl : b = ⊤ := top_le_iff.1 h
    simp
  | coe r =>
    induction b with
    | bot => simp at h
    | top => simp
    | coe t => rw [← EReal.coe_sub, Ideal.exp_coe]; exact EReal.coe_ne_top _

/-- Rescaling a weight from the maximum `m` to the larger maximum `m'`. -/
theorem exp_mul_exp {s m m' : EReal} (h : s ≤ m) (h' : m ≤ m') :
    Ideal.exp (m - m') * Ideal.exp (s - m) = Ideal.exp (s - m') := by
  induction m' with
  | top => simp
  | bot =>
    obtain rfl := le_bot_iff.1 h'
    obtain rfl := le_bot_iff.1 h
    simp
  | coe b =>
    induction m with
    | top => simp at h'
    | bot =>
      obtain rfl := le_bot_iff.1 h
      simp
    | coe a =>
      induction s with
      | top => simp at h
      | bot => simp
      | coe r =>
        simp only [← EReal.coe_sub, Ideal.exp_coe, ← EReal.coe_mul, ← Real.exp_add]
        congr 2; ring

/-- A finite nonnegative factor goes into a finite sum. -/
theorem mul_sum {ι : Type*} (t : Finset ι) (f : ι → EReal) {c : EReal} (h0 : 0 ≤ c) (h1 : c ≠ ⊤) :
    c * ∑ x ∈ t, f x = ∑ x ∈ t, c * f x := by
  classical
  induction t using Finset.induction_on with
  | empty => simp
  | insert a t ha ih =>
    rw [Finset.sum_insert ha, Finset.sum_insert ha, EReal.left_distrib_of_nonneg_of_ne_top h0 h1, ih]

variable (S V : ℕ → Fin 512 → EReal)

/-- The maximum after `j` tiles. -/
def runMax : ℕ → EReal
  | 0 => ⊥
  | j + 1 => max (runMax j) (top (S j))

/-- The sum of the exponentials of the first `j` tiles, taken against their maximum. -/
def runSum (j : ℕ) : EReal := ∑ t ∈ Finset.range j, ∑ x, Ideal.exp (S t x - runMax S j)

/-- The weighted sum of the first `j` tiles' values, the weights taken against their maximum. -/
def runAcc (j : ℕ) : EReal := ∑ t ∈ Finset.range j, ∑ x, Ideal.exp (S t x - runMax S j) * V t x

/-- A score of an earlier tile is at most the running maximum. -/
theorem le_runMax {t j : ℕ} (h : t < j) (x : Fin 512) : S t x ≤ runMax S j := by
  induction j with
  | zero => omega
  | succ j ih =>
    rcases Nat.lt_succ_iff_lt_or_eq.1 h with h' | rfl
    · exact (ih h').trans (le_max_left _ _)
    · exact (le_top _ x).trans (le_max_right _ _)

/-- The running maximum does not decrease. -/
theorem runMax_le_succ (j : ℕ) : runMax S j ≤ runMax S (j + 1) := le_max_left _ _

/-- One tile's update of the running sum. -/
theorem runSum_succ (j : ℕ) :
    Ideal.exp (runMax S j - runMax S (j + 1)) * runSum S j + ∑ x, Ideal.exp (S j x - runMax S (j + 1))
      = runSum S (j + 1) := by
  have h0 := exp_nonneg (runMax S j - runMax S (j + 1))
  have h1 := exp_sub_ne_top (runMax_le_succ S j)
  unfold runSum
  rw [Finset.sum_range_succ, mul_sum _ _ h0 h1]
  congr 1
  refine Finset.sum_congr rfl fun t ht => ?_
  rw [mul_sum _ _ h0 h1]
  exact Finset.sum_congr rfl fun x _ => exp_mul_exp (le_runMax S (Finset.mem_range.1 ht) x) (runMax_le_succ S j)

/-- One tile's update of the running weighted sum. -/
theorem runAcc_succ (j : ℕ) :
    Ideal.exp (runMax S j - runMax S (j + 1)) * runAcc S V j + ∑ x, Ideal.exp (S j x - runMax S (j + 1)) * V j x
      = runAcc S V (j + 1) := by
  have h0 := exp_nonneg (runMax S j - runMax S (j + 1))
  have h1 := exp_sub_ne_top (runMax_le_succ S j)
  unfold runAcc
  rw [Finset.sum_range_succ, mul_sum _ _ h0 h1]
  congr 1
  refine Finset.sum_congr rfl fun t ht => ?_
  rw [mul_sum _ _ h0 h1]
  refine Finset.sum_congr rfl fun x _ => ?_
  rw [← mul_assoc, exp_mul_exp (le_runMax S (Finset.mem_range.1 ht) x) (runMax_le_succ S j)]

/-- Tiles whose scores are all `⊥` change none of the three: the maximum. -/
theorem runMax_of_bot {a b : ℕ} (hab : a ≤ b) (h : ∀ t, a ≤ t → t < b → ∀ x, S t x = ⊥) : runMax S b = runMax S a := by
  induction b, hab using Nat.le_induction with
  | base => rfl
  | succ b hb ih =>
    have e : top (S b) = ⊥ := le_bot_iff.1 (top_le _ _ fun x => (h b hb (Nat.lt_succ_self b) x).le)
    rw [runMax, e, ih fun t h1 h2 => h t h1 (Nat.lt_succ_of_lt h2)]
    exact max_eq_left bot_le

/-- Tiles whose scores are all `⊥` change none of the three: the sum. -/
theorem runSum_of_bot {a b : ℕ} (hab : a ≤ b) (h : ∀ t, a ≤ t → t < b → ∀ x, S t x = ⊥) : runSum S b = runSum S a := by
  unfold runSum
  rw [runMax_of_bot S hab h, ← Finset.sum_range_add_sum_Ico _ hab]
  rw [Finset.sum_eq_zero (s := Finset.Ico a b), add_zero]
  intro t ht
  obtain ⟨h1, h2⟩ := Finset.mem_Ico.1 ht
  exact Finset.sum_eq_zero fun x _ => by rw [h t h1 h2 x]; simp

/-- Tiles whose scores are all `⊥` change none of the three: the weighted sum. -/
theorem runAcc_of_bot {a b : ℕ} (hab : a ≤ b) (h : ∀ t, a ≤ t → t < b → ∀ x, S t x = ⊥) :
    runAcc S V b = runAcc S V a := by
  unfold runAcc
  rw [runMax_of_bot S hab h, ← Finset.sum_range_add_sum_Ico _ hab]
  rw [Finset.sum_eq_zero (s := Finset.Ico a b), add_zero]
  intro t ht
  obtain ⟨h1, h2⟩ := Finset.mem_Ico.1 ht
  exact Finset.sum_eq_zero fun x _ => by rw [h t h1 h2 x]; simp

/-- Position `x` of tile `t` in the row. -/
def pos (t : ℕ) (x : Fin 512) : Fin 4096 := ⟨(512 * t + x.val) % 4096, Nat.mod_lt _ (by decide)⟩

/-- The positions of a row by tiles: its value. -/
theorem pos_val {t : ℕ} (ht : t < 8) (x : Fin 512) : (pos t x).val = 512 * t + x.val :=
  Nat.mod_eq_of_lt (by have := x.isLt; omega)

/-- A sum over the row is the sum over its tiles. -/
theorem sum_row (f : Fin 4096 → EReal) : ∑ k, f k = ∑ t ∈ Finset.range 8, ∑ x, f (pos t x) := by
  rw [Fin.sum_univ_tiles 8 512 (by norm_num) f, Finset.sum_range]
  refine Finset.sum_congr rfl fun t _ => Finset.sum_congr rfl fun x _ => congrArg f (Fin.ext ?_)
  rw [pos_val t.isLt]; simp [Nat.mul_comm]

/-- The largest score of the row is the running maximum after eight tiles. -/
theorem top_row (f : Fin 4096 → EReal) : top f = runMax (fun t x => f (pos t x)) 8 := by
  refine le_antisymm (top_le _ _ fun k => ?_) ?_
  · have hk := k.isLt
    have e : k = pos (k.val / 512) ⟨k.val % 512, Nat.mod_lt _ (by decide)⟩ :=
      Fin.ext (by rw [pos_val (by omega)]; simp only; omega)
    rw [e]
    exact le_runMax (fun t x => f (pos t x)) (t := k.val / 512) (by omega) _
  · have : ∀ j, runMax (fun t x => f (pos t x)) j ≤ top f := by
      intro j
      induction j with
      | zero => exact bot_le
      | succ j ih => exact max_le ih (top_le _ _ fun x => le_top f _)
    exact this 8

/-- The softmax average of `v` under the scores `s`: each value times its normalized weight, summed. -/
def softAvg (s v : Fin 4096 → EReal) : EReal :=
  ∑ k, v k * Ideal.div (Ideal.exp (s k - top s)) (∑ k', Ideal.exp (s k' - top s))

/-- When no score is `⊤` and some score is finite, the sum of the exponentials is a positive real number. -/
theorem sum_exp_real (s : Fin 4096 → EReal) (h : ∀ k, s k ≠ ⊤) (k₀ : Fin 4096) (h₀ : s k₀ ≠ ⊥) :
    ∃ l : ℝ, 0 < l ∧ ∑ k, Ideal.exp (s k - top s) = (l : EReal) := by
  have ht : top s ≠ ⊤ := by
    intro e
    have : (⊤ : EReal) ≤ top s := e.ge
    rcases (Finset.le_fold_max (⊤ : EReal)).1 this with h' | ⟨k, -, h'⟩
    · simp at h'
    · exact h k (top_le_iff.1 h')
  have hb : top s ≠ ⊥ := fun e => h₀ (le_bot_iff.1 (e ▸ le_top s k₀))
  lift top s to ℝ using ⟨ht, hb⟩ with m
  have hr : ∀ k, ∃ r : ℝ, 0 ≤ r ∧ (s k ≠ ⊥ → 0 < r) ∧ Ideal.exp (s k - m) = (r : EReal) := by
    intro k
    have := h k
    induction hs : s k with
    | top => exact absurd hs this
    | bot => exact ⟨0, le_rfl, fun h => absurd rfl h, by simp⟩
    | coe r => exact ⟨Real.exp (r - m), (Real.exp_pos _).le, fun _ => Real.exp_pos _, by
        rw [← EReal.coe_sub, Ideal.exp_coe]⟩
  choose r hr0 hrp hre using hr
  refine ⟨∑ k, r k, ?_, ?_⟩
  · exact Finset.sum_pos' (fun k _ => hr0 k) ⟨k₀, Finset.mem_univ _, hrp k₀ h₀⟩
  · rw [Finset.sum_congr rfl fun k _ => hre k]
    exact (map_sum (⟨⟨fun r : ℝ => (r : EReal), EReal.coe_zero⟩, EReal.coe_add⟩ : ℝ →+ EReal) r Finset.univ).symm

/-- The tile-by-tile quotient is the softmax average of the row. -/
theorem run_eq_softAvg (s v : Fin 4096 → EReal) (h : ∀ k, s k ≠ ⊤) (k₀ : Fin 4096) (h₀ : s k₀ ≠ ⊥) :
    Ideal.div (runAcc (fun t x => s (pos t x)) (fun t x => v (pos t x)) 8) (runSum (fun t x => s (pos t x)) 8)
      = softAvg s v := by
  obtain ⟨l, hl, e⟩ := sum_exp_real s h k₀ h₀
  have e1 : runSum (fun t x => s (pos t x)) 8 = (l : EReal) := by
    rw [← e, sum_row, top_row]; rfl
  have e2 : runAcc (fun t x => s (pos t x)) (fun t x => v (pos t x)) 8
      = ∑ k, Ideal.exp (s k - top s) * v k := by
    rw [sum_row, top_row]; rfl
  unfold softAvg
  rw [e1, e2, e, Ideal.div_coe hl.ne', mul_comm, mul_sum _ _ (by exact_mod_cast (one_div_pos.2 hl).le) (EReal.coe_ne_top _)]
  refine Finset.sum_congr rfl fun k _ => ?_
  rw [Ideal.div_coe hl.ne']
  ac_rfl

end Cert.Proof.OnlineSoftmax

end
-- ==== Proof.FlashStep.lean ====
/- What one tile of the attention kernel computes, read element by element.

   The kernel's payloads (the scores of a tile, the new maximum, the new sum, the new weighted sum, the quotient) at a
   row and a column, as extended-real arithmetic over the loaded blocks. -/
module

public import proofs.«01_k».proof.Proof.Gen.KernelIdeal.Skeleton
public import proofs.«01_k».proof.Proof.OnlineSoftmax
public import Idealize.ShloMosaic.Lib.WordCmp

@[expose] public section

set_option maxRecDepth 16384

noncomputable section

open Idealize.ShloMosaic Idealize.ShloMosaic.TcCoe Idealize.SL.Sem

namespace Cert.Proof.FlashStep

open Cert.KernelIdeal Cert.KernelIdeal.Gen Cert.Proof.OnlineSoftmax

/-- The word of minus infinity denotes `⊥`. -/
theorem ofBits_ninf : Ideal.ofBits .f32 0xFF800000#32 = ⊥ := by
  simp [Ideal.ofBits, Ideal.ieee]

/-- Selecting by a signed comparison of two small positions is deciding their order. -/
theorem select_sle (n : ℕ) (hn : n ≤ 2 ^ 31) (x r : Fin n) (a b : EReal) :
    Scalar.select (IntOp.cmpi .sle (BitVec.ofNat 32 x.val) (BitVec.ofNat 32 r.val)) a b
      = if x.val ≤ r.val then a else b := by
  rw [WordCmp.cmpi_sle_ofNat (lt_of_lt_of_le x.isLt hn) (lt_of_lt_of_le r.isLt hn), WordCmp.select_ofBool]
  simp

variable (q k : Vec Ideal S1x512x256 .bf16) (v : Vec Ideal S1x512x128 .bf16) (m l : FVec Ideal S512x1 .f32)
  (a : FVec Ideal S512x128 .f32) (r x : Fin 512) (d : Fin 128)

/-- The score of row `r` against column `x` of a tile: the inner product of the query and the key. -/
theorem scores_at : k0_pay6 q k (ix2 r x) = ∑ e : Fin 256, q (ix3 0 r e) * k (ix3 0 x e) := by
  pointwise [k0_pay6, k0_pay2]

/-- The maximum of row `r` after a tile. -/
theorem max_at : k0_pay7 q m k (ix2 r 0) = max (m (ix2 r 0)) (top fun x => k0_pay6 q k (ix2 r x)) := by
  pointwise [k0_pay7]
  rw [ofBits_ninf]; rfl

/-- The sum of row `r` after a tile. -/
theorem sum_at : k0_pay10 q m l k (ix2 r 0)
    = Ideal.exp (m (ix2 r 0) - k0_pay7 q m k (ix2 r 0)) * l (ix2 r 0)
      + ∑ x, Ideal.exp (k0_pay6 q k (ix2 r x) - k0_pay7 q m k (ix2 r 0)) := by
  pointwise [k0_pay10, k0_pay9, k0_pay8]

/-- The weighted sum of row `r` at lane `d` after a tile. -/
theorem acc_at : k0_pay11 q m a k v (ix2 r d)
    = Ideal.exp (m (ix2 r 0) - k0_pay7 q m k (ix2 r 0)) * a (ix2 r d)
      + ∑ x, Ideal.exp (k0_pay6 q k (ix2 r x) - k0_pay7 q m k (ix2 r 0)) * v (ix3 0 x d) := by
  pointwise [k0_pay11, k0_pay9, k0_pay8]

/-- The masked score of the diagonal tile: `⊥` right of the diagonal. -/
theorem masked_at : k0_pay18 q k (ix2 r x)
    = if x.val ≤ r.val then ∑ e : Fin 256, q (ix3 0 r e) * k (ix3 0 x e) else ⊥ := by
  pointwise [k0_pay18, k0_pay2]
  rw [ofBits_ninf]
  exact select_sle 512 (by norm_num) x r _ _

/-- The maximum of row `r` after the diagonal tile. -/
theorem maskedMax_at : k0_pay19 q m k (ix2 r 0) = max (m (ix2 r 0)) (top fun x => k0_pay18 q k (ix2 r x)) := by
  pointwise [k0_pay19]
  rw [ofBits_ninf]; rfl

/-- The sum of row `r` after the diagonal tile. -/
theorem maskedSum_at : k0_pay22 q m l k (ix2 r 0)
    = Ideal.exp (m (ix2 r 0) - k0_pay19 q m k (ix2 r 0)) * l (ix2 r 0)
      + ∑ x, Ideal.exp (k0_pay18 q k (ix2 r x) - k0_pay19 q m k (ix2 r 0)) := by
  pointwise [k0_pay22, k0_pay21, k0_pay20]

/-- The stored quotient: the weighted sum after the diagonal tile over the sum after it. -/
theorem out_at : k0_pay1 (k0_pay22 q m l k) (k0_pay23 q m a k) (k0_pay24 q m k) v (ix3 0 r d)
    = Ideal.div (Ideal.exp (m (ix2 r 0) - k0_pay19 q m k (ix2 r 0)) * a (ix2 r d)
        + ∑ x, Ideal.exp (k0_pay18 q k (ix2 r x) - k0_pay19 q m k (ix2 r 0)) * v (ix3 0 x d))
      (k0_pay22 q m l k (ix2 r 0)) := by
  pointwise [k0_pay1, k0_pay24, k0_pay23, k0_pay21, k0_pay20]

/-- Before the first tile every maximum is `⊥`. -/
theorem init_max : k0_pay3 (F := Ideal) (ix2 r 0) = ⊥ := by
  pointwise [k0_pay3]
  exact ofBits_ninf

/-- Before the first tile every sum is zero. -/
theorem init_sum : k0_pay4 (F := Ideal) (ix2 r 0) = 0 := by
  pointwise [k0_pay4]

/-- Before the first tile every weighted sum is zero. -/
theorem init_acc : k0_pay5 (F := Ideal) (ix2 r d) = 0 := by
  pointwise [k0_pay5]

end Cert.Proof.FlashStep

end
-- ==== Proof.FlashBlock.lean ====
/- What the attention kernel leaves in its output block at a grid point.

   At the point of row tile `n` the counted loop goes over the `n` tiles left of the diagonal and the last step over the
   diagonal tile. Row by row the carried values are the running maximum, sum and weighted sum of the masked scores, so the
   block holds the quotients after eight tiles: the tiles right of the diagonal add nothing. -/
module

public import proofs.«01_k».proof.Proof.Gen.KernelIdeal.Value
public import proofs.«01_k».proof.Proof.FlashStep
public import Idealize.ShloMosaic.Lib.Pipeline.ValueKit

@[expose] public section

set_option maxRecDepth 16384

noncomputable section

open Idealize.ShloMosaic Idealize.ShloMosaic.TcCoe Idealize.ShloMosaic.Tactic Idealize.SL.Sem

namespace Cert.Proof.FlashBlock

open Cert.KernelIdeal Cert.KernelIdeal.Gen Cert.Proof.OnlineSoftmax Cert.Proof.FlashStep

/-- A whole rank-three block starts at the origin. -/
theorem origin3 : (![0, 0, 0] : Fin 3 → Nat) = fun _ => 0 := funext fun a => by fin_cases a <;> rfl

/-- The loop over the tiles left of the diagonal runs once per such tile. -/
theorem trips_eq : ∀ i : grid0.Coords, (k0_t1_loop i).trips = (i 2).val := by decide +kernel

/-- The loop that the compiler splits off for a remainder never runs. -/
theorem rest_trips_eq : ∀ i : grid0.Coords, (k0_t2_loop i).trips = 0 := by decide +kernel

variable (x0 : Vec Ideal S1x512x256 .bf16) (x1 : Vec Ideal S1x4096x256 .bf16) (x2 : Vec Ideal S1x4096x128 .bf16)

/-- The masked score of row `r` of row tile `n` against key `k`. -/
def rowScore (n : ℕ) (r : Fin 512) (k : Fin 4096) : EReal :=
  if k.val ≤ 512 * n + r.val then ∑ e : Fin 256, x0 (ix3 0 r e) * x1 (ix3 0 k e) else ⊥

/-- The same by tiles. -/
def tileScore (n : ℕ) (r : Fin 512) : ℕ → Fin 512 → EReal := fun t x => rowScore x0 x1 n r (pos t x)

/-- Lane `d` of the values, by tiles. -/
def tileValue (d : Fin 128) : ℕ → Fin 512 → EReal := fun t x => x2 (ix3 0 (pos t x) d)

/-- The carried triple after the tiles before `j` is the running triple of every row. -/
def IsRun (n j : ℕ) (s : FVec Ideal S512x1 .f32 × FVec Ideal S512x1 .f32 × FVec Ideal S512x128 .f32) : Prop :=
  ∀ r : Fin 512, s.1 (ix2 r 0) = runMax (tileScore x0 x1 n r) j ∧ s.2.1 (ix2 r 0) = runSum (tileScore x0 x1 n r) j
    ∧ ∀ d : Fin 128, s.2.2 (ix2 r d) = runAcc (tileScore x0 x1 n r) (tileValue x2 d) j

/-- Reading a tile of the keys: position `x` of tile `t`. -/
theorem key_tile {t : ℕ} (ht : t < 8) (off : Fin 3 → ℕ) (e : off = ![0, 512 * t, 0])
    (inb : ∀ a, off a + S1x512x256.size a ≤ S1x4096x256.size a) (x : Fin 512) (f : Fin 256) :
    View.ld x1 (Rect.unit off ![1, 512, 256] inb) (ix3 0 x f) = x1 (ix3 0 (pos t x) f) := by
  subst e
  pointwise
  refine congrArg x1 ?_
  funext a; apply Fin.ext
  match a with
  | 0 => rfl
  | 1 => exact (pos_val ht x).symm
  | 2 => rfl

/-- Reading a tile of the values: position `x` of tile `t`. -/
theorem value_tile {t : ℕ} (ht : t < 8) (off : Fin 3 → ℕ) (e : off = ![0, 512 * t, 0])
    (inb : ∀ a, off a + S1x512x128.size a ≤ S1x4096x128.size a) (x : Fin 512) (f : Fin 128) :
    View.ld x2 (Rect.unit off ![1, 512, 128] inb) (ix3 0 x f) = x2 (ix3 0 (pos t x) f) := by
  subst e
  pointwise
  refine congrArg x2 ?_
  funext a; apply Fin.ext
  match a with
  | 0 => rfl
  | 1 => exact (pos_val ht x).symm
  | 2 => rfl

/-- A tile left of the diagonal takes the running triple one tile further. -/
theorem step_isRun {n j : ℕ} (hj : j < n) (hn : n < 8)
    (k : Vec Ideal S1x512x256 .bf16) (v : Vec Ideal S1x512x128 .bf16)
    (hk : ∀ x f, k (ix3 0 x f) = x1 (ix3 0 (pos j x) f)) (hv : ∀ x f, v (ix3 0 x f) = x2 (ix3 0 (pos j x) f))
    (s : FVec Ideal S512x1 .f32 × FVec Ideal S512x1 .f32 × FVec Ideal S512x128 .f32) (hs : IsRun x0 x1 x2 n j s) :
    IsRun x0 x1 x2 n (j + 1) (k0_pay7 x0 s.1 k, k0_pay10 x0 s.1 s.2.1 k, k0_pay11 x0 s.1 s.2.2 k v) := by
  intro r
  obtain ⟨h1, h2, h3⟩ := hs r
  have hsc : ∀ x, k0_pay6 x0 k (ix2 r x) = tileScore x0 x1 n r j x := fun x => by
    rw [scores_at, tileScore, rowScore, if_pos (by rw [pos_val (by omega)]; have := x.isLt; omega)]
    exact Finset.sum_congr rfl fun e _ => by rw [hk]
  have hm : k0_pay7 x0 s.1 k (ix2 r 0) = runMax (tileScore x0 x1 n r) (j + 1) := by
    rw [max_at, h1, funext hsc]; rfl
  refine ⟨hm, ?_, fun d => ?_⟩
  · show k0_pay10 x0 s.1 s.2.1 k (ix2 r 0) = _
    rw [sum_at, hm, h1, h2, ← runSum_succ]
    simp only [hsc]
  · show k0_pay11 x0 s.1 s.2.2 k v (ix2 r d) = _
    rw [acc_at, hm, h1, h3 d, ← runAcc_succ]
    simp only [hsc, hv]; rfl

/-- The diagonal tile and the division: the softmax quotient of every row. -/
theorem last_out {n : ℕ} (hn : n < 8)
    (k : Vec Ideal S1x512x256 .bf16) (v : Vec Ideal S1x512x128 .bf16)
    (hk : ∀ x f, k (ix3 0 x f) = x1 (ix3 0 (pos n x) f)) (hv : ∀ x f, v (ix3 0 x f) = x2 (ix3 0 (pos n x) f))
    (s : FVec Ideal S512x1 .f32 × FVec Ideal S512x1 .f32 × FVec Ideal S512x128 .f32) (hs : IsRun x0 x1 x2 n n s)
    (r : Fin 512) (d : Fin 128) :
    k0_pay1 (k0_pay22 x0 s.1 s.2.1 k) (k0_pay23 x0 s.1 s.2.2 k) (k0_pay24 x0 s.1 k) v (ix3 0 r d)
      = Ideal.div (runAcc (tileScore x0 x1 n r) (tileValue x2 d) 8) (runSum (tileScore x0 x1 n r) 8) := by
  obtain ⟨h1, h2, h3⟩ := hs r
  have hsc : ∀ x, k0_pay18 x0 k (ix2 r x) = tileScore x0 x1 n r n x := fun x => by
    rw [masked_at, tileScore, rowScore, pos_val hn]
    simp only [hk, Nat.add_le_add_iff_left]
  have hm : k0_pay19 x0 s.1 k (ix2 r 0) = runMax (tileScore x0 x1 n r) (n + 1) := by
    rw [maskedMax_at, h1, funext hsc]; rfl
  have hbot : ∀ t, n + 1 ≤ t → t < 8 → ∀ x, tileScore x0 x1 n r t x = ⊥ := fun t h h' x => by
    rw [tileScore, rowScore, if_neg (by rw [pos_val h']; have := r.isLt; omega)]
  rw [out_at, maskedSum_at, hm, h1, h2, h3 d, runAcc_of_bot _ _ hn hbot, runSum_of_bot _ hn hbot, ← runAcc_succ,
    ← runSum_succ]
  simp only [hsc, hv]; rfl

/-- The initial triple is the running triple before the first tile. -/
theorem init_isRun (n : ℕ) : IsRun x0 x1 x2 n 0 (k0_pay3, k0_pay4, k0_pay5) := fun r =>
  ⟨init_max r, (init_sum r).trans (by simp [runSum]), fun d => (init_acc r d).trans (by simp [runAcc])⟩

variable (c : Dev nD) (i : grid0.Coords) (arg3 : Memref sig .tc .vmem S1x512x256 .bf16) (harg3 : arg3.IsWhole)
  (arg4 : Memref sig .tc .vmem S1x4096x256 .bf16) (harg4 : arg4.IsWhole) (arg5 : Memref sig .tc .vmem S1x4096x128 .bf16)
  (harg5 : arg5.IsWhole) (arg6 : Memref sig .tc .vmem S1x512x128 .bf16) (harg6 : arg6.IsWhole)

/-- After `j` trips of the loop the carried values are the running triple of every row. -/
theorem loop_isRun (j : ℕ) (hj : j ≤ (i 2).val) :
    IsRun x0 x1 x2 (i 2).val j (st_k0_t1 (F := Ideal) Variants.none c none i arg3 harg3 arg4 harg4 arg5 harg5 arg6 harg6 x0
      (harg4.unread x1) (harg5.unread x2) (k0_pay3, k0_pay4, k0_pay5) j) := by
  have h8 : (i 2).val < 8 := (i 2).isLt
  induction j with
  | zero => exact init_isRun x0 x1 x2 _
  | succ j ih =>
    have hlt : j < (k0_t1_loop i).trips := by rw [trips_eq]; omega
    have e := st_k0_t1_succ (F := Ideal) Variants.none c none i arg3 harg3 arg4 harg4 arg5 harg5 arg6 harg6 x0
      (harg4.unread x1) (harg5.unread x2) (k0_pay3, k0_pay4, k0_pay5) ⟨j, hlt⟩
    rw [show j + 1 = (⟨j, hlt⟩ : Fin (k0_t1_loop i).trips).val + 1 from rfl, e]
    unfold tripR_k0_t1 trip_k0_t1
    simp only [View.readAt_eq_ld, harg4.read_unread, harg5.read_unread]
    have hjn : j < (i 2).val := by omega
    have hj8 : j < 8 := by omega
    exact step_isRun x0 x1 x2 hjn h8 _ _
      (fun x f => key_tile x1 hj8 _ (k0_off1_eq i ⟨j, hlt⟩) _ x f)
      (fun x f => value_tile x2 hj8 _ (k0_off2_eq i ⟨j, hlt⟩) _ x f) _ (ih (by omega))

/-- The block after the body: at row `r` and lane `d` the softmax quotient of the row. -/
theorem block_at (r : Fin 512) (d : Fin 128) :
    out0_A_3 c i arg3 harg3 arg4 harg4 arg5 harg5 arg6 harg6 x0 x1 x2 (ix3 0 r d)
      = Ideal.div (runAcc (tileScore x0 x1 (i 2).val r) (tileValue x2 d) 8) (runSum (tileScore x0 x1 (i 2).val r) 8) := by
  have h8 : (i 2).val < 8 := (i 2).isLt
  unfold out0_A_3
  rw [View.read_writes_eq_canon _ _ _ (cover0_A_3 c i arg3 harg3 arg4 harg4 arg5 harg5 arg6 harg6 x0 x1 x2)]
  unfold kernelRun0_A
  dsimp only
  unfold kernelRun0_A.sl.r kernelRun0_A.sl.r_1 kernelRun0_A.sl.r_2
  dsimp only
  rw [View.canon_unit_zero origin3]
  simp only [View.readAt_eq_ld, harg3.read_unread, harg4.read_unread, harg5.read_unread,
    View.ld_unit_zero (S := S1x512x256) origin3]
  have hr : IsRun x0 x1 x2 (i 2).val (i 2).val (st_k0_t2 (F := Ideal) Variants.none c none i arg3 harg3 arg4 harg4 arg5 harg5
      arg6 harg6 x0 (harg4.unread x1) (harg5.unread x2)
      (st_k0_t1 (F := Ideal) Variants.none c none i arg3 harg3 arg4 harg4 arg5 harg5 arg6 harg6 x0
        (harg4.unread x1) (harg5.unread x2) (k0_pay3, k0_pay4, k0_pay5) (k0_t1_loop i).trips) (k0_t2_loop i).trips) := by
    rw [rest_trips_eq, trips_eq]
    exact loop_isRun x0 x1 x2 c i arg3 harg3 arg4 harg4 arg5 harg5 arg6 harg6 _ le_rfl
  exact last_out x0 x1 x2 h8 _ _ (fun x f => key_tile x1 h8 _ (k0_off5_eq i) _ x f)
    (fun x f => value_tile x2 h8 _ (k0_off6_eq i) _ x f) _ hr r d

end Cert.Proof.FlashBlock

end
-- ==== Proof.Attention.lean ====
/- Causal softmax attention of eight heads, written as one formula per element.

   The queries and keys hold 256 lanes per head and the values 128. The element of batch `b`, row `r` and lane `d` belongs
   to head `d / 128`. -/
module

public import proofs.«01_k».proof.Proof.OnlineSoftmax

@[expose] public section

noncomputable section

open Idealize.ShloMosaic

namespace Cert.Proof.Attention

open Cert.Proof.OnlineSoftmax

/-- Lane `e` of head `d / 128` among the lanes of all heads. -/
def headLane (d : Fin 1024) (e : Fin 256) : Fin 2048 :=
  ⟨d.val / 128 * 256 + e.val, by have := d.isLt; have := e.isLt; omega⟩

/-- The score of row `r` against key `k` in the head of lane `d`; `⊥` for a later key. -/
def score (Q K : FVec Ideal ⟨3, ![8, 4096, 2048]⟩ .bf16) (b : Fin 8) (r : Fin 4096) (d : Fin 1024) (k : Fin 4096) : EReal :=
  if k.val ≤ r.val then ∑ e : Fin 256, Q (ix3 b r (headLane d e)) * K (ix3 b k (headLane d e)) else ⊥

/-- The attention output at one element. -/
def attnAt (Q K : FVec Ideal ⟨3, ![8, 4096, 2048]⟩ .bf16) (V : FVec Ideal ⟨3, ![8, 4096, 1024]⟩ .bf16)
    (b : Fin 8) (r : Fin 4096) (d : Fin 1024) : EReal :=
  softAvg (score Q K b r d) fun k => V (ix3 b k d)

/-- The attention output. -/
def attn (Q K : FVec Ideal ⟨3, ![8, 4096, 2048]⟩ .bf16) (V : FVec Ideal ⟨3, ![8, 4096, 1024]⟩ .bf16) :
    FVec Ideal ⟨3, ![8, 4096, 1024]⟩ .bf16 :=
  fun j => attnAt Q K V (j 0) (j 1) (j 2)

/-- A finite sum of finite extended reals is finite. -/
theorem sum_finite {n : ℕ} (f : Fin n → EReal) (h : ∀ x, f x ≠ ⊤ ∧ f x ≠ ⊥) : (∑ x, f x) ≠ ⊤ ∧ (∑ x, f x) ≠ ⊥ := by
  have hr : ∀ x, ∃ y : ℝ, f x = (y : EReal) := fun x => ⟨(f x).toReal, (EReal.coe_toReal (h x).1 (h x).2).symm⟩
  choose y hy using hr
  rw [Finset.sum_congr rfl fun x _ => hy x,
    show (∑ x, (y x : EReal)) = ((∑ x, y x : ℝ) : EReal) from
      (map_sum (⟨⟨fun r : ℝ => (r : EReal), EReal.coe_zero⟩, EReal.coe_add⟩ : ℝ →+ EReal) y Finset.univ).symm]
  exact ⟨EReal.coe_ne_top _, EReal.coe_ne_bot _⟩

/-- A product of two finite extended reals is finite. -/
theorem mul_finite {x y : EReal} (hx : x ≠ ⊤ ∧ x ≠ ⊥) (hy : y ≠ ⊤ ∧ y ≠ ⊥) : x * y ≠ ⊤ ∧ x * y ≠ ⊥ := by
  lift x to ℝ using hx
  lift y to ℝ using hy
  rw [← EReal.coe_mul]
  exact ⟨EReal.coe_ne_top _, EReal.coe_ne_bot _⟩

/-- With finite queries and keys no score is `⊤`. -/
theorem score_ne_top (Q K : FVec Ideal ⟨3, ![8, 4096, 2048]⟩ .bf16) (hQ : ∀ j, Q j ≠ ⊤ ∧ Q j ≠ ⊥) (hK : ∀ j, K j ≠ ⊤ ∧ K j ≠ ⊥)
    (b : Fin 8) (r : Fin 4096) (d : Fin 1024) (k : Fin 4096) : score Q K b r d k ≠ ⊤ := by
  unfold score
  split
  · exact (sum_finite _ fun e => mul_finite (hQ _) (hK _)).1
  · simp

/-- With finite queries and keys the score of a row against its own position is finite. -/
theorem score_self_ne_bot (Q K : FVec Ideal ⟨3, ![8, 4096, 2048]⟩ .bf16) (hQ : ∀ j, Q j ≠ ⊤ ∧ Q j ≠ ⊥)
    (hK : ∀ j, K j ≠ ⊤ ∧ K j ≠ ⊥) (b : Fin 8) (r : Fin 4096) (d : Fin 1024) : score Q K b r d r ≠ ⊥ := by
  unfold score
  rw [if_pos le_rfl]
  exact (sum_finite _ fun e => mul_finite (hQ _) (hK _)).2

end Cert.Proof.Attention

end
-- ==== Proof.FlashArray.lean ====
/- What the attention kernel's result array holds after the run: the attention of the argument arrays. -/
module

public import proofs.«01_k».proof.Proof.FlashBlock
public import proofs.«01_k».proof.Proof.Attention

@[expose] public section

set_option maxRecDepth 16384

noncomputable section

open Idealize.ShloMosaic Idealize.ShloMosaic.TcCoe Idealize.ShloMosaic.Tactic Idealize.SL.Sem
open Idealize.ShloMosaic.Pipeline (Dat)

namespace Cert.Proof.FlashArray

open Cert.KernelIdeal Cert.KernelIdeal.Gen Cert.Proof.OnlineSoftmax Cert.Proof.FlashBlock Cert.Proof.Attention

variable (m : (ℓ : Loc nD τ sig) → Buf (Elt Ideal) ℓ)

/-- The block each window holds at a grid point, and the row tile of the point. -/
theorem idx : ∀ t : Fin cfg0.N, win0_0.index t = ![t.val / 64, t.val % 8, t.val / 8 % 8]
      ∧ win0_1.index t = ![t.val / 64, 0, t.val / 8 % 8] ∧ win0_2.index t = ![t.val / 64, 0, t.val / 8 % 8]
      ∧ win0_3.index t = ![t.val / 64, t.val % 8, t.val / 8 % 8] ∧ t.val < 512 ∧ (grid0.coords t 2).val = t.val % 8 :=
  (by decide +kernel : ∀ t : Fin grid0.N, _)

/-- The queries, keys and values a device starts with. -/
abbrev Qm (c : Dev nD) : FVec Ideal ⟨3, ![8, 4096, 2048]⟩ .bf16 := m ((c.tc : Thread nD τ).loc main_arg0)
abbrev Km (c : Dev nD) : FVec Ideal ⟨3, ![8, 4096, 2048]⟩ .bf16 := m ((c.tc : Thread nD τ).loc main_arg1)
abbrev Vm (c : Dev nD) : FVec Ideal ⟨3, ![8, 4096, 1024]⟩ .bf16 := m ((c.tc : Thread nD τ).loc main_arg2)

/-- The element of the output that lane `d` of row `r` of a point's block is. -/
def row (t : Fin cfg0.N) (r : Fin 512) : Fin 4096 := ⟨512 * (t.val % 8) + r.val, by have := r.isLt; omega⟩
def lane (t : Fin cfg0.N) (d : Fin 128) : Fin 1024 := ⟨128 * (t.val / 8 % 8) + d.val, by have := d.isLt; omega⟩
def batch (t : Fin cfg0.N) : Fin 8 := ⟨t.val / 64, by have := (idx t).2.2.2.2.1; omega⟩

/-- The query block at a point. -/
theorem query_at (c : Dev nD) (t : Fin cfg0.N) (r : Fin 512) (d : Fin 128) (e : Fin 256) :
    (iblk m c 0 t : Vec Ideal S1x512x256 .bf16) (ix3 0 r e) = Qm m c (ix3 (batch t) (row t r) (headLane (lane t d) e)) := by
  have hd := d.isLt
  unfold batch row lane headLane
  blk_ext [iblk, V, idx t]

/-- The key block at a point. -/
theorem key_at (c : Dev nD) (t : Fin cfg0.N) (k : Fin 4096) (d : Fin 128) (e : Fin 256) :
    (iblk m c 1 t : Vec Ideal S1x4096x256 .bf16) (ix3 0 k e) = Km m c (ix3 (batch t) k (headLane (lane t d) e)) := by
  have hd := d.isLt
  unfold batch lane headLane
  blk_ext [iblk, V, idx t]

/-- The value block at a point. -/
theorem value_at (c : Dev nD) (t : Fin cfg0.N) (k : Fin 4096) (d : Fin 128) :
    (iblk m c 2 t : Vec Ideal S1x4096x128 .bf16) (ix3 0 k d) = Vm m c (ix3 (batch t) k (lane t d)) := by
  have hd := d.isLt
  unfold batch lane
  blk_ext [iblk, V, idx t]

/-- The scores of a block row are the scores of its row in the array. -/
theorem rowScore_eq (c : Dev nD) (t : Fin cfg0.N) (r : Fin 512) (d : Fin 128) :
    rowScore (iblk m c 0 t) (iblk m c 1 t) (grid0.coords t 2).val r
      = score (Qm m c) (Km m c) (batch t) (row t r) (lane t d) := by
  funext k
  rw [rowScore, score, (idx t).2.2.2.2.2]
  refine if_congr Iff.rfl (Finset.sum_congr rfl fun e _ => ?_) rfl
  rw [query_at m c t r d e, key_at m c t k d e]

/-- What the body leaves at row `r` and lane `d` of the block of a point, for finite queries and keys. -/
theorem point (c : Dev nD) (hQ : ∀ j, Qm m c j ≠ ⊤ ∧ Qm m c j ≠ ⊥) (hK : ∀ j, Km m c j ≠ ⊤ ∧ Km m c j ≠ ⊥)
    (t : Fin cfg0.N) (r : Fin 512) (d : Fin 128) :
    outsAt0 m c t (ix3 0 r d)
      = attnAt (Qm m c) (Km m c) (Vm m c) (batch t) (row t r) (lane t d) := by
  unfold outsAt0
  rw [block_at]
  have hV : tileValue (iblk m c 2 t) d = fun a x => Vm m c (ix3 (batch t) (pos a x) (lane t d)) := by
    funext a x
    exact value_at m c t (pos a x) d
  have hS : tileScore (iblk m c 0 t) (iblk m c 1 t) (grid0.coords t 2).val r
      = fun a x => score (Qm m c) (Km m c) (batch t) (row t r) (lane t d) (pos a x) := by
    funext a x
    exact congrFun (rowScore_eq m c t r d) (pos a x)
  rw [hV, hS]
  exact run_eq_softAvg (score (Qm m c) (Km m c) (batch t) (row t r) (lane t d)) (fun k => Vm m c (ix3 (batch t) k (lane t d)))
    (score_ne_top _ _ hQ hK _ _ _) (row t r) (score_self_ne_bot _ _ hQ hK _ _ _)

/-- The same at a block index. -/
theorem point_emb (c : Dev nD) (hQ : ∀ j, Qm m c j ≠ ⊤ ∧ Qm m c j ≠ ⊥) (hK : ∀ j, Km m c j ≠ ⊤ ∧ Km m c j ≠ ⊥)
    (t : Fin cfg0.N) (y : S1x512x128.Idx) :
    outsAt0 m c t y = attn (Qm m c) (Km m c) (Vm m c) (((cfg0.win 3).blk t).view.emb y) := by
  have e : (((cfg0.win 3).blk t).view.emb y : S8x4096x1024.Idx) = ix3 (batch t) (row t (y 1)) (lane t (y 2)) := by
    unfold batch row lane
    blk_ext [idx t]
  have ey : y = ix3 0 (y 1) (y 2) := by blk_ext []
  rw [e]
  exact (congrArg (outsAt0 m c t) ey).trans (point m c hQ hK t (y 1) (y 2))

/-- The result array after the run, for finite queries and keys. -/
theorem final (c : Dev nD) (hQ : ∀ j, Qm m c j ≠ ⊤ ∧ Qm m c j ≠ ⊥) (hK : ∀ j, Km m c j ≠ ⊤ ∧ Km m c j ≠ ⊥) :
    (dats m 0 c).arrAt 3 cfg0.N = attn (Qm m c) (Km m c) (Vm m c) := by
  refine (dats m 0 c).arrAt_eq_of_covers 3 _ (by decide +kernel) fun t _ y => ?_
  blk_simp
  rw [after0_3]
  exact point_emb m c hQ hK t y

end Cert.Proof.FlashArray

end
-- ==== Proof.FlashRef.lean ====
/- What the attention reference computes: the softmax average of each row.

   The reference's term is cut at its masked scores and at their shifted exponentials; each piece is read at an index. -/
module

public import proofs.«01_k».proof.Proof.Gen.ReferenceIdeal.Run
public import proofs.«01_k».proof.Proof.FlashStep
public import proofs.«01_k».proof.Proof.Attention
public import Idealize.ShloMosaic.Lib.Tactic.CleanTypes

@[expose] public section

set_option maxRecDepth 16384

noncomputable section

open Idealize.ShloMosaic Idealize.ShloMosaic.TcCoe Idealize.SL.Sem

namespace Cert.Proof.FlashRef

open Cert.ReferenceIdeal Cert.ReferenceIdeal.Gen Cert.ReferenceIdeal.Value Cert.Proof.OnlineSoftmax Cert.Proof.Attention Cert.Proof.FlashStep

/-- The masked scores of all heads. -/
def scores (Q K : FVec Ideal S8x4096x2048 .bf16) : FVec Ideal S8x8x4096x4096 .f32 :=
  select (broadcastInDim S8x8x4096x4096 ![2, 3] bcast_S4096x4096_S8x8x4096x4096_2_3
      (cmpi .sle
        (broadcastInDim S4096x4096 ![0, 1] bcast_S1x4096_S4096x4096_0_1
          (broadcastInDim S1x4096 ![1] bcast_S4096_S1x4096_1 (iotaInDim S4096 32 0)))
        (broadcastInDim S4096x4096 ![0, 1] bcast_S4096x1_S4096x4096_0_1
          (broadcastInDim S4096x1 ![0] bcast_S4096_S4096x1_0 (iotaInDim S4096 32 0)))))
    (Host.dotGeneral dot_S8x4096x8x256_S8x4096x8x256_S8x8x4096x4096_3_3_1_1_02_02 none
      (extf .f32 (shapeCast _ Q shapeCasts_S8x4096x2048_S8x4096x8x256) bitsLt_bf16_f32)
      (extf .f32 (shapeCast _ K shapeCasts_S8x4096x2048_S8x4096x8x256) bitsLt_bf16_f32))
    (broadcastInDim S8x8x4096x4096 ![] bcast_S_S8x8x4096x4096 (id (constant S_ .f32 0xFF800000#32)))

/-- The largest score of each row. -/
def largest (s : FVec Ideal S8x8x4096x4096 .f32) : FVec Ideal S8x8x4096 .f32 :=
  Host.reduce FloatOps.maximumf s (constant S_ .f32 0xFF800000#32) reducesTo_S8x8x4096x4096_S8x8x4096_d3 h_S_

/-- The exponentials of scores `s` shifted by the largest of their row. -/
def exps (s : FVec Ideal S8x8x4096x4096 .f32) : FVec Ideal S8x8x4096x4096 .f32 :=
  Host.exp (subf s (broadcastInDim S8x8x4096x4096 ![0, 1, 2, 3] bcast_S8x8x4096x1_S8x8x4096x4096_0_1_2_3
    (broadcastInDim S8x8x4096x1 ![0, 1, 2] bcast_S8x8x4096_S8x8x4096x1_0_1_2
      (maximumf (broadcastInDim S8x8x4096 ![] bcast_S_S8x8x4096 (constant S_ .f32 0xFF800000#32)) (largest s)))))

/-- The values averaged with the weights `e` divided by their row sums. -/
def average (V : FVec Ideal S8x4096x1024 .bf16) (e : FVec Ideal S8x8x4096x4096 .f32) : FVec Ideal S8x4096x1024 .bf16 :=
  truncf .bf16 (shapeCast _ (transpose S8x4096x8x128 [0, 3, 1, 2]
    (Host.dotGeneral dot_S8x4096x8x128_S8x8x4096x4096_S8x8x128x4096_1_3_3_2_02_01 none
      (extf .f32 (shapeCast _ V shapeCasts_S8x4096x1024_S8x4096x8x128) bitsLt_bf16_f32)
      (Host.divf e (broadcastInDim S8x8x4096x4096 ![0, 1, 2, 3] bcast_S8x8x4096x1_S8x8x4096x4096_0_1_2_3
        (broadcastInDim S8x8x4096x1 ![0, 1, 2] bcast_S8x8x4096_S8x8x4096x1_0_1_2
          (Host.reduceAdd e (constant S_ .f32 0x00000000#32) reducesTo_S8x8x4096x4096_S8x8x4096_d3 h_S_)))))
    transposes_S8x8x128x4096_S8x4096x8x128_0_3_1_2) shapeCasts_S8x4096x8x128_S8x4096x1024) bitsLt_bf16_f32

/-- A masked score at an index. -/
theorem scores_at (Q K : FVec Ideal S8x4096x2048 .bf16) (b h : Fin 8) (r k : Fin 4096) :
    scores Q K (ix4 b h r k) = if k.val ≤ r.val then
      ∑ e : Fin 256, Q (ix3 b r ⟨h.val * 256 + e.val, by have := h.isLt; have := e.isLt; omega⟩)
        * K (ix3 b k ⟨h.val * 256 + e.val, by have := h.isLt; have := e.isLt; omega⟩) else ⊥ := by
  have hb : ∀ h : S_.Idx, (constant (F := Ideal) S_ .f32 0xFF800000#32) h = ⊥ := fun _ => ofBits_ninf
  unfold scores
  pointwise
  simp only [id_eq, hb, select_sle 4096 (by norm_num)]

/-- The largest entry along the last axis, at an index, for any sizes. -/
theorem reduce_max_at {n0 n1 n2 n3 : ℕ} (s : FVec Ideal ⟨4, ![n0, n1, n2, n3]⟩ .f32)
    (hr : (⟨4, ![n0, n1, n2, n3]⟩ : Shape).ReducesTo [3] (⟨3, ![n0, n1, n2]⟩ : Shape))
    (hu : 0 < (⟨0, ![]⟩ : Shape).numel) (b : Fin n0) (h : Fin n1) (r : Fin n2) :
    Host.reduce FloatOps.maximumf s (constant (⟨0, ![]⟩ : Shape) .f32 0xFF800000#32) hr hu (ix3 b h r)
      = top fun k => s (ix4 b h r k) := by
  rw [Host.reduce_eq_fold, hr.fold_fiber_r4_a3]
  exact congrArg (fun z => Finset.fold max z (fun k => s (ix4 b h r k)) Finset.univ) ofBits_ninf

/-- A largest score at an index. -/
theorem largest_at (s : FVec Ideal S8x8x4096x4096 .f32) (b h : Fin 8) (r : Fin 4096) :
    largest s (ix3 b h r) = top fun k => s (ix4 b h r k) :=
  reduce_max_at s _ _ b h r

/-- A row quantity repeated along the keys, at an index. -/
theorem along_at (g : FVec Ideal S8x8x4096 .f32) (b h : Fin 8) (r k : Fin 4096) :
    (broadcastInDim S8x8x4096x4096 ![0, 1, 2, 3] bcast_S8x8x4096x1_S8x8x4096x4096_0_1_2_3
      (broadcastInDim S8x8x4096x1 ![0, 1, 2] bcast_S8x8x4096_S8x8x4096x1_0_1_2 g)) (ix4 b h r k) = g (ix3 b h r) := by
  pointwise

/-- A largest score with `⊥` at an index: the score itself. -/
theorem floor_at (g : FVec Ideal S8x8x4096 .f32) (b h : Fin 8) (r : Fin 4096) :
    maximumf (broadcastInDim S8x8x4096 ![] bcast_S_S8x8x4096 (constant S_ .f32 0xFF800000#32)) g (ix3 b h r)
      = g (ix3 b h r) := by
  pointwise
  rw [ofBits_ninf, max_bot_left]

/-- An exponential of a difference at an index. -/
theorem exp_sub_at (s g : FVec Ideal S8x8x4096x4096 .f32) (b h : Fin 8) (r k : Fin 4096) :
    Host.exp (subf s g) (ix4 b h r k) = Ideal.exp (s (ix4 b h r k) - g (ix4 b h r k)) := by
  pointwise

/-- A shifted exponential at an index. -/
theorem exps_at (s : FVec Ideal S8x8x4096x4096 .f32) (b h : Fin 8) (r k : Fin 4096) :
    exps s (ix4 b h r k) = Ideal.exp (s (ix4 b h r k) - top fun k' => s (ix4 b h r k')) := by
  unfold exps
  rw [exp_sub_at, along_at, floor_at, largest_at]

/-- The average at an index. -/
theorem average_at (V : FVec Ideal S8x4096x1024 .bf16) (e : FVec Ideal S8x8x4096x4096 .f32) (b : Fin 8) (r : Fin 4096)
    (d : Fin 1024) :
    average V e (ix3 b r d) = ∑ k : Fin 4096, V (ix3 b k d)
      * Ideal.div (e (ix4 b ⟨d.val / 128, by have := d.isLt; omega⟩ r k))
          (∑ k' : Fin 4096, e (ix4 b ⟨d.val / 128, by have := d.isLt; omega⟩ r k')) := by
  unfold average
  pointwise

/-- The reference's term in pieces. -/
theorem result_pieces (m : (ℓ : Loc nD τ sig) → Buf (Elt Ideal) ℓ) (c : Dev nD) :
    res_main_v28 m c = average (m ((c.tc : Thread nD τ).loc main_arg2))
      (exps (scores (m ((c.tc : Thread nD τ).loc main_arg0)) (m ((c.tc : Thread nD τ).loc main_arg1)))) := rfl

/-- The reference's result is the attention of its arguments. -/
theorem result_eq (m : (ℓ : Loc nD τ sig) → Buf (Elt Ideal) ℓ) (c : Dev nD) :
    (res_main_v28 m c : FVec Ideal ⟨3, ![8, 4096, 1024]⟩ .bf16)
      = attn (m ((c.tc : Thread nD τ).loc main_arg0)) (m ((c.tc : Thread nD τ).loc main_arg1))
          (m ((c.tc : Thread nD τ).loc main_arg2)) := by
  rw [result_pieces]
  funext j
  idx_vars j
  rw [average_at]
  simp only [exps_at, scores_at]
  rfl

end Cert.Proof.FlashRef

end
-- ==== Proof.Finite.lean ====
/- What the stated precondition says of the queries and keys: no lane is infinite. -/
module

public import proofs.«01_k».proof.Defs
public import Idealize.ShloMosaic.Lib.Pointwise
public import Idealize.ShloMosaic.Lib.WordCmp

@[expose] public section

noncomputable section

open Idealize.ShloMosaic Idealize.ShloMosaic.TcCoe Idealize.SL.Sem

namespace Cert.Proof.Finite

open Cert.Pre_scores_finite

/-- The side conditions of the precondition's own text. -/
theorem facts : Cert.Pre_scores_finite.Facts where
  bcast_S_S8x4096x2048 := by decide +kernel

instance : Cert.Pre_scores_finite.Facts := facts

/-- The word of plus infinity denotes `⊤`. -/
theorem ofBits_pinf : Ideal.ofBits .bf16 0x7F80#16 = ⊤ := by
  simp [Ideal.ofBits, Ideal.ieee]

/-- An extended real whose absolute value is below `⊤` is finite. -/
theorem finite_of_abs_lt {x : EReal} (h : max x (-x) < ⊤) : x ≠ ⊤ ∧ x ≠ ⊥ := by
  refine ⟨fun e => ?_, fun e => ?_⟩ <;> subst e <;> simp at h

/-- Where the precondition holds, each query lane and each key lane is finite. -/
theorem finite_of_pre (Q K : FVec Ideal S8x4096x2048 .bf16) (V : FVec Ideal S8x4096x1024 .bf16)
    (h : fn Q K V = fun _ => 1#1) : (∀ j, Q j ≠ ⊤ ∧ Q j ≠ ⊥) ∧ ∀ j, K j ≠ ⊤ ∧ K j ≠ ⊥ := by
  have key : ∀ j, (max (Q j) (-Q j) < ⊤) ∧ (max (K j) (-K j) < ⊤) := fun j => by
    have e := congrFun h j
    have e' : IntOp.andi (Ideal.cmp .olt (max (Q j) (-Q j)) (Ideal.ofBits .bf16 0x7F80#16))
        (Ideal.cmp .olt (max (K j) (-K j)) (Ideal.ofBits .bf16 0x7F80#16)) = 1#1 := e
    rw [ofBits_pinf] at e'
    simp only [Ideal.cmp, IntOp.andi] at e'
    by_cases hq : max (Q j) (-Q j) < ⊤ <;> by_cases hk : max (K j) (-K j) < ⊤ <;> simp_all
  exact ⟨fun j => finite_of_abs_lt (key j).1, fun j => finite_of_abs_lt (key j).2⟩

end Cert.Proof.Finite

end
-- ==== Proof.FlashEq.lean ====
/- The attention kernel's result array is the reference's result. -/
module

public import proofs.«01_k».proof.Proof.FlashArray
public import proofs.«01_k».proof.Proof.FlashRef
public import proofs.«01_k».proof.Proof.Finite

@[expose] public section

noncomputable section

open Idealize.ShloMosaic Idealize.ShloMosaic.TcCoe Idealize.SL.Sem

namespace Cert.Proof.FlashEq

/-- From memories that agree on the arguments, with finite queries and keys, both results are the same array. -/
theorem results_eq
    (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ)
    (hpre : Pre_KernelIdeal_scores_finite m)
    (hag : ∀ c : Dev KernelIdeal.nD,
      m' ((c.tc : Thread ReferenceIdeal.nD ReferenceIdeal.τ).loc ReferenceIdeal.main_arg0)
          = m ((c.tc : Thread KernelIdeal.nD KernelIdeal.τ).loc KernelIdeal.main_arg0)
        ∧ m' ((c.tc : Thread ReferenceIdeal.nD ReferenceIdeal.τ).loc ReferenceIdeal.main_arg1)
          = m ((c.tc : Thread KernelIdeal.nD KernelIdeal.τ).loc KernelIdeal.main_arg1)
        ∧ m' ((c.tc : Thread ReferenceIdeal.nD ReferenceIdeal.τ).loc ReferenceIdeal.main_arg2)
          = m ((c.tc : Thread KernelIdeal.nD KernelIdeal.τ).loc KernelIdeal.main_arg2))
    (c : Dev KernelIdeal.nD) :
    ReferenceIdeal.Value.res_main_v28 m' c = (KernelIdeal.Gen.dats m 0 c).arrAt 3 KernelIdeal.cfg0.N := by
  obtain ⟨hQ, hK⟩ := Finite.finite_of_pre _ _ _ (hpre c)
  refine Eq.trans ?_ (FlashArray.final m c hQ hK).symm
  refine (FlashRef.result_eq m' c).trans ?_
  obtain ⟨h0, h1, h2⟩ := hag c
  rw [h0, h1, h2]

end Cert.Proof.FlashEq

end
-- ==== Proof.FeedForward.lean ====
/- The residual half-step of the SwiGLU feed-forward layer, written as one formula per element. -/
module

public import Idealize.ShloMosaic.Lib.Pointwise
public import Idealize.ShloMosaic.Lib.Pipeline.ValueKit

@[expose] public section

noncomputable section

open Idealize.ShloMosaic

namespace Cert.Proof.FeedForward

/-- A row scaled by the inverse root of its mean square and by the layer's weights. -/
def normed (x w : Fin 1024 → EReal) (e : Fin 1024) : EReal :=
  x e * Ideal.rsqrt (Ideal.div (∑ e' : Fin 1024, x e' * x e') (Ideal.ofBits .f32 0x44800000#32)
    + Ideal.ofBits .f32 0x358637BD#32) * w e

/-- The gate `g / (1 + exp (-g))`, as a product with the logistic function. -/
def gated (g : EReal) : EReal := g * Ideal.div 1 (1 + Ideal.exp (-g))

/-- A hidden lane from the products of the row with a gate column and with an up column. -/
def hiddenOf (y gc uc : Fin 1024 → EReal) : EReal :=
  gated (∑ e : Fin 1024, y e * gc e) * ∑ e : Fin 1024, y e * uc e

/-- Column `n` of the gate half of the weights. -/
def gateLane (n : Fin 2816) : Fin 5632 := ⟨n.val, by have := n.isLt; omega⟩

/-- Column `n` of the up half of the weights. -/
def upLane (n : Fin 2816) : Fin 5632 := ⟨2816 + n.val, by have := n.isLt; omega⟩

/-- Hidden lane `n` of a normed row `y`. -/
def hidden (y : Fin 1024 → EReal) (G : Fin 1024 → Fin 5632 → EReal) (n : Fin 2816) : EReal :=
  hiddenOf y (fun e => G e (gateLane n)) fun e => G e (upLane n)

/-- The layer's output at lane `d` of a row `x`. -/
def outAt (x w : Fin 1024 → EReal) (G : Fin 1024 → Fin 5632 → EReal) (D : Fin 2816 → Fin 1024 → EReal) (d : Fin 1024) : EReal :=
  x d + Ideal.ofBits .f32 0x3F000000#32 * ∑ n : Fin 2816, hidden (normed x w) G n * D n d

/-- The layer's output. -/
def out (x : FVec Ideal ⟨2, ![32768, 1024]⟩ .f32) (w : FVec Ideal ⟨1, ![1024]⟩ .f32) (G : FVec Ideal ⟨2, ![1024, 5632]⟩ .f32)
    (D : FVec Ideal ⟨2, ![2816, 1024]⟩ .f32) : FVec Ideal ⟨2, ![32768, 1024]⟩ .f32 :=
  fun j => outAt (fun e => x (ix2 (j 0) e)) (fun e => w (ix1 e)) (fun e n => G (ix2 e n)) (fun n d => D (ix2 n d)) (j 1)

/-- The layer's output with the final norm. -/
def lastOut (x : FVec Ideal ⟨2, ![32768, 1024]⟩ .f32) (w : FVec Ideal ⟨1, ![1024]⟩ .f32)
    (G : FVec Ideal ⟨2, ![1024, 5632]⟩ .f32) (D : FVec Ideal ⟨2, ![2816, 1024]⟩ .f32) (f : FVec Ideal ⟨1, ![1024]⟩ .f32) :
    FVec Ideal ⟨2, ![32768, 1024]⟩ .f32 :=
  fun j => normed (fun e => out x w G D (ix2 (j 0) e)) (fun e => f (ix1 e)) (j 1)

/-- Dividing by one plus an exponential is multiplying by its reciprocal. -/
theorem div_eq_gated (g : EReal) : Ideal.div g (1 + Ideal.exp (0 - g)) = gated g := by
  have h0 : (0 : EReal) ≤ Ideal.exp (-g) := by
    induction g using EReal.rec with
    | bot => simp [Ideal.exp_top]
    | top => simp [Ideal.exp_bot]
    | coe x => rw [← EReal.coe_neg, Ideal.exp_coe]; exact_mod_cast (Real.exp_pos _).le
  have h1 : 1 + Ideal.exp (-g) ≠ 0 := fun e => by
    have : (1 : EReal) ≤ 1 + Ideal.exp (-g) := le_add_of_nonneg_right h0
    rw [e] at this
    exact absurd this (by norm_num)
  rw [gated, zero_sub]
  unfold Ideal.div
  rw [if_neg h1, if_neg h1, one_mul]

/-- The lane of the hidden layer that position `n` of chunk `c` is. -/
def chunkLane (c : ℕ) (n : Fin 256) : Fin 2816 := ⟨(256 * c + n.val) % 2816, Nat.mod_lt _ (by norm_num)⟩

/-- The position itself, for a chunk that exists. -/
theorem chunkLane_val {c : ℕ} (hc : c < 11) (n : Fin 256) : (chunkLane c n).val = 256 * c + n.val :=
  Nat.mod_eq_of_lt (by have := n.isLt; omega)

/-- The sum of the hidden lanes of the chunks before `c`. -/
def partialSum (f : Fin 2816 → EReal) : ℕ → EReal
  | 0 => 0
  | c + 1 => partialSum f c + ∑ n : Fin 256, f (chunkLane c n)

/-- All eleven chunks are all hidden lanes. -/
theorem partialSum_all (f : Fin 2816 → EReal) : partialSum f 11 = ∑ n : Fin 2816, f n := by
  have h : ∀ c, partialSum f c = ∑ t ∈ Finset.range c, ∑ n : Fin 256, f (chunkLane t n) := fun c => by
    induction c with
    | zero => rfl
    | succ c ih => rw [Finset.sum_range_succ, ← ih]; rfl
  rw [h, Finset.sum_range, Fin.sum_univ_tiles 11 256 (by norm_num) f]
  refine Finset.sum_congr rfl fun t _ => Finset.sum_congr rfl fun n _ => congrArg f (Fin.ext ?_)
  rw [chunkLane_val t.isLt]
  simp [Nat.mul_comm]

end Cert.Proof.FeedForward

end
-- ==== Proof.FfnStep.lean ====
/- What the feed-forward kernel's payloads are, element by element. -/
module

public import proofs.«01_k».proof.Proof.Gen.FfnIdeal.Skeleton
public import proofs.«01_k».proof.Proof.FeedForward

@[expose] public section

set_option maxRecDepth 16384

noncomputable section

open Idealize.ShloMosaic Idealize.ShloMosaic.TcCoe Idealize.SL.Sem

namespace Cert.Proof.FfnStep

open Cert.FfnIdeal Cert.FfnIdeal.Gen Cert.Proof.FeedForward

/-- The normed row. -/
theorem norm_at (x : Vec Ideal S1024x1024 .f32) (w : Vec Ideal S1x1024 .f32) (r e : Fin 1024) :
    k0_pay1 x w (ix2 r e) = normed (fun e' => x (ix2 r e')) (fun e' => w (ix2 0 e')) e := by
  unfold k0_pay1 normed
  pointwise

/-- The accumulator starts at zero. -/
theorem zero_at (r d : Fin 1024) : (k0_pay2 (F := Ideal)) (ix2 r d) = 0 := by
  unfold k0_pay2
  pointwise

/-- A chunk adds the products of its hidden lanes with its rows of the down weights. -/
theorem chunk_at (y : Vec Ideal S1024x1024 .bf16) (gu : Vec Ideal S1x1024x512 .bf16) (acc : Vec Ideal S1024x1024 .f32)
    (dn : Vec Ideal S1x256x1024 .bf16) (r d : Fin 1024) :
    k0_pay3 y gu acc dn (ix2 r d) = acc (ix2 r d) + ∑ n : Fin 256,
      hiddenOf (fun e => y (ix2 r e)) (fun e => gu (ix3 0 e ⟨n.val, by have := n.isLt; omega⟩))
        (fun e => gu (ix3 0 e ⟨256 + n.val, by have := n.isLt; omega⟩)) * dn (ix3 0 n d) := by
  unfold k0_pay3 hiddenOf
  pointwise
  simp only [div_eq_gated]

/-- The half-step. -/
theorem out_at (x acc : Vec Ideal S1024x1024 .f32) (r d : Fin 1024) :
    k0_pay4 x acc (ix2 r d) = x (ix2 r d) + Ideal.ofBits .f32 0x3F000000#32 * acc (ix2 r d) := by
  unfold k0_pay4
  pointwise

end Cert.Proof.FfnStep

end
-- ==== Proof.FfnBlock.lean ====
/- What the feed-forward kernel leaves in its output block at a grid point.

   The accumulator starts at zero and each trip of the counted loop adds one chunk of hidden lanes, so after the eleven
   trips it holds the sum over all hidden lanes. -/
module

public import proofs.«01_k».proof.Proof.Gen.FfnIdeal.Value
public import proofs.«01_k».proof.Proof.FfnStep
public import Idealize.ShloMosaic.Lib.Pipeline.ValueKit
public import Idealize.ShloMosaic.Lib.VecWindow

@[expose] public section

set_option maxRecDepth 16384

noncomputable section

open Idealize.ShloMosaic Idealize.ShloMosaic.TcCoe Idealize.ShloMosaic.Tactic Idealize.SL.Sem

namespace Cert.Proof.FfnBlock

open Cert.FfnIdeal Cert.FfnIdeal.Gen Cert.Proof.FeedForward Cert.Proof.FfnStep

/-- A whole rank-two block starts at the origin. -/
theorem origin2 : (![0, 0] : Fin 2 → Nat) = fun _ => 0 := funext fun a => by fin_cases a <;> rfl

/-- The loop runs once per chunk. -/
theorem trips_eq : k0_t1_loop.trips = 11 := by decide +kernel

variable (x0 : Vec Ideal S1024x1024 .f32) (x1 : Vec Ideal S1x1024 .f32) (x2 : Vec Ideal S11x1024x512 .bf16)
  (x3 : Vec Ideal S11x256x1024 .bf16)

/-- The chunk a hidden lane is in. -/
def chunkOf (n : Fin 2816) : Fin 11 := ⟨n.val / 256, by have := n.isLt; omega⟩

/-- The gate column of a hidden lane among the columns of its chunk. -/
def gateCol (n : Fin 2816) : Fin 512 := ⟨n.val % 256, by omega⟩

/-- The up column of a hidden lane among the columns of its chunk. -/
def upCol (n : Fin 2816) : Fin 512 := ⟨256 + n.val % 256, by omega⟩

/-- The row of a hidden lane among the down rows of its chunk. -/
def downRow (n : Fin 2816) : Fin 256 := ⟨n.val % 256, by omega⟩

/-- What hidden lane `n` adds to lane `d` of row `r`. -/
def term (r d : Fin 1024) (n : Fin 2816) : EReal :=
  hiddenOf (normed (fun e => x0 (ix2 r e)) fun e => x1 (ix2 0 e)) (fun e => x2 (ix3 (chunkOf n) e (gateCol n)))
    (fun e => x2 (ix3 (chunkOf n) e (upCol n))) * x3 (ix3 (chunkOf n) (downRow n) d)

/-- Reading chunk `c` of the gate and up weights. -/
theorem gate_chunk (c : Fin 11) (off : Fin 3 → ℕ) (h : off = ![c.val, 0, 0])
    (inb : ∀ a, off a + S1x1024x512.size a ≤ S11x1024x512.size a) (e : Fin 1024) (n : Fin 512) :
    View.ld x2 (Rect.unit off ![1, 1024, 512] inb) (ix3 0 e n) = x2 (ix3 c e n) := by
  subst h
  pointwise

/-- Reading chunk `c` of the down weights. -/
theorem down_chunk (c : Fin 11) (off : Fin 3 → ℕ) (h : off = ![c.val, 0, 0])
    (inb : ∀ a, off a + S1x256x1024.size a ≤ S11x256x1024.size a) (n : Fin 256) (d : Fin 1024) :
    View.ld x3 (Rect.unit off ![1, 256, 1024] inb) (ix3 0 n d) = x3 (ix3 c n d) := by
  subst h
  pointwise

/-- One trip adds the terms of its chunk. -/
theorem step_at (c : Fin 11) (y : Vec Ideal S1024x1024 .bf16) (hy : y = k0_pay1 x0 x1)
    (gu : Vec Ideal S1x1024x512 .bf16) (hg : ∀ e n, gu (ix3 0 e n) = x2 (ix3 c e n))
    (dn : Vec Ideal S1x256x1024 .bf16) (hd : ∀ n d, dn (ix3 0 n d) = x3 (ix3 c n d))
    (acc : Vec Ideal S1024x1024 .f32) (r d : Fin 1024)
    (ha : acc (ix2 r d) = partialSum (term x0 x1 x2 x3 r d) c.val) :
    k0_pay3 y gu acc dn (ix2 r d) = partialSum (term x0 x1 x2 x3 r d) (c.val + 1) := by
  subst hy
  rw [chunk_at, ha, partialSum]
  refine congrArg (partialSum (term x0 x1 x2 x3 r d) c.val + ·) (Finset.sum_congr rfl fun n _ => ?_)
  have hn := n.isLt
  have hv := chunkLane_val c.isLt n
  have h1 : chunkOf (chunkLane c.val n) = c := Fin.ext (by simp only [chunkOf, hv]; omega)
  have h2 : gateCol (chunkLane c.val n) = ⟨n.val, by omega⟩ := Fin.ext (by simp only [gateCol, hv]; omega)
  have h3 : upCol (chunkLane c.val n) = ⟨256 + n.val, by omega⟩ := Fin.ext (by simp only [upCol, hv]; omega)
  have h4 : downRow (chunkLane c.val n) = n := Fin.ext (by simp only [downRow, hv]; omega)
  simp only [term, h1, h2, h3, h4, norm_at, hg, hd]

variable (c : Dev nD) (i : grid0.Coords) (arg1 : Memref sig .tc .vmem S1024x1024 .f32) (harg1 : arg1.IsWhole)
  (arg2 : Memref sig .tc .vmem S1x1024 .f32) (harg2 : arg2.IsWhole) (arg3 : Memref sig .tc .vmem S11x1024x512 .bf16)
  (harg3 : arg3.IsWhole) (arg4 : Memref sig .tc .vmem S11x256x1024 .bf16) (harg4 : arg4.IsWhole)
  (arg5 : Memref sig .tc .vmem S1024x1024 .f32) (harg5 : arg5.IsWhole) (arg6 : Memref sig .tc .vmem S1024x1024 .bf16)
  (harg6 : arg6.IsWhole) (arg7 : Memref sig .tc .vmem S1024x1024 .f32) (harg7 : arg7.IsWhole)

/-- After `j` trips the accumulator holds the terms of the first `j` chunks. -/
theorem loop_at (X6 : BufTy.Contents (Elt Ideal) arg6.view.ty) (h6 : arg6.view.read (Elt Ideal) X6 = k0_pay1 x0 x1)
    (G : BufTy.Contents (Elt Ideal) arg7.view.ty) (hG : arg7.view.read (Elt Ideal) G = k0_pay2 (F := Ideal))
    (r d : Fin 1024) (j : ℕ) (hj : j ≤ 11) :
    arg7.view.read (Elt Ideal) (arg7.view.writes (Elt Ideal) G (pb_k0_t1 (F := Ideal) Variants.none c none i arg1 harg1 arg2
      harg2 arg3 harg3 arg4 harg4 arg5 harg5 arg6 harg6 arg7 harg7 (harg3.unread x2) (harg4.unread x3) X6 G j)) (ix2 r d)
      = partialSum (term x0 x1 x2 x3 r d) j := by
  induction j with
  | zero => exact (congrFun hG (ix2 r d)).trans (zero_at r d)
  | succ j ih =>
    have hlt : j < k0_t1_loop.trips := by rw [trips_eq]; omega
    have hj' : j < 11 := by omega
    have e := pb_k0_t1_succ (F := Ideal) Variants.none c none i arg1 harg1 arg2 harg2 arg3 harg3 arg4 harg4 arg5 harg5 arg6
      harg6 arg7 harg7 (harg3.unread x2) (harg4.unread x3) X6 G ⟨j, hlt⟩
    rw [show j + 1 = (⟨j, hlt⟩ : Fin k0_t1_loop.trips).val + 1 from rfl, e]
    unfold tripL_k0_t1 trip_k0_t1
    dsimp only
    rw [List.singleton_append]
    refine (congrFun (View.read_writes_full arg7.view G _ _ _) (ix2 r d)).trans ?_
    refine step_at x0 x1 x2 x3 ⟨j, hj'⟩ _ ?_ _ ?_ _ ?_ _ r d ?_
    · exact (View.readAt_full arg6.view X6 _).trans h6
    · intro e n
      rw [View.readAt_eq_ld, harg3.read_unread]
      exact gate_chunk x2 ⟨j, hj'⟩ _ (k0_off1_eq ⟨j, hlt⟩) _ e n
    · intro n d
      rw [View.readAt_eq_ld, harg4.read_unread]
      exact down_chunk x3 ⟨j, hj'⟩ _ (k0_off2_eq ⟨j, hlt⟩) _ n d
    · exact (congrFun (View.readAt_full arg7.view _ _) (ix2 r d)).trans (ih (by omega))

/-- The block after the body: the row with half the sum of its terms added. -/
theorem block_at (r d : Fin 1024) :
    out0_A_4 c i arg1 harg1 arg2 harg2 arg3 harg3 arg4 harg4 arg5 harg5 arg6 harg6 arg7 harg7 x0 x1 x2 x3 (ix2 r d)
      = x0 (ix2 r d) + Ideal.ofBits .f32 0x3F000000#32 * ∑ n : Fin 2816, term x0 x1 x2 x3 r d n := by
  unfold out0_A_4
  rw [View.read_writes_eq_canon _ _ _ (cover0_A_4 c i arg1 harg1 arg2 harg2 arg3 harg3 arg4 harg4 arg5 harg5 arg6 harg6 arg7
    harg7 x0 x1 x2 x3)]
  unfold kernelRun0_A
  dsimp only
  unfold kernelRun0_A.sl.v25
  dsimp only
  rw [View.canon_unit_zero origin2]
  simp only [View.readAt_eq_ld, harg1.read_unread, View.ld_unit_zero (S := S1024x1024) origin2]
  rw [out_at, ← partialSum_all]
  refine congrArg (fun z => x0 (ix2 r d) + Ideal.ofBits .f32 0x3F000000#32 * z) ?_
  unfold View.readCov
  rw [View.writes_append]
  refine (congrFun (View.readAt_full arg7.view _ _) (ix2 r d)).trans ?_
  refine loop_at x0 x1 x2 x3 c i arg1 harg1 arg2 harg2 arg3 harg3 arg4 harg4 arg5 harg5 arg6 harg6 arg7 harg7 _ ?_ _ ?_ r d _
    le_rfl
  · unfold kernelRun0_A.sl.HS0_1
    refine (View.read_writes_full arg6.view _ _ _ _).trans ?_
    simp only [View.readAt_eq_ld, harg1.read_unread, harg2.read_unread, View.ld_unit_zero (S := S1024x1024) origin2,
      View.ld_unit_zero (S := S1x1024) origin2]
  · unfold kernelRun0_A.sl.HS1_1
    exact View.read_writes_full arg7.view _ _ _ _

end Cert.Proof.FfnBlock

end
-- ==== Proof.FfnArray.lean ====
/- What the feed-forward kernel's result array holds after the run: the feed-forward step of the argument arrays. -/
module

public import proofs.«01_k».proof.Proof.FfnBlock

@[expose] public section

set_option maxRecDepth 16384

noncomputable section

open Idealize.ShloMosaic Idealize.ShloMosaic.TcCoe Idealize.ShloMosaic.Tactic Idealize.SL.Sem
open Idealize.ShloMosaic.Pipeline (Dat)

namespace Cert.Proof.FfnArray

open Cert.FfnIdeal Cert.FfnIdeal.Gen Cert.Proof.FeedForward Cert.Proof.FfnBlock

variable (m : (ℓ : Loc nD τ sig) → Buf (Elt Ideal) ℓ)

/-- The block each window holds at a grid point. -/
theorem idx : ∀ t : Fin cfg0.N, win0_0.index t = ![t.val, 0] ∧ win0_1.index t = ![0, 0] ∧ win0_2.index t = ![0, 0, 0]
      ∧ win0_3.index t = ![0, 0, 0] ∧ win0_4.index t = ![t.val, 0] ∧ t.val < 32 :=
  (by decide +kernel : ∀ t : Fin grid0.N, _)

/-- The rows, the norm's weights, the gate and up weights and the down weights a device starts with. -/
abbrev Xm (c : Dev nD) : FVec Ideal ⟨2, ![32768, 1024]⟩ .f32 := m ((c.tc : Thread nD τ).loc main_arg0)
abbrev Wm (c : Dev nD) : FVec Ideal ⟨1, ![1024]⟩ .f32 := m ((c.tc : Thread nD τ).loc main_arg1)
abbrev Gm (c : Dev nD) : FVec Ideal ⟨2, ![1024, 5632]⟩ .f32 := m ((c.tc : Thread nD τ).loc main_arg2)
abbrev Dm (c : Dev nD) : FVec Ideal ⟨2, ![2816, 1024]⟩ .f32 := m ((c.tc : Thread nD τ).loc main_arg3)

/-- The row of the array that row `r` of a point's block is. -/
def row (t : Fin cfg0.N) (r : Fin 1024) : Fin 32768 :=
  ⟨1024 * t.val + r.val, by have := r.isLt; have := (idx t).2.2.2.2.2; omega⟩

/-- The block of rows at a point. -/
theorem rows_at (c : Dev nD) (t : Fin cfg0.N) (r e : Fin 1024) :
    (iblk m c 0 t : Vec Ideal S1024x1024 .f32) (ix2 r e) = Xm m c (ix2 (row t r) e) := by
  unfold row
  blk_ext [iblk, V, idx t]

/-- The norm's weights as the kernel is handed them. -/
theorem weights_entry (c : Dev nD) (e : Fin 1024) :
    (V m c main_v9 : Vec Ideal S1x1024 .f32) (ix2 0 e) = Wm m c (ix1 e) := by
  entry_read
  pointwise

/-- The block of the norm's weights at a point. -/
theorem weights_at (c : Dev nD) (t : Fin cfg0.N) (e : Fin 1024) :
    (iblk m c 1 t : Vec Ideal S1x1024 .f32) (ix2 0 e) = Wm m c (ix1 e) := by
  rw [← weights_entry m c e]
  blk_ext [iblk, idx t]

/-- The down weights as the kernel is handed them. -/
theorem down_entry (c : Dev nD) (n : Fin 2816) (d : Fin 1024) :
    (V m c main_v8 : Vec Ideal S11x256x1024 .bf16) (ix3 (chunkOf n) (downRow n) d) = Dm m c (ix2 n d) := by
  entry_read
  pointwise
  refine congrArg (fun k => Dm m c (ix2 k d)) (Fin.ext ?_)
  simp only [chunkOf, downRow]
  omega

/-- The block of the down weights at a point. -/
theorem down_at (c : Dev nD) (t : Fin cfg0.N) (n : Fin 2816) (d : Fin 1024) :
    (iblk m c 3 t : Vec Ideal S11x256x1024 .bf16) (ix3 (chunkOf n) (downRow n) d) = Dm m c (ix2 n d) := by
  rw [← down_entry m c n d]
  blk_ext [iblk, idx t]

/-- The gate columns as the kernel is handed them. -/
theorem gate_entry (c : Dev nD) (n : Fin 2816) (e : Fin 1024) :
    (V m c main_v6 : Vec Ideal S11x1024x512 .bf16) (ix3 (chunkOf n) e (gateCol n)) = Gm m c (ix2 e (gateLane n)) := by
  entry_read
  pointwise
  rw [dif_pos (show (gateCol n).val < 256 from Nat.mod_lt _ (by norm_num))]
  refine congrArg (fun k => Gm m c (ix2 e k)) (Fin.ext ?_)
  simp only [chunkOf, gateCol, gateLane]
  omega

/-- The up columns as the kernel is handed them. -/
theorem up_entry (c : Dev nD) (n : Fin 2816) (e : Fin 1024) :
    (V m c main_v6 : Vec Ideal S11x1024x512 .bf16) (ix3 (chunkOf n) e (upCol n)) = Gm m c (ix2 e (upLane n)) := by
  entry_read
  pointwise
  rw [dif_neg (show ¬ (upCol n).val < 256 from Nat.not_lt.mpr (Nat.le_add_right 256 _))]
  refine congrArg (fun k => Gm m c (ix2 e k)) (Fin.ext ?_)
  simp only [chunkOf, upCol, upLane]
  omega

/-- The gate columns in the block at a point. -/
theorem gate_at (c : Dev nD) (t : Fin cfg0.N) (n : Fin 2816) (e : Fin 1024) :
    (iblk m c 2 t : Vec Ideal S11x1024x512 .bf16) (ix3 (chunkOf n) e (gateCol n)) = Gm m c (ix2 e (gateLane n)) := by
  rw [← gate_entry m c n e]
  blk_ext [iblk, idx t]

/-- The up columns in the block at a point. -/
theorem up_at (c : Dev nD) (t : Fin cfg0.N) (n : Fin 2816) (e : Fin 1024) :
    (iblk m c 2 t : Vec Ideal S11x1024x512 .bf16) (ix3 (chunkOf n) e (upCol n)) = Gm m c (ix2 e (upLane n)) := by
  rw [← up_entry m c n e]
  blk_ext [iblk, idx t]

/-- What the body leaves at row `r` and lane `d` of the block of a point. -/
theorem point (c : Dev nD) (t : Fin cfg0.N) (r d : Fin 1024) :
    outsAt0 m c t (ix2 r d) = out (Xm m c) (Wm m c) (Gm m c) (Dm m c) (ix2 (row t r) d) := by
  unfold outsAt0
  rw [block_at, rows_at m c t r d]
  show _ = Xm m c (ix2 (row t r) d) + _ * _
  refine congrArg (fun z => Xm m c (ix2 (row t r) d) + Ideal.ofBits .f32 0x3F000000#32 * z)
    (Finset.sum_congr rfl fun n _ => ?_)
  rw [term, FeedForward.hidden, down_at m c t n d]
  simp only [rows_at m c t, weights_at m c t, gate_at m c t, up_at m c t]
  rfl

/-- The same at a block index. -/
theorem point_emb (c : Dev nD) (t : Fin cfg0.N) (y : S1024x1024.Idx) :
    outsAt0 m c t y = out (Xm m c) (Wm m c) (Gm m c) (Dm m c) (((cfg0.win 4).blk t).view.emb y) := by
  have e : (((cfg0.win 4).blk t).view.emb y : S32768x1024.Idx) = ix2 (row t (y 0)) (y 1) := by
    unfold row
    blk_ext [idx t]
  have ey : y = ix2 (y 0) (y 1) := by blk_ext []
  rw [e]
  exact (congrArg (outsAt0 m c t) ey).trans (point m c t (y 0) (y 1))

/-- The result array after the run. -/
theorem final (c : Dev nD) : (dats m 0 c).arrAt 4 cfg0.N = out (Xm m c) (Wm m c) (Gm m c) (Dm m c) := by
  refine (dats m 0 c).arrAt_eq_of_covers 4 _ (by decide +kernel) fun t _ y => ?_
  blk_simp
  rw [after0_4]
  exact point_emb m c t y

end Cert.Proof.FfnArray

end
-- ==== Proof.FfnRef.lean ====
/- What the feed-forward reference computes, element by element.

   The reference's term is cut at the normed rows and at the hidden lanes; each piece is read at an index. -/
module

public import proofs.«01_k».proof.Proof.Gen.FfnRefIdeal.Run
public import proofs.«01_k».proof.Proof.FeedForward

@[expose] public section

set_option maxRecDepth 16384

noncomputable section

open Idealize.ShloMosaic Idealize.ShloMosaic.TcCoe Idealize.SL.Sem

namespace Cert.Proof.FfnRef

open Cert.FfnRefIdeal Cert.FfnRefIdeal.Gen Cert.Proof.FeedForward

/-- The normed rows. -/
def rows (x : FVec Ideal S32768x1024 .f32) (w : FVec Ideal S1024 .f32) : FVec Ideal S32768x1024 .f32 :=
  mulf (mulf x (broadcastInDim S32768x1024 ![0, 1] bcast_S32768x1_S32768x1024_0_1
      (Host.rsqrt (addf
        (Host.divf (broadcastInDim S32768x1 ![0] bcast_S32768_S32768x1_0
            (Host.reduceAdd (mulf x x) (constant S_ .f32 0x00000000#32) reducesTo_S32768x1024_S32768_d1 h_S_))
          (broadcastInDim S32768x1 ![] bcast_S_S32768x1 (constant S_ .f32 0x44800000#32)))
        (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 w))

/-- The gate and up products. -/
def products (y : FVec Ideal S32768x1024 .f32) (G : FVec Ideal S1024x5632 .f32) : FVec Ideal S32768x5632 .f32 :=
  Host.dotGeneral dot_S32768x1024_S1024x5632_S32768x5632_1_0_0_1_n_n none y G

/-- The hidden lanes from the products. -/
def lanes (p : FVec Ideal S32768x5632 .f32) : FVec Ideal S32768x2816 .f32 :=
  mulf (mulf (extractStridedSlice S32768x2816 ![0, 0] p slices_S32768x5632_S32768x2816_0_0)
      (Host.divf (broadcastInDim S32768x2816 ![] bcast_S_S32768x2816 (constant S_ .f32 0x3F800000#32))
        (addf (broadcastInDim S32768x2816 ![] bcast_S_S32768x2816 (constant S_ .f32 0x3F800000#32))
          (Host.exp (Host.negf (extractStridedSlice S32768x2816 ![0, 0] p slices_S32768x5632_S32768x2816_0_0))))))
    (extractStridedSlice S32768x2816 ![0, 2816] p slices_S32768x5632_S32768x2816_0_2816)

/-- The half-step from the hidden lanes. -/
def halfStep (x : FVec Ideal S32768x1024 .f32) (a : FVec Ideal S32768x2816 .f32) (D : FVec Ideal S2816x1024 .f32) :
    FVec Ideal S32768x1024 .f32 :=
  addf x (mulf (broadcastInDim S32768x1024 ![] bcast_S_S32768x1024 (constant S_ .f32 0x3F000000#32))
    (Host.dotGeneral dot_S32768x2816_S2816x1024_S32768x1024_1_0_0_1_n_n none a D))

/-- A normed row at an index. -/
theorem rows_at (x : FVec Ideal S32768x1024 .f32) (w : FVec Ideal S1024 .f32) (r : Fin 32768) (e : Fin 1024) :
    rows x w (ix2 r e) = normed (fun e' => x (ix2 r e')) (fun e' => w (ix1 e')) e := by
  unfold rows normed
  pointwise

/-- A product at an index. -/
theorem products_at (y : FVec Ideal S32768x1024 .f32) (G : FVec Ideal S1024x5632 .f32) (r : Fin 32768) (n : Fin 5632) :
    products y G (ix2 r n) = ∑ e : Fin 1024, y (ix2 r e) * G (ix2 e n) := by
  unfold products
  pointwise

/-- A hidden lane at an index. -/
theorem lanes_at (p : FVec Ideal S32768x5632 .f32) (r : Fin 32768) (n : Fin 2816) :
    lanes p (ix2 r n) = gated (p (ix2 r (gateLane n))) * p (ix2 r (upLane n)) := by
  unfold lanes gated gateLane upLane
  pointwise

/-- The half-step at an index. -/
theorem halfStep_at (x : FVec Ideal S32768x1024 .f32) (a : FVec Ideal S32768x2816 .f32) (D : FVec Ideal S2816x1024 .f32)
    (r : Fin 32768) (d : Fin 1024) :
    halfStep x a D (ix2 r d)
      = x (ix2 r d) + Ideal.ofBits .f32 0x3F000000#32 * ∑ n : Fin 2816, a (ix2 r n) * D (ix2 n d) := by
  unfold halfStep
  pointwise

/-- The pieces together are the layer's output. -/
theorem pieces_eq (x : FVec Ideal S32768x1024 .f32) (w : FVec Ideal S1024 .f32) (G : FVec Ideal S1024x5632 .f32)
    (D : FVec Ideal S2816x1024 .f32) : halfStep x (lanes (products (rows x w) G)) D = out x w G D := by
  funext j
  idx_vars j
  rw [halfStep_at]
  simp only [lanes_at, products_at, rows_at]
  rfl

/-- The reference leaves the layer's output in its result array and keeps its arguments. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v21)
          = out (m ((c.tc : Thread nD τ).loc main_arg0)) (m ((c.tc : Thread nD τ).loc main_arg1))
              (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3) :=
  (θ_run defs _ _).mono
    (fun _ h c => ⟨(h c).1.trans (pieces_eq (m ((c.tc : Thread nD τ).loc main_arg0)) (m ((c.tc : Thread nD τ).loc main_arg1))
      (m ((c.tc : Thread nD τ).loc main_arg2)) (m ((c.tc : Thread nD τ).loc main_arg3))), (h c).2⟩)
    (Cert.FfnRefIdeal.Value.run (F := Ideal) m ρ)

end Cert.Proof.FfnRef

end
-- ==== Proof.FfnLastBlock.lean ====
/- What the last feed-forward kernel leaves in its output block at a grid point: the half-step of the feed-forward layer,
   normed. The loop and its payloads are those of the kernel without the final norm, over one more argument. -/
module

public import proofs.«01_k».proof.Proof.Gen.FfnLastIdeal.Value
public import proofs.«01_k».proof.Proof.FfnBlock

@[expose] public section

set_option maxRecDepth 16384

noncomputable section

open Idealize.ShloMosaic Idealize.ShloMosaic.TcCoe Idealize.ShloMosaic.Tactic Idealize.SL.Sem

namespace Cert.Proof.FfnLastBlock

open Cert.FfnLastIdeal Cert.FfnLastIdeal.Gen Cert.Proof.FeedForward Cert.Proof.FfnStep
open Cert.Proof.FfnBlock (origin2 term gate_chunk down_chunk step_at)

/-- The loop runs once per chunk. -/
theorem trips_eq : k0_t1_loop.trips = 11 := by decide +kernel

/-- The final norm of a half-step. -/
theorem last_at (x acc : Vec Ideal S1024x1024 .f32) (w : Vec Ideal S1x1024 .f32) (r d : Fin 1024) :
    k0_pay1 (k0_pay5 x acc) (k0_pay6 w) (k0_pay7 x acc) (ix2 r d)
      = normed (fun e => x (ix2 r e) + Ideal.ofBits .f32 0x3F000000#32 * acc (ix2 r e)) (fun e => w (ix2 0 e)) d := by
  unfold k0_pay7 k0_pay6 k0_pay1 normed k0_pay5
  pointwise

variable (x0 : Vec Ideal S1024x1024 .f32) (x1 : Vec Ideal S1x1024 .f32) (x2 : Vec Ideal S11x1024x512 .bf16)
  (x3 : Vec Ideal S11x256x1024 .bf16) (x4 : Vec Ideal S1x1024 .f32)

variable (c : Dev nD) (i : grid0.Coords) (arg1 : Memref sig .tc .vmem S1024x1024 .f32) (harg1 : arg1.IsWhole)
  (arg2 : Memref sig .tc .vmem S1x1024 .f32) (harg2 : arg2.IsWhole) (arg3 : Memref sig .tc .vmem S11x1024x512 .bf16)
  (harg3 : arg3.IsWhole) (arg4 : Memref sig .tc .vmem S11x256x1024 .bf16) (harg4 : arg4.IsWhole)
  (arg5 : Memref sig .tc .vmem S1x1024 .f32) (harg5 : arg5.IsWhole)
  (arg6 : Memref sig .tc .vmem S1024x1024 .f32) (harg6 : arg6.IsWhole) (arg7 : Memref sig .tc .vmem S1024x1024 .bf16)
  (harg7 : arg7.IsWhole) (arg8 : Memref sig .tc .vmem S1024x1024 .f32) (harg8 : arg8.IsWhole)

/-- After `j` trips the accumulator holds the terms of the first `j` chunks. -/
theorem loop_at (X6 : BufTy.Contents (Elt Ideal) arg7.view.ty) (h6 : arg7.view.read (Elt Ideal) X6 = k0_pay2 x0 x1)
    (G : BufTy.Contents (Elt Ideal) arg8.view.ty) (hG : arg8.view.read (Elt Ideal) G = k0_pay3 (F := Ideal))
    (r d : Fin 1024) (j : ℕ) (hj : j ≤ 11) :
    arg8.view.read (Elt Ideal) (arg8.view.writes (Elt Ideal) G (pb_k0_t1 (F := Ideal) Variants.none c none i arg1 harg1 arg2
      harg2 arg3 harg3 arg4 harg4 arg5 harg5 arg6 harg6 arg7 harg7 arg8 harg8 (harg3.unread x2) (harg4.unread x3) X6 G j)) (ix2 r d)
      = partialSum (term x0 x1 x2 x3 r d) j := by
  induction j with
  | zero => exact (congrFun hG (ix2 r d)).trans (zero_at r d)
  | succ j ih =>
    have hlt : j < k0_t1_loop.trips := by rw [trips_eq]; omega
    have hj' : j < 11 := by omega
    have e := pb_k0_t1_succ (F := Ideal) Variants.none c none i arg1 harg1 arg2 harg2 arg3 harg3 arg4 harg4 arg5 harg5 arg6 harg6 arg7
      harg7 arg8 harg8 (harg3.unread x2) (harg4.unread x3) X6 G ⟨j, hlt⟩
    rw [show j + 1 = (⟨j, hlt⟩ : Fin k0_t1_loop.trips).val + 1 from rfl, e]
    unfold tripL_k0_t1 trip_k0_t1
    dsimp only
    rw [List.singleton_append]
    refine (congrFun (View.read_writes_full arg8.view G _ _ _) (ix2 r d)).trans ?_
    refine step_at x0 x1 x2 x3 ⟨j, hj'⟩ _ ?_ _ ?_ _ ?_ _ r d ?_
    · exact (View.readAt_full arg7.view X6 _).trans h6
    · intro e n
      rw [View.readAt_eq_ld, harg3.read_unread]
      exact gate_chunk x2 ⟨j, hj'⟩ _ (k0_off1_eq ⟨j, hlt⟩) _ e n
    · intro n d
      rw [View.readAt_eq_ld, harg4.read_unread]
      exact down_chunk x3 ⟨j, hj'⟩ _ (k0_off2_eq ⟨j, hlt⟩) _ n d
    · exact (congrFun (View.readAt_full arg8.view _ _) (ix2 r d)).trans (ih (by omega))

/-- The block after the body: the half-step, normed. -/
theorem block_at (r d : Fin 1024) :
    out0_A_5 c i arg1 harg1 arg2 harg2 arg3 harg3 arg4 harg4 arg5 harg5 arg6 harg6 arg7 harg7 arg8 harg8 x0 x1 x2 x3 x4
        (ix2 r d)
      = normed (fun e => x0 (ix2 r e) + Ideal.ofBits .f32 0x3F000000#32 * ∑ n : Fin 2816, term x0 x1 x2 x3 r e n)
          (fun e => x4 (ix2 0 e)) d := by
  unfold out0_A_5
  rw [View.read_writes_eq_canon _ _ _ (cover0_A_5 c i arg1 harg1 arg2 harg2 arg3 harg3 arg4 harg4 arg5 harg5 arg6 harg6 arg7
    harg7 arg8 harg8 x0 x1 x2 x3 x4)]
  unfold kernelRun0_A
  dsimp only
  unfold kernelRun0_A.sl.r kernelRun0_A.sl.r_1 kernelRun0_A.sl.r_2
  dsimp only
  rw [View.canon_unit_zero origin2]
  simp only [View.readAt_eq_ld, harg1.read_unread, harg5.read_unread, View.ld_unit_zero (S := S1024x1024) origin2,
    View.ld_unit_zero (S := S1x1024) origin2]
  rw [last_at]
  refine congrArg (fun z : Fin 1024 → EReal => normed (fun e => x0 (ix2 r e) + Ideal.ofBits .f32 0x3F000000#32 * z e)
    (fun e => x4 (ix2 0 e)) d) (funext fun e => ?_)
  rw [← partialSum_all]
  unfold kernelRun0_A.sl.v25
  dsimp only
  unfold View.readCov
  rw [View.writes_append]
  refine (congrFun (View.readAt_full arg8.view _ _) (ix2 r e)).trans ?_
  refine loop_at x0 x1 x2 x3 c i arg1 harg1 arg2 harg2 arg3 harg3 arg4 harg4 arg5 harg5 arg6 harg6 arg7 harg7 arg8 harg8 _ ?_ _
    ?_ r e _ le_rfl
  · unfold kernelRun0_A.sl.HS0_1
    refine (View.read_writes_full arg7.view _ _ _ _).trans ?_
    simp only [View.readAt_eq_ld, harg1.read_unread, harg2.read_unread, View.ld_unit_zero (S := S1024x1024) origin2,
      View.ld_unit_zero (S := S1x1024) origin2]
  · unfold kernelRun0_A.sl.HS1_1
    exact View.read_writes_full arg8.view _ _ _ _

end Cert.Proof.FfnLastBlock

end
-- ==== Proof.FfnLastArray.lean ====
/- What the last feed-forward kernel's result array holds after the run: the feed-forward step of the argument arrays,
   normed. -/
module

public import proofs.«01_k».proof.Proof.FfnLastBlock

@[expose] public section

set_option maxRecDepth 16384

noncomputable section

open Idealize.ShloMosaic Idealize.ShloMosaic.TcCoe Idealize.ShloMosaic.Tactic Idealize.SL.Sem
open Idealize.ShloMosaic.Pipeline (Dat)

namespace Cert.Proof.FfnLastArray

open Cert.FfnLastIdeal Cert.FfnLastIdeal.Gen Cert.Proof.FeedForward Cert.Proof.FfnBlock Cert.Proof.FfnLastBlock

variable (m : (ℓ : Loc nD τ sig) → Buf (Elt Ideal) ℓ)

/-- The block each window holds at a grid point. -/
theorem idx : ∀ t : Fin cfg0.N, win0_0.index t = ![t.val, 0] ∧ win0_1.index t = ![0, 0] ∧ win0_2.index t = ![0, 0, 0]
      ∧ win0_3.index t = ![0, 0, 0] ∧ win0_4.index t = ![0, 0] ∧ win0_5.index t = ![t.val, 0] ∧ t.val < 32 :=
  (by decide +kernel : ∀ t : Fin grid0.N, _)

/-- The rows, the norm's weights, the gate and up weights, the down weights and the final norm's weights a device starts
    with. -/
abbrev Xm (c : Dev nD) : FVec Ideal ⟨2, ![32768, 1024]⟩ .f32 := m ((c.tc : Thread nD τ).loc main_arg0)
abbrev Wm (c : Dev nD) : FVec Ideal ⟨1, ![1024]⟩ .f32 := m ((c.tc : Thread nD τ).loc main_arg1)
abbrev Gm (c : Dev nD) : FVec Ideal ⟨2, ![1024, 5632]⟩ .f32 := m ((c.tc : Thread nD τ).loc main_arg2)
abbrev Dm (c : Dev nD) : FVec Ideal ⟨2, ![2816, 1024]⟩ .f32 := m ((c.tc : Thread nD τ).loc main_arg3)
abbrev Fm (c : Dev nD) : FVec Ideal ⟨1, ![1024]⟩ .f32 := m ((c.tc : Thread nD τ).loc main_arg4)

/-- The row of the array that row `r` of a point's block is. -/
def row (t : Fin cfg0.N) (r : Fin 1024) : Fin 32768 :=
  ⟨1024 * t.val + r.val, by have := r.isLt; have := (idx t).2.2.2.2.2.2; omega⟩

/-- The block of rows at a point. -/
theorem rows_at (c : Dev nD) (t : Fin cfg0.N) (r e : Fin 1024) :
    (iblk m c 0 t : Vec Ideal S1024x1024 .f32) (ix2 r e) = Xm m c (ix2 (row t r) e) := by
  unfold row
  blk_ext [iblk, V, idx t]

/-- The norm's weights as the kernel is handed them. -/
theorem weights_entry (c : Dev nD) (e : Fin 1024) :
    (V m c main_v9 : Vec Ideal S1x1024 .f32) (ix2 0 e) = Wm m c (ix1 e) := by
  entry_read
  pointwise

/-- The block of the norm's weights at a point. -/
theorem weights_at (c : Dev nD) (t : Fin cfg0.N) (e : Fin 1024) :
    (iblk m c 1 t : Vec Ideal S1x1024 .f32) (ix2 0 e) = Wm m c (ix1 e) := by
  rw [← weights_entry m c e]
  blk_ext [iblk, idx t]

/-- The down weights as the kernel is handed them. -/
theorem down_entry (c : Dev nD) (n : Fin 2816) (d : Fin 1024) :
    (V m c main_v8 : Vec Ideal S11x256x1024 .bf16) (ix3 (chunkOf n) (downRow n) d) = Dm m c (ix2 n d) := by
  entry_read
  pointwise
  refine congrArg (fun k => Dm m c (ix2 k d)) (Fin.ext ?_)
  simp only [chunkOf, downRow]
  omega

/-- The block of the down weights at a point. -/
theorem down_at (c : Dev nD) (t : Fin cfg0.N) (n : Fin 2816) (d : Fin 1024) :
    (iblk m c 3 t : Vec Ideal S11x256x1024 .bf16) (ix3 (chunkOf n) (downRow n) d) = Dm m c (ix2 n d) := by
  rw [← down_entry m c n d]
  blk_ext [iblk, idx t]

/-- The gate columns as the kernel is handed them. -/
theorem gate_entry (c : Dev nD) (n : Fin 2816) (e : Fin 1024) :
    (V m c main_v6 : Vec Ideal S11x1024x512 .bf16) (ix3 (chunkOf n) e (gateCol n)) = Gm m c (ix2 e (gateLane n)) := by
  entry_read
  pointwise
  rw [dif_pos (show (gateCol n).val < 256 from Nat.mod_lt _ (by norm_num))]
  refine congrArg (fun k => Gm m c (ix2 e k)) (Fin.ext ?_)
  simp only [chunkOf, gateCol, gateLane]
  omega

/-- The up columns as the kernel is handed them. -/
theorem up_entry (c : Dev nD) (n : Fin 2816) (e : Fin 1024) :
    (V m c main_v6 : Vec Ideal S11x1024x512 .bf16) (ix3 (chunkOf n) e (upCol n)) = Gm m c (ix2 e (upLane n)) := by
  entry_read
  pointwise
  rw [dif_neg (show ¬ (upCol n).val < 256 from Nat.not_lt.mpr (Nat.le_add_right 256 _))]
  refine congrArg (fun k => Gm m c (ix2 e k)) (Fin.ext ?_)
  simp only [chunkOf, upCol, upLane]
  omega

/-- The gate columns in the block at a point. -/
theorem gate_at (c : Dev nD) (t : Fin cfg0.N) (n : Fin 2816) (e : Fin 1024) :
    (iblk m c 2 t : Vec Ideal S11x1024x512 .bf16) (ix3 (chunkOf n) e (gateCol n)) = Gm m c (ix2 e (gateLane n)) := by
  rw [← gate_entry m c n e]
  blk_ext [iblk, idx t]

/-- The up columns in the block at a point. -/
theorem up_at (c : Dev nD) (t : Fin cfg0.N) (n : Fin 2816) (e : Fin 1024) :
    (iblk m c 2 t : Vec Ideal S11x1024x512 .bf16) (ix3 (chunkOf n) e (upCol n)) = Gm m c (ix2 e (upLane n)) := by
  rw [← up_entry m c n e]
  blk_ext [iblk, idx t]

/-- The final norm's weights as the kernel is handed them. -/
theorem last_entry (c : Dev nD) (e : Fin 1024) :
    (V m c main_v10 : Vec Ideal S1x1024 .f32) (ix2 0 e) = Fm m c (ix1 e) := by
  entry_read
  pointwise

/-- The block of the final norm's weights at a point. -/
theorem last_weights_at (c : Dev nD) (t : Fin cfg0.N) (e : Fin 1024) :
    (iblk m c 4 t : Vec Ideal S1x1024 .f32) (ix2 0 e) = Fm m c (ix1 e) := by
  rw [← last_entry m c e]
  blk_ext [iblk, idx t]

/-- What the body leaves at row `r` and lane `d` of the block of a point. -/
theorem point (c : Dev nD) (t : Fin cfg0.N) (r d : Fin 1024) :
    outsAt0 m c t (ix2 r d) = lastOut (Xm m c) (Wm m c) (Gm m c) (Dm m c) (Fm m c) (ix2 (row t r) d) := by
  unfold outsAt0
  rw [Cert.Proof.FfnLastBlock.block_at]
  show _ = normed (fun e => out (Xm m c) (Wm m c) (Gm m c) (Dm m c) (ix2 (row t r) e)) (fun e => Fm m c (ix1 e)) d
  have hw : (fun e => (iblk m c 4 t : Vec Ideal S1x1024 .f32) (ix2 0 e)) = fun e => Fm m c (ix1 e) :=
    funext fun e => last_weights_at m c t e
  rw [hw]
  refine congrArg (fun z => normed z (fun e => Fm m c (ix1 e)) d) (funext fun d' => ?_)
  rw [rows_at m c t r d']
  show _ = Xm m c (ix2 (row t r) d') + _ * _
  refine congrArg (fun z => Xm m c (ix2 (row t r) d') + Ideal.ofBits .f32 0x3F000000#32 * z)
    (Finset.sum_congr rfl fun n _ => ?_)
  rw [term, FeedForward.hidden, down_at m c t n d']
  simp only [rows_at m c t, weights_at m c t, gate_at m c t, up_at m c t]
  rfl

/-- The same at a block index. -/
theorem point_emb (c : Dev nD) (t : Fin cfg0.N) (y : S1024x1024.Idx) :
    outsAt0 m c t y
      = lastOut (Xm m c) (Wm m c) (Gm m c) (Dm m c) (Fm m c) (((cfg0.win 5).blk t).view.emb y) := by
  have e : (((cfg0.win 5).blk t).view.emb y : S32768x1024.Idx) = ix2 (row t (y 0)) (y 1) := by
    unfold row
    blk_ext [idx t]
  have ey : y = ix2 (y 0) (y 1) := by blk_ext []
  rw [e]
  exact (congrArg (outsAt0 m c t) ey).trans (point m c t (y 0) (y 1))

/-- The result array after the run. -/
theorem final (c : Dev nD) :
    (dats m 0 c).arrAt 5 cfg0.N = lastOut (Xm m c) (Wm m c) (Gm m c) (Dm m c) (Fm m c) := by
  refine (dats m 0 c).arrAt_eq_of_covers 5 _ (by decide +kernel) fun t _ y => ?_
  blk_simp
  rw [after0_5]
  exact point_emb m c t y

end Cert.Proof.FfnLastArray

end
-- ==== Proof.FfnLastRef.lean ====
/- What the last feed-forward reference computes: the half-step of the reference without the final norm, normed. -/
module

public import proofs.«01_k».proof.Proof.Gen.FfnLastRefIdeal.Run
public import proofs.«01_k».proof.Proof.FfnRef

@[expose] public section

set_option maxRecDepth 16384

noncomputable section

open Idealize.ShloMosaic Idealize.ShloMosaic.TcCoe Idealize.SL.Sem

namespace Cert.Proof.FfnLastRef

open Cert.FfnLastRefIdeal Cert.FfnLastRefIdeal.Gen Cert.Proof.FeedForward
open Cert.Proof.FfnRef (rows products lanes halfStep rows_at pieces_eq)

/-- The reference's term is the normed half-step. -/
theorem term_eq (m : (ℓ : Loc nD τ sig) → Buf (Elt Ideal) ℓ) (c : Dev nD) :
    Value.res_out0 m c
      = rows (halfStep (m ((c.tc : Thread nD τ).loc main_arg0))
          (lanes (products (rows (m ((c.tc : Thread nD τ).loc main_arg0)) (m ((c.tc : Thread nD τ).loc main_arg1)))
            (m ((c.tc : Thread nD τ).loc main_arg2)))) (m ((c.tc : Thread nD τ).loc main_arg3)))
        (m ((c.tc : Thread nD τ).loc main_arg4)) := rfl

/-- So it is the layer's output with the final norm. -/
theorem value_eq (m : (ℓ : Loc nD τ sig) → Buf (Elt Ideal) ℓ) (c : Dev nD) :
    Value.res_out0 m c
      = lastOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  rw [term_eq, pieces_eq]
  funext j
  idx_vars j
  rw [rows_at]
  rfl

/-- The reference leaves the layer's output with the final norm in its result array and keeps its arguments. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v34)
          = lastOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4) :=
  (θ_run defs _ _).mono (fun _ h c => ⟨(h c).1.trans (value_eq m c), (h c).2⟩)
    (Cert.FfnLastRefIdeal.Value.run (F := Ideal) m ρ)

end Cert.Proof.FfnLastRef

end
-- ==== Proof.Projection.lean ====
/- The projections into and out of the token mixers, written as one formula per element. -/
module

public import proofs.«01_k».proof.Proof.FeedForward

@[expose] public section

noncomputable section

open Idealize.ShloMosaic

namespace Cert.Proof.Projection

open Cert.Proof.FeedForward

/-- The output projection of a mixer's rows `a`, of `k` lanes each, added to the rows `h`. -/
def outProj {k : ℕ} (a : FVec Ideal ⟨2, ![32768, k]⟩ .bf16) (w : FVec Ideal ⟨2, ![k, 1024]⟩ .f32)
    (h : FVec Ideal ⟨2, ![32768, 1024]⟩ .f32) : FVec Ideal ⟨2, ![32768, 1024]⟩ .f32 :=
  fun j => h j + ∑ e : Fin k, a (ix2 (j 0) e) * w (ix2 e (j 1))

/-- A normed row times one column of weights. -/
def projAt (x w col : Fin 1024 → EReal) : EReal := ∑ e : Fin 1024, normed x w e * col e

/-- The normed rows times the columns `W`. -/
def proj {n : ℕ} (x : FVec Ideal ⟨2, ![32768, 1024]⟩ .f32) (w : FVec Ideal ⟨1, ![1024]⟩ .f32)
    (W : Fin n → Fin 1024 → EReal) : FVec Ideal ⟨2, ![32768, n]⟩ .f32 :=
  fun j => projAt (fun e => x (ix2 (j 0) e)) (fun e => w (ix1 e)) (W (j 1))

/-- The `n` columns of a weight matrix from column `o` on. -/
def cols {N : ℕ} (G : FVec Ideal ⟨2, ![1024, N]⟩ .f32) (o n : ℕ) (h : o + n ≤ N) (k : Fin n) (e : Fin 1024) : EReal :=
  G (ix2 e ⟨o + k.val, by have := k.isLt; omega⟩)

/-- The `n` columns from column `o` on, followed by zero columns. -/
def padCols {N : ℕ} (G : FVec Ideal ⟨2, ![1024, N]⟩ .f32) (o n : ℕ) (h : o + n ≤ N) (k : Fin 128) (e : Fin 1024) : EReal :=
  if hk : k.val < n then G (ix2 e ⟨o + k.val, by omega⟩) else 0

/-- The product with a column that is zero is zero. -/
theorem projAt_zero (x w : Fin 1024 → EReal) : projAt x w (fun _ => 0) = 0 := by
  unfold projAt
  simp only [mul_zero, Finset.sum_const_zero]

/-- The integer zero as a float of any width is zero: what the padding is filled with. -/
theorem zero_lane {φ : FTy} : FloatOps.sitofp (F := Ideal) φ (0#32) = (0 : EReal) := by
  show (((0#32).toInt : ℝ) : EReal) = 0
  simp

/-- The product with a padded column. -/
theorem projAt_padCols {N : ℕ} (x w : Fin 1024 → EReal) (G : FVec Ideal ⟨2, ![1024, N]⟩ .f32) (o n : ℕ) (h : o + n ≤ N)
    (k : Fin 128) : projAt x w (padCols G o n h k)
      = if hk : k.val < n then projAt x w (cols G o n h ⟨k.val, hk⟩) else 0 := by
  by_cases hk : k.val < n
  · rw [dif_pos hk]
    refine congrArg (projAt x w) (funext fun e => ?_)
    exact dif_pos hk
  · rw [dif_neg hk, show padCols G o n h k = fun _ => 0 from funext fun e => dif_neg hk]
    exact projAt_zero x w

/-- The 64 columns from column `o` on, then the last 32 of them, then the first 32. -/
def swapCols {N : ℕ} (G : FVec Ideal ⟨2, ![1024, N]⟩ .f32) (o : ℕ) (h : o + 64 ≤ N) (k : Fin 128) (e : Fin 1024) : EReal :=
  if h0 : k.val < 64 then G (ix2 e ⟨o + k.val, by omega⟩)
  else if h1 : k.val < 96 then G (ix2 e ⟨o + (k.val - 32), by omega⟩)
  else G (ix2 e ⟨o + (k.val - 96), by have := k.isLt; omega⟩)

/-- The two ways to say which lane a swapped column is: by its place in its half, and by its place in the whole. -/
theorem swap_cases {N : ℕ} (A : Fin N → EReal) (o : ℕ) (h : o + 64 ≤ N) (k : Fin 128) :
    (if h0 : k.val < 64 then A ⟨o + k.val, by omega⟩
      else if h1 : k.val - 64 < 32 then A ⟨o + (32 + (k.val - 64)), by omega⟩
      else A ⟨o + (k.val - 64 - 32), by have := k.isLt; omega⟩)
      = if h0 : k.val < 64 then A ⟨o + k.val, by omega⟩
        else if h1 : k.val < 96 then A ⟨o + (k.val - 32), by omega⟩
        else A ⟨o + (k.val - 96), by have := k.isLt; omega⟩ := by
  have := k.isLt
  by_cases h0 : k.val < 64
  · rw [dif_pos h0, dif_pos h0]
  · rw [dif_neg h0, dif_neg h0]
    by_cases h1 : k.val < 96
    · rw [dif_pos h1, dif_pos (show k.val - 64 < 32 by omega)]
      exact congrArg A (Fin.ext (show o + (32 + (k.val - 64)) = o + (k.val - 32) by omega))
    · rw [dif_neg h1, dif_neg (show ¬ k.val - 64 < 32 by omega)]
      exact congrArg A (Fin.ext (show o + (k.val - 64 - 32) = o + (k.val - 96) by omega))

/-- The product with a column of a swapped set is one with a column of the plain set. -/
theorem projAt_swapCols {N : ℕ} (x w : Fin 1024 → EReal) (G : FVec Ideal ⟨2, ![1024, N]⟩ .f32) (o : ℕ) (h : o + 64 ≤ N)
    (k : Fin 128) : projAt x w (swapCols G o h k)
      = if h0 : k.val < 64 then projAt x w (cols G o 64 h ⟨k.val, h0⟩)
        else if h1 : k.val < 96 then projAt x w (cols G o 64 h ⟨k.val - 32, by omega⟩)
        else projAt x w (cols G o 64 h ⟨k.val - 96, by have := k.isLt; omega⟩) := by
  unfold swapCols
  split_ifs <;> rfl

end Cert.Proof.Projection

end
-- ==== Proof.OutProjArray.lean ====
/- What the output projection kernel's result array holds after the run, for mixers of 1024 lanes. -/
module

public import proofs.«01_k».proof.Proof.Gen.OutProjIdeal.Value
public import proofs.«01_k».proof.Proof.Gen.OutProjRefIdeal.Run
public import proofs.«01_k».proof.Proof.Projection
public import Idealize.ShloMosaic.Lib.Pipeline.ValueKit
public import Idealize.ShloMosaic.Lib.VecWindow

@[expose] public section

set_option maxRecDepth 16384

noncomputable section

open Idealize.ShloMosaic Idealize.ShloMosaic.TcCoe Idealize.ShloMosaic.Tactic Idealize.SL.Sem

namespace Cert.Proof.OutProjArray

open Cert.OutProjIdeal Cert.OutProjIdeal.Gen Cert.Proof.Projection

/-- A whole rank-two block starts at the origin. -/
theorem origin2 : (![0, 0] : Fin 2 → Nat) = fun _ => 0 := funext fun a => by fin_cases a <;> rfl

/-- What the body leaves in its block. -/
theorem block_at (x0 : Vec Ideal S1024x1024 .bf16) (x1 : Vec Ideal S1024x1024 .bf16) (x2 : Vec Ideal S1024x1024 .f32)
    (r d : Fin 1024) :
    out0_3 x0 x1 x2 (ix2 r d) = x2 (ix2 r d) + ∑ e : Fin 1024, x0 (ix2 r e) * x1 (ix2 e d) := by
  unfold out0_3
  rw [View.canon_unit_zero origin2]
  simp only [View.ld_unit_zero (S := S1024x1024) origin2, View.ld_unit_zero (S := S1024x1024) origin2,
    View.ld_unit_zero (S := S1024x1024) origin2]
  unfold k0_pay1
  pointwise

variable (m : (ℓ : Loc nD τ sig) → Buf (Elt Ideal) ℓ)

/-- The block each window holds at a grid point. -/
theorem idx : ∀ t : Fin cfg0.N, win0_0.index t = ![t.val, 0] ∧ win0_1.index t = ![0, 0] ∧ win0_2.index t = ![t.val, 0]
      ∧ win0_3.index t = ![t.val, 0] ∧ t.val < 32 :=
  (by decide +kernel : ∀ t : Fin grid0.N, _)

/-- The mixer's rows, the weights and the residual rows a device starts with. -/
abbrev Am (c : Dev nD) : FVec Ideal ⟨2, ![32768, 1024]⟩ .bf16 := m ((c.tc : Thread nD τ).loc main_arg0)
abbrev Wm (c : Dev nD) : FVec Ideal ⟨2, ![1024, 1024]⟩ .f32 := m ((c.tc : Thread nD τ).loc main_arg1)
abbrev Hm (c : Dev nD) : FVec Ideal ⟨2, ![32768, 1024]⟩ .f32 := m ((c.tc : Thread nD τ).loc main_arg2)

/-- The row of the array that row `r` of a point's block is. -/
def row (t : Fin cfg0.N) (r : Fin 1024) : Fin 32768 :=
  ⟨1024 * t.val + r.val, by have := r.isLt; have := (idx t).2.2.2.2; omega⟩

/-- The block of the mixer's rows at a point. -/
theorem rows_at (c : Dev nD) (t : Fin cfg0.N) (r : Fin 1024) (e : Fin 1024) :
    (iblk m c 0 t : Vec Ideal S1024x1024 .bf16) (ix2 r e) = Am m c (ix2 (row t r) e) := by
  unfold row
  blk_ext [iblk, V, idx t]

/-- The weights as the kernel is handed them. -/
theorem weights_entry (c : Dev nD) (e : Fin 1024) (d : Fin 1024) :
    (V m c main_v0 : Vec Ideal S1024x1024 .bf16) (ix2 e d) = Wm m c (ix2 e d) := by
  entry_read
  pointwise

/-- The block of weights at a point. -/
theorem weights_at (c : Dev nD) (t : Fin cfg0.N) (e : Fin 1024) (d : Fin 1024) :
    (iblk m c 1 t : Vec Ideal S1024x1024 .bf16) (ix2 e d) = Wm m c (ix2 e d) := by
  rw [← weights_entry m c e d]
  blk_ext [iblk, idx t]

/-- The block of the residual rows at a point. -/
theorem residual_at (c : Dev nD) (t : Fin cfg0.N) (r d : Fin 1024) :
    (iblk m c 2 t : Vec Ideal S1024x1024 .f32) (ix2 r d) = Hm m c (ix2 (row t r) d) := by
  unfold row
  blk_ext [iblk, V, idx t]

/-- What one point leaves at a place of its block. -/
theorem point (c : Dev nD) (t : Fin cfg0.N) (r d : Fin 1024) :
    out0_3 (iblk m c 0 t) (iblk m c 1 t) (iblk m c 2 t) (ix2 r d)
      = outProj (Am m c) (Wm m c) (Hm m c) (ix2 (row t r) d) := by
  rw [block_at, residual_at]
  refine congrArg (Hm m c (ix2 (row t r) d) + ·) (Finset.sum_congr rfl fun e _ => ?_)
  rw [rows_at, weights_at]
  rfl

/-- The same, at the place of the array that the block's place is. -/
theorem point_emb (c : Dev nD) (t : Fin cfg0.N) (y : S1024x1024.Idx) :
    out0_3 (iblk m c 0 t) (iblk m c 1 t) (iblk m c 2 t) y
      = outProj (Am m c) (Wm m c) (Hm m c) (((cfg0.win 3).blk t).view.emb y) := by
  have e : (((cfg0.win 3).blk t).view.emb y : S32768x1024.Idx) = ix2 (row t (y 0)) (y 1) := by
    unfold row
    blk_ext [idx t]
  have ey : y = ix2 (y 0) (y 1) := by blk_ext []
  rw [e]
  exact (congrArg _ ey).trans (point m c t (y 0) (y 1))

/-- The result array after the run. -/
theorem final (c : Dev nD) : (dats m 0 c).arrAt 3 cfg0.N = outProj (Am m c) (Wm m c) (Hm m c) := by
  refine (dats m 0 c).arrAt_eq_of_covers 3 _ (by decide +kernel) fun t _ y => ?_
  blk_simp
  rw [after0_3]
  exact point_emb m c t y

/-- The reference's term is the projection. -/
theorem reference_eq (a : FVec Ideal S32768x1024 .bf16) (w : FVec Ideal S1024x1024 .f32) (h : FVec Ideal S32768x1024 .f32) :
    addf h (Host.dotGeneral OutProjRefIdeal.dot_S32768x1024_S1024x1024_S32768x1024_1_0_0_1_n_n none
      (extf .f32 a OutProjRefIdeal.Gen.bitsLt_bf16_f32) w) = outProj a w h := by
  funext j
  idx_vars j
  unfold outProj
  pointwise

end Cert.Proof.OutProjArray

end
-- ==== Proof.OutProjWideArray.lean ====
/- What the output projection kernel's result array holds after the run, for mixers of 2048 lanes. -/
module

public import proofs.«01_k».proof.Proof.Gen.OutProjWideIdeal.Value
public import proofs.«01_k».proof.Proof.Gen.OutProjWideRefIdeal.Run
public import proofs.«01_k».proof.Proof.Projection
public import Idealize.ShloMosaic.Lib.Pipeline.ValueKit
public import Idealize.ShloMosaic.Lib.VecWindow

@[expose] public section

set_option maxRecDepth 16384

noncomputable section

open Idealize.ShloMosaic Idealize.ShloMosaic.TcCoe Idealize.ShloMosaic.Tactic Idealize.SL.Sem

namespace Cert.Proof.OutProjWideArray

open Cert.OutProjWideIdeal Cert.OutProjWideIdeal.Gen Cert.Proof.Projection

/-- A whole rank-two block starts at the origin. -/
theorem origin2 : (![0, 0] : Fin 2 → Nat) = fun _ => 0 := funext fun a => by fin_cases a <;> rfl

/-- What the body leaves in its block. -/
theorem block_at (x0 : Vec Ideal S1024x2048 .bf16) (x1 : Vec Ideal S2048x1024 .bf16) (x2 : Vec Ideal S1024x1024 .f32)
    (r d : Fin 1024) :
    out0_3 x0 x1 x2 (ix2 r d) = x2 (ix2 r d) + ∑ e : Fin 2048, x0 (ix2 r e) * x1 (ix2 e d) := by
  unfold out0_3
  rw [View.canon_unit_zero origin2]
  simp only [View.ld_unit_zero (S := S1024x2048) origin2, View.ld_unit_zero (S := S2048x1024) origin2,
    View.ld_unit_zero (S := S1024x1024) origin2]
  unfold k0_pay1
  pointwise

variable (m : (ℓ : Loc nD τ sig) → Buf (Elt Ideal) ℓ)

/-- The block each window holds at a grid point. -/
theorem idx : ∀ t : Fin cfg0.N, win0_0.index t = ![t.val, 0] ∧ win0_1.index t = ![0, 0] ∧ win0_2.index t = ![t.val, 0]
      ∧ win0_3.index t = ![t.val, 0] ∧ t.val < 32 :=
  (by decide +kernel : ∀ t : Fin grid0.N, _)

/-- The mixer's rows, the weights and the residual rows a device starts with. -/
abbrev Am (c : Dev nD) : FVec Ideal ⟨2, ![32768, 2048]⟩ .bf16 := m ((c.tc : Thread nD τ).loc main_arg0)
abbrev Wm (c : Dev nD) : FVec Ideal ⟨2, ![2048, 1024]⟩ .f32 := m ((c.tc : Thread nD τ).loc main_arg1)
abbrev Hm (c : Dev nD) : FVec Ideal ⟨2, ![32768, 1024]⟩ .f32 := m ((c.tc : Thread nD τ).loc main_arg2)

/-- The row of the array that row `r` of a point's block is. -/
def row (t : Fin cfg0.N) (r : Fin 1024) : Fin 32768 :=
  ⟨1024 * t.val + r.val, by have := r.isLt; have := (idx t).2.2.2.2; omega⟩

/-- The block of the mixer's rows at a point. -/
theorem rows_at (c : Dev nD) (t : Fin cfg0.N) (r : Fin 1024) (e : Fin 2048) :
    (iblk m c 0 t : Vec Ideal S1024x2048 .bf16) (ix2 r e) = Am m c (ix2 (row t r) e) := by
  unfold row
  blk_ext [iblk, V, idx t]

/-- The weights as the kernel is handed them. -/
theorem weights_entry (c : Dev nD) (e : Fin 2048) (d : Fin 1024) :
    (V m c main_v0 : Vec Ideal S2048x1024 .bf16) (ix2 e d) = Wm m c (ix2 e d) := by
  entry_read
  pointwise

/-- The block of weights at a point. -/
theorem weights_at (c : Dev nD) (t : Fin cfg0.N) (e : Fin 2048) (d : Fin 1024) :
    (iblk m c 1 t : Vec Ideal S2048x1024 .bf16) (ix2 e d) = Wm m c (ix2 e d) := by
  rw [← weights_entry m c e d]
  blk_ext [iblk, idx t]

/-- The block of the residual rows at a point. -/
theorem residual_at (c : Dev nD) (t : Fin cfg0.N) (r d : Fin 1024) :
    (iblk m c 2 t : Vec Ideal S1024x1024 .f32) (ix2 r d) = Hm m c (ix2 (row t r) d) := by
  unfold row
  blk_ext [iblk, V, idx t]

/-- What one point leaves at a place of its block. -/
theorem point (c : Dev nD) (t : Fin cfg0.N) (r d : Fin 1024) :
    out0_3 (iblk m c 0 t) (iblk m c 1 t) (iblk m c 2 t) (ix2 r d)
      = outProj (Am m c) (Wm m c) (Hm m c) (ix2 (row t r) d) := by
  rw [block_at, residual_at]
  refine congrArg (Hm m c (ix2 (row t r) d) + ·) (Finset.sum_congr rfl fun e _ => ?_)
  rw [rows_at, weights_at]
  rfl

/-- The same, at the place of the array that the block's place is. -/
theorem point_emb (c : Dev nD) (t : Fin cfg0.N) (y : S1024x1024.Idx) :
    out0_3 (iblk m c 0 t) (iblk m c 1 t) (iblk m c 2 t) y
      = outProj (Am m c) (Wm m c) (Hm m c) (((cfg0.win 3).blk t).view.emb y) := by
  have e : (((cfg0.win 3).blk t).view.emb y : S32768x1024.Idx) = ix2 (row t (y 0)) (y 1) := by
    unfold row
    blk_ext [idx t]
  have ey : y = ix2 (y 0) (y 1) := by blk_ext []
  rw [e]
  exact (congrArg _ ey).trans (point m c t (y 0) (y 1))

/-- The result array after the run. -/
theorem final (c : Dev nD) : (dats m 0 c).arrAt 3 cfg0.N = outProj (Am m c) (Wm m c) (Hm m c) := by
  refine (dats m 0 c).arrAt_eq_of_covers 3 _ (by decide +kernel) fun t _ y => ?_
  blk_simp
  rw [after0_3]
  exact point_emb m c t y

/-- The reference's term is the projection. -/
theorem reference_eq (a : FVec Ideal S32768x2048 .bf16) (w : FVec Ideal S2048x1024 .f32) (h : FVec Ideal S32768x1024 .f32) :
    addf h (Host.dotGeneral OutProjWideRefIdeal.dot_S32768x2048_S2048x1024_S32768x1024_1_0_0_1_n_n none
      (extf .f32 a OutProjWideRefIdeal.Gen.bitsLt_bf16_f32) w) = outProj a w h := by
  funext j
  idx_vars j
  unfold outProj
  pointwise

end Cert.Proof.OutProjWideArray

end
-- ==== Proof.GlaProjArray.lean ====
/- What the result arrays of the gated linear attention projection hold after the run: the normed rows times columns of the weights. -/
module

public import proofs.«01_k».proof.Proof.Gen.GlaProjIdeal.Value
public import proofs.«01_k».proof.Proof.OutProjArray
public import Idealize.ShloMosaic.Lib.Pipeline.ValueKit
public import Idealize.ShloMosaic.Lib.StableHlo.ReadAt
public import Idealize.ShloMosaic.Lib.VecWindow

@[expose] public section

set_option maxRecDepth 16384

noncomputable section

open Idealize.ShloMosaic Idealize.ShloMosaic.TcCoe Idealize.ShloMosaic.Tactic Idealize.SL.Sem

namespace Cert.Proof.GlaProjArray

open Cert.GlaProjIdeal Cert.GlaProjIdeal.Gen Cert.Proof.FeedForward Cert.Proof.Projection
open Cert.Proof.OutProjArray (origin2)

/-- The normed rows of a block. -/
theorem normed_at (x0 : Vec Ideal S512x1024 .f32) (x1 : Vec Ideal S1x1024 .f32) (r : Fin 512) (e : Fin 1024) :
    k0_pay2 x0 x1 (ix2 r e) = normed (fun e' => x0 (ix2 r e')) (fun e' => x1 (ix2 0 e')) e := by
  unfold k0_pay2 normed
  pointwise

/-- What the body leaves in its block of the queries. -/
theorem block7_at (x0 : Vec Ideal S512x1024 .f32) (x1 : Vec Ideal S1x1024 .f32)
    (x2 : Vec Ideal S1024x512 .bf16)
    (x3 : Vec Ideal S1024x512 .bf16)
    (x4 : Vec Ideal S1024x1024 .bf16)
    (x5 : Vec Ideal S1024x1024 .bf16)
    (x6 : Vec Ideal S1024x128 .bf16) (r : Fin 512) (n : Fin 512) :
    out0_7 x0 x1 x2 x3 x4 x5 x6 (ix2 r n)
      = projAt (fun e => x0 (ix2 r e)) (fun e => x1 (ix2 0 e)) (fun e => x2 (ix2 e n)) := by
  unfold out0_7
  rw [View.canon_unit_zero origin2]
  simp only [View.ld_unit_zero (S := S512x1024) origin2, View.ld_unit_zero (S := S1x1024) origin2, View.ld_unit_zero (S := S1024x1024) origin2, View.ld_unit_zero (S := S1024x128) origin2, View.ld_unit_zero (S := S1024x512) origin2]
  unfold k0_pay3 projAt
  pointwise [normed_at]

/-- What the body leaves in its block of the keys. -/
theorem block8_at (x0 : Vec Ideal S512x1024 .f32) (x1 : Vec Ideal S1x1024 .f32)
    (x2 : Vec Ideal S1024x512 .bf16)
    (x3 : Vec Ideal S1024x512 .bf16)
    (x4 : Vec Ideal S1024x1024 .bf16)
    (x5 : Vec Ideal S1024x1024 .bf16)
    (x6 : Vec Ideal S1024x128 .bf16) (r : Fin 512) (n : Fin 512) :
    out0_8 x0 x1 x2 x3 x4 x5 x6 (ix2 r n)
      = projAt (fun e => x0 (ix2 r e)) (fun e => x1 (ix2 0 e)) (fun e => x3 (ix2 e n)) := by
  unfold out0_8
  rw [View.canon_unit_zero origin2]
  simp only [View.ld_unit_zero (S := S512x1024) origin2, View.ld_unit_zero (S := S1x1024) origin2, View.ld_unit_zero (S := S1024x1024) origin2, View.ld_unit_zero (S := S1024x128) origin2, View.ld_unit_zero (S := S1024x512) origin2]
  unfold k0_pay4 projAt
  pointwise [normed_at]

/-- What the body leaves in its block of the values. -/
theorem block9_at (x0 : Vec Ideal S512x1024 .f32) (x1 : Vec Ideal S1x1024 .f32)
    (x2 : Vec Ideal S1024x512 .bf16)
    (x3 : Vec Ideal S1024x512 .bf16)
    (x4 : Vec Ideal S1024x1024 .bf16)
    (x5 : Vec Ideal S1024x1024 .bf16)
    (x6 : Vec Ideal S1024x128 .bf16) (r : Fin 512) (n : Fin 1024) :
    out0_9 x0 x1 x2 x3 x4 x5 x6 (ix2 r n)
      = projAt (fun e => x0 (ix2 r e)) (fun e => x1 (ix2 0 e)) (fun e => x4 (ix2 e n)) := by
  unfold out0_9
  rw [View.canon_unit_zero origin2]
  simp only [View.ld_unit_zero (S := S512x1024) origin2, View.ld_unit_zero (S := S1x1024) origin2, View.ld_unit_zero (S := S1024x1024) origin2, View.ld_unit_zero (S := S1024x128) origin2, View.ld_unit_zero (S := S1024x512) origin2]
  unfold k0_pay5 projAt
  pointwise [normed_at]

/-- What the body leaves in its block of the gates. -/
theorem block10_at (x0 : Vec Ideal S512x1024 .f32) (x1 : Vec Ideal S1x1024 .f32)
    (x2 : Vec Ideal S1024x512 .bf16)
    (x3 : Vec Ideal S1024x512 .bf16)
    (x4 : Vec Ideal S1024x1024 .bf16)
    (x5 : Vec Ideal S1024x1024 .bf16)
    (x6 : Vec Ideal S1024x128 .bf16) (r : Fin 512) (n : Fin 1024) :
    out0_10 x0 x1 x2 x3 x4 x5 x6 (ix2 r n)
      = projAt (fun e => x0 (ix2 r e)) (fun e => x1 (ix2 0 e)) (fun e => x5 (ix2 e n)) := by
  unfold out0_10
  rw [View.canon_unit_zero origin2]
  simp only [View.ld_unit_zero (S := S512x1024) origin2, View.ld_unit_zero (S := S1x1024) origin2, View.ld_unit_zero (S := S1024x1024) origin2, View.ld_unit_zero (S := S1024x128) origin2, View.ld_unit_zero (S := S1024x512) origin2]
  unfold k0_pay6 projAt
  pointwise [normed_at]

/-- What the body leaves in its block of the decay lanes. -/
theorem block11_at (x0 : Vec Ideal S512x1024 .f32) (x1 : Vec Ideal S1x1024 .f32)
    (x2 : Vec Ideal S1024x512 .bf16)
    (x3 : Vec Ideal S1024x512 .bf16)
    (x4 : Vec Ideal S1024x1024 .bf16)
    (x5 : Vec Ideal S1024x1024 .bf16)
    (x6 : Vec Ideal S1024x128 .bf16) (r : Fin 512) (n : Fin 128) :
    out0_11 x0 x1 x2 x3 x4 x5 x6 (ix2 r n)
      = projAt (fun e => x0 (ix2 r e)) (fun e => x1 (ix2 0 e)) (fun e => x6 (ix2 e n)) := by
  unfold out0_11
  rw [View.canon_unit_zero origin2]
  simp only [View.ld_unit_zero (S := S512x1024) origin2, View.ld_unit_zero (S := S1x1024) origin2, View.ld_unit_zero (S := S1024x1024) origin2, View.ld_unit_zero (S := S1024x128) origin2, View.ld_unit_zero (S := S1024x512) origin2]
  unfold k0_pay1 projAt
  pointwise [normed_at]

variable (m : (ℓ : Loc nD τ sig) → Buf (Elt Ideal) ℓ)

/-- The block each window holds at a grid point. -/
theorem idx : ∀ t : Fin cfg0.N, win0_0.index t = ![t.val, 0]
      ∧ win0_1.index t = ![0, 0]
      ∧ win0_2.index t = ![0, 0]
      ∧ win0_3.index t = ![0, 0]
      ∧ win0_4.index t = ![0, 0]
      ∧ win0_5.index t = ![0, 0]
      ∧ win0_6.index t = ![0, 0]
      ∧ win0_7.index t = ![t.val, 0]
      ∧ win0_8.index t = ![t.val, 0]
      ∧ win0_9.index t = ![t.val, 0]
      ∧ win0_10.index t = ![t.val, 0]
      ∧ win0_11.index t = ![t.val, 0]
      ∧ t.val < 64 :=
  (by decide +kernel : ∀ t : Fin grid0.N, _)

/-- The rows, the norm's weights and the projection's weights a device starts with. -/
abbrev Xm (c : Dev nD) : FVec Ideal ⟨2, ![32768, 1024]⟩ .f32 := m ((c.tc : Thread nD τ).loc main_arg0)
abbrev Wm (c : Dev nD) : FVec Ideal ⟨1, ![1024]⟩ .f32 := m ((c.tc : Thread nD τ).loc main_arg1)
abbrev Gm (c : Dev nD) : FVec Ideal ⟨2, ![1024, 3088]⟩ .f32 := m ((c.tc : Thread nD τ).loc main_arg2)

/-- The row of the array that row `r` of a point's block is. -/
def row (t : Fin cfg0.N) (r : Fin 512) : Fin 32768 :=
  ⟨512 * t.val + r.val, by have := r.isLt; have : t.val < 64 := (idx t).2.2.2.2.2.2.2.2.2.2.2.2; omega⟩

/-- The block of rows at a point. -/
theorem rows_at (c : Dev nD) (t : Fin cfg0.N) (r : Fin 512) (e : Fin 1024) :
    (iblk m c 0 t : Vec Ideal S512x1024 .f32) (ix2 r e) = Xm m c (ix2 (row t r) e) := by
  unfold row
  blk_ext [iblk, V, idx t]

/-- The norm's weights as the kernel is handed them. -/
theorem norm_entry (c : Dev nD) (e : Fin 1024) : (V m c main_v7 : Vec Ideal S1x1024 .f32) (ix2 0 e) = Wm m c (ix1 e) := by
  unfold V
  simp only [hostOps0, hostOps0_1, hostOps0_2, List.flatten_cons, List.flatten_nil, List.append_nil, List.cons_append,
    List.nil_append]
  after_reads_at

/-- The block of the norm's weights at a point. -/
theorem norm_at (c : Dev nD) (t : Fin cfg0.N) (e : Fin 1024) :
    (iblk m c 1 t : Vec Ideal S1x1024 .f32) (ix2 0 e) = Wm m c (ix1 e) := by
  rw [← norm_entry m c e]
  blk_ext [iblk, idx t]

/-- The query columns as the kernel is handed them. -/
theorem weights2_entry (c : Dev nD) (e : Fin 1024) (n : Fin 512) :
    (V m c main_v1 : Vec Ideal S1024x512 .bf16) (ix2 e n) = cols (Gm m c) 0 512 (by norm_num) n e := by
  unfold cols
  unfold V
  simp only [hostOps0, hostOps0_1, hostOps0_2, List.flatten_cons, List.flatten_nil, List.append_nil, List.cons_append,
    List.nil_append]
  after_reads_at

/-- Their block at a point. -/
theorem weights2_at (c : Dev nD) (t : Fin cfg0.N) (e : Fin 1024) (n : Fin 512) :
    (iblk m c 2 t : Vec Ideal S1024x512 .bf16) (ix2 e n) = cols (Gm m c) 0 512 (by norm_num) n e := by
  rw [← weights2_entry m c e n]
  blk_ext [iblk, idx t]

/-- The key columns as the kernel is handed them. -/
theorem weights3_entry (c : Dev nD) (e : Fin 1024) (n : Fin 512) :
    (V m c main_v2 : Vec Ideal S1024x512 .bf16) (ix2 e n) = cols (Gm m c) 512 512 (by norm_num) n e := by
  unfold cols
  unfold V
  simp only [hostOps0, hostOps0_1, hostOps0_2, List.flatten_cons, List.flatten_nil, List.append_nil, List.cons_append,
    List.nil_append]
  after_reads_at

/-- Their block at a point. -/
theorem weights3_at (c : Dev nD) (t : Fin cfg0.N) (e : Fin 1024) (n : Fin 512) :
    (iblk m c 3 t : Vec Ideal S1024x512 .bf16) (ix2 e n) = cols (Gm m c) 512 512 (by norm_num) n e := by
  rw [← weights3_entry m c e n]
  blk_ext [iblk, idx t]

/-- The value columns as the kernel is handed them. -/
theorem weights4_entry (c : Dev nD) (e : Fin 1024) (n : Fin 1024) :
    (V m c main_v3 : Vec Ideal S1024x1024 .bf16) (ix2 e n) = cols (Gm m c) 1024 1024 (by norm_num) n e := by
  unfold cols
  unfold V
  simp only [hostOps0, hostOps0_1, hostOps0_2, List.flatten_cons, List.flatten_nil, List.append_nil, List.cons_append,
    List.nil_append]
  after_reads_at

/-- Their block at a point. -/
theorem weights4_at (c : Dev nD) (t : Fin cfg0.N) (e : Fin 1024) (n : Fin 1024) :
    (iblk m c 4 t : Vec Ideal S1024x1024 .bf16) (ix2 e n) = cols (Gm m c) 1024 1024 (by norm_num) n e := by
  rw [← weights4_entry m c e n]
  blk_ext [iblk, idx t]

/-- The gate columns as the kernel is handed them. -/
theorem weights5_entry (c : Dev nD) (e : Fin 1024) (n : Fin 1024) :
    (V m c main_v4 : Vec Ideal S1024x1024 .bf16) (ix2 e n) = cols (Gm m c) 2048 1024 (by norm_num) n e := by
  unfold cols
  unfold V
  simp only [hostOps0, hostOps0_1, hostOps0_2, List.flatten_cons, List.flatten_nil, List.append_nil, List.cons_append,
    List.nil_append]
  after_reads_at

/-- Their block at a point. -/
theorem weights5_at (c : Dev nD) (t : Fin cfg0.N) (e : Fin 1024) (n : Fin 1024) :
    (iblk m c 5 t : Vec Ideal S1024x1024 .bf16) (ix2 e n) = cols (Gm m c) 2048 1024 (by norm_num) n e := by
  rw [← weights5_entry m c e n]
  blk_ext [iblk, idx t]

/-- The padded decay columns as the kernel is handed them. -/
theorem weights6_entry (c : Dev nD) (e : Fin 1024) (n : Fin 128) :
    (V m c main_v6 : Vec Ideal S1024x128 .bf16) (ix2 e n) = padCols (Gm m c) 3072 16 (by norm_num) n e := by
  unfold padCols
  unfold V
  simp only [hostOps0, hostOps0_1, hostOps0_2, List.flatten_cons, List.flatten_nil, List.append_nil, List.cons_append,
    List.nil_append]
  after_reads_at
  split_ifs
  · rfl
  · exact zero_lane

/-- Their block at a point. -/
theorem weights6_at (c : Dev nD) (t : Fin cfg0.N) (e : Fin 1024) (n : Fin 128) :
    (iblk m c 6 t : Vec Ideal S1024x128 .bf16) (ix2 e n) = padCols (Gm m c) 3072 16 (by norm_num) n e := by
  rw [← weights6_entry m c e n]
  blk_ext [iblk, idx t]

/-- What one point leaves at a place of its block of the queries. -/
theorem point7 (c : Dev nD) (t : Fin cfg0.N) (r : Fin 512) (n : Fin 512) :
    out0_7 (iblk m c 0 t) (iblk m c 1 t) (iblk m c 2 t) (iblk m c 3 t) (iblk m c 4 t) (iblk m c 5 t) (iblk m c 6 t) (ix2 r n)
      = proj (Xm m c) (Wm m c) (cols (Gm m c) 0 512 (by norm_num)) (ix2 (row t r) n) := by
  rw [block7_at]
  simp only [rows_at m c t, norm_at m c t, weights2_at m c t]
  rfl

/-- The same, at the place of the array that the block's place is. -/
theorem point7_emb (c : Dev nD) (t : Fin cfg0.N) (y : S512x512.Idx) :
    out0_7 (iblk m c 0 t) (iblk m c 1 t) (iblk m c 2 t) (iblk m c 3 t) (iblk m c 4 t) (iblk m c 5 t) (iblk m c 6 t) y
      = proj (Xm m c) (Wm m c) (cols (Gm m c) 0 512 (by norm_num)) (((cfg0.win 7).blk t).view.emb y) := by
  have e : (((cfg0.win 7).blk t).view.emb y : S32768x512.Idx) = ix2 (row t (y 0)) (y 1) := by
    unfold row
    blk_ext [idx t]
  have ey : y = ix2 (y 0) (y 1) := by blk_ext []
  rw [e]
  exact (congrArg _ ey).trans (point7 m c t (y 0) (y 1))

/-- The array of the queries after the run. -/
theorem final7 (c : Dev nD) :
    (dats m 0 c).arrAt 7 cfg0.N = proj (Xm m c) (Wm m c) (cols (Gm m c) 0 512 (by norm_num)) := by
  refine (dats m 0 c).arrAt_eq_of_covers 7 _ (by decide +kernel) fun t _ y => ?_
  blk_simp
  rw [after0_7]
  exact point7_emb m c t y

/-- What one point leaves at a place of its block of the keys. -/
theorem point8 (c : Dev nD) (t : Fin cfg0.N) (r : Fin 512) (n : Fin 512) :
    out0_8 (iblk m c 0 t) (iblk m c 1 t) (iblk m c 2 t) (iblk m c 3 t) (iblk m c 4 t) (iblk m c 5 t) (iblk m c 6 t) (ix2 r n)
      = proj (Xm m c) (Wm m c) (cols (Gm m c) 512 512 (by norm_num)) (ix2 (row t r) n) := by
  rw [block8_at]
  simp only [rows_at m c t, norm_at m c t, weights3_at m c t]
  rfl

/-- The same, at the place of the array that the block's place is. -/
theorem point8_emb (c : Dev nD) (t : Fin cfg0.N) (y : S512x512.Idx) :
    out0_8 (iblk m c 0 t) (iblk m c 1 t) (iblk m c 2 t) (iblk m c 3 t) (iblk m c 4 t) (iblk m c 5 t) (iblk m c 6 t) y
      = proj (Xm m c) (Wm m c) (cols (Gm m c) 512 512 (by norm_num)) (((cfg0.win 8).blk t).view.emb y) := by
  have e : (((cfg0.win 8).blk t).view.emb y : S32768x512.Idx) = ix2 (row t (y 0)) (y 1) := by
    unfold row
    blk_ext [idx t]
  have ey : y = ix2 (y 0) (y 1) := by blk_ext []
  rw [e]
  exact (congrArg _ ey).trans (point8 m c t (y 0) (y 1))

/-- The array of the keys after the run. -/
theorem final8 (c : Dev nD) :
    (dats m 0 c).arrAt 8 cfg0.N = proj (Xm m c) (Wm m c) (cols (Gm m c) 512 512 (by norm_num)) := by
  refine (dats m 0 c).arrAt_eq_of_covers 8 _ (by decide +kernel) fun t _ y => ?_
  blk_simp
  rw [after0_8]
  exact point8_emb m c t y

/-- What one point leaves at a place of its block of the values. -/
theorem point9 (c : Dev nD) (t : Fin cfg0.N) (r : Fin 512) (n : Fin 1024) :
    out0_9 (iblk m c 0 t) (iblk m c 1 t) (iblk m c 2 t) (iblk m c 3 t) (iblk m c 4 t) (iblk m c 5 t) (iblk m c 6 t) (ix2 r n)
      = proj (Xm m c) (Wm m c) (cols (Gm m c) 1024 1024 (by norm_num)) (ix2 (row t r) n) := by
  rw [block9_at]
  simp only [rows_at m c t, norm_at m c t, weights4_at m c t]
  rfl

/-- The same, at the place of the array that the block's place is. -/
theorem point9_emb (c : Dev nD) (t : Fin cfg0.N) (y : S512x1024.Idx) :
    out0_9 (iblk m c 0 t) (iblk m c 1 t) (iblk m c 2 t) (iblk m c 3 t) (iblk m c 4 t) (iblk m c 5 t) (iblk m c 6 t) y
      = proj (Xm m c) (Wm m c) (cols (Gm m c) 1024 1024 (by norm_num)) (((cfg0.win 9).blk t).view.emb y) := by
  have e : (((cfg0.win 9).blk t).view.emb y : S32768x1024.Idx) = ix2 (row t (y 0)) (y 1) := by
    unfold row
    blk_ext [idx t]
  have ey : y = ix2 (y 0) (y 1) := by blk_ext []
  rw [e]
  exact (congrArg _ ey).trans (point9 m c t (y 0) (y 1))

/-- The array of the values after the run. -/
theorem final9 (c : Dev nD) :
    (dats m 0 c).arrAt 9 cfg0.N = proj (Xm m c) (Wm m c) (cols (Gm m c) 1024 1024 (by norm_num)) := by
  refine (dats m 0 c).arrAt_eq_of_covers 9 _ (by decide +kernel) fun t _ y => ?_
  blk_simp
  rw [after0_9]
  exact point9_emb m c t y

/-- What one point leaves at a place of its block of the gates. -/
theorem point10 (c : Dev nD) (t : Fin cfg0.N) (r : Fin 512) (n : Fin 1024) :
    out0_10 (iblk m c 0 t) (iblk m c 1 t) (iblk m c 2 t) (iblk m c 3 t) (iblk m c 4 t) (iblk m c 5 t) (iblk m c 6 t) (ix2 r n)
      = proj (Xm m c) (Wm m c) (cols (Gm m c) 2048 1024 (by norm_num)) (ix2 (row t r) n) := by
  rw [block10_at]
  simp only [rows_at m c t, norm_at m c t, weights5_at m c t]
  rfl

/-- The same, at the place of the array that the block's place is. -/
theorem point10_emb (c : Dev nD) (t : Fin cfg0.N) (y : S512x1024.Idx) :
    out0_10 (iblk m c 0 t) (iblk m c 1 t) (iblk m c 2 t) (iblk m c 3 t) (iblk m c 4 t) (iblk m c 5 t) (iblk m c 6 t) y
      = proj (Xm m c) (Wm m c) (cols (Gm m c) 2048 1024 (by norm_num)) (((cfg0.win 10).blk t).view.emb y) := by
  have e : (((cfg0.win 10).blk t).view.emb y : S32768x1024.Idx) = ix2 (row t (y 0)) (y 1) := by
    unfold row
    blk_ext [idx t]
  have ey : y = ix2 (y 0) (y 1) := by blk_ext []
  rw [e]
  exact (congrArg _ ey).trans (point10 m c t (y 0) (y 1))

/-- The array of the gates after the run. -/
theorem final10 (c : Dev nD) :
    (dats m 0 c).arrAt 10 cfg0.N = proj (Xm m c) (Wm m c) (cols (Gm m c) 2048 1024 (by norm_num)) := by
  refine (dats m 0 c).arrAt_eq_of_covers 10 _ (by decide +kernel) fun t _ y => ?_
  blk_simp
  rw [after0_10]
  exact point10_emb m c t y

/-- What one point leaves at a place of its block of the decay lanes. -/
theorem point11 (c : Dev nD) (t : Fin cfg0.N) (r : Fin 512) (n : Fin 128) :
    out0_11 (iblk m c 0 t) (iblk m c 1 t) (iblk m c 2 t) (iblk m c 3 t) (iblk m c 4 t) (iblk m c 5 t) (iblk m c 6 t) (ix2 r n)
      = proj (Xm m c) (Wm m c) (padCols (Gm m c) 3072 16 (by norm_num)) (ix2 (row t r) n) := by
  rw [block11_at]
  simp only [rows_at m c t, norm_at m c t, weights6_at m c t]
  rfl

/-- The same, at the place of the array that the block's place is. -/
theorem point11_emb (c : Dev nD) (t : Fin cfg0.N) (y : S512x128.Idx) :
    out0_11 (iblk m c 0 t) (iblk m c 1 t) (iblk m c 2 t) (iblk m c 3 t) (iblk m c 4 t) (iblk m c 5 t) (iblk m c 6 t) y
      = proj (Xm m c) (Wm m c) (padCols (Gm m c) 3072 16 (by norm_num)) (((cfg0.win 11).blk t).view.emb y) := by
  have e : (((cfg0.win 11).blk t).view.emb y : S32768x128.Idx) = ix2 (row t (y 0)) (y 1) := by
    unfold row
    blk_ext [idx t]
  have ey : y = ix2 (y 0) (y 1) := by blk_ext []
  rw [e]
  exact (congrArg _ ey).trans (point11 m c t (y 0) (y 1))

/-- The array of the decay lanes after the run. -/
theorem final11 (c : Dev nD) :
    (dats m 0 c).arrAt 11 cfg0.N = proj (Xm m c) (Wm m c) (padCols (Gm m c) 3072 16 (by norm_num)) := by
  refine (dats m 0 c).arrAt_eq_of_covers 11 _ (by decide +kernel) fun t _ y => ?_
  blk_simp
  rw [after0_11]
  exact point11_emb m c t y

end Cert.Proof.GlaProjArray

end
-- ==== Proof.GlaProjRef.lean ====
/- What the reference of the gated linear attention projection computes: slices of the normed rows' product. -/
module

public import proofs.«01_k».proof.Proof.Gen.GlaProjRefIdeal.Run
public import proofs.«01_k».proof.Proof.FfnRef
public import proofs.«01_k».proof.Proof.Projection

@[expose] public section

set_option maxRecDepth 16384

noncomputable section

open Idealize.ShloMosaic Idealize.ShloMosaic.TcCoe Idealize.ShloMosaic.Tactic Idealize.SL.Sem

namespace Cert.Proof.GlaProjRef

open Cert.GlaProjRefIdeal Cert.GlaProjRefIdeal.Gen Cert.Proof.FeedForward Cert.Proof.Projection
open Cert.Proof.FfnRef (rows rows_at)

/-- The whole product. -/
def products (y : FVec Ideal S32768x1024 .f32) (G : FVec Ideal S1024x3088 .f32) : FVec Ideal S32768x3088 .f32 :=
  Host.dotGeneral dot_S32768x1024_S1024x3088_S32768x3088_1_0_0_1_n_n none y G

/-- The product of the normed rows at an index. -/
theorem products_at (x : FVec Ideal S32768x1024 .f32) (w : FVec Ideal S1024 .f32) (G : FVec Ideal S1024x3088 .f32)
    (r : Fin 32768) (n : Fin 3088) : products (rows x w) G (ix2 r n)
      = projAt (fun e => x (ix2 r e)) (fun e => w (ix1 e)) (fun e => G (ix2 e n)) := by
  have h (y : FVec Ideal S32768x1024 .f32) : products y G (ix2 r n) = ∑ e : Fin 1024, y (ix2 r e) * G (ix2 e n) := by
    unfold products
    pointwise
  rw [h]
  unfold projAt
  simp only [rows_at]

/-- The slice of 512 columns from column 0. -/
theorem slice0_eq (x : FVec Ideal S32768x1024 .f32) (w : FVec Ideal S1024 .f32) (G : FVec Ideal S1024x3088 .f32) :
    extractStridedSlice S32768x512 ![0, 0] (products (rows x w) G) slices_S32768x3088_S32768x512_0_0 = proj x w (cols G 0 512 (by norm_num)) := by
  funext j
  idx_vars j
  unfold proj cols
  pointwise [products_at]

/-- The slice of 512 columns from column 512. -/
theorem slice512_eq (x : FVec Ideal S32768x1024 .f32) (w : FVec Ideal S1024 .f32) (G : FVec Ideal S1024x3088 .f32) :
    extractStridedSlice S32768x512 ![0, 512] (products (rows x w) G) slices_S32768x3088_S32768x512_0_512 = proj x w (cols G 512 512 (by norm_num)) := by
  funext j
  idx_vars j
  unfold proj cols
  pointwise [products_at]

/-- The slice of 1024 columns from column 1024. -/
theorem slice1024_eq (x : FVec Ideal S32768x1024 .f32) (w : FVec Ideal S1024 .f32) (G : FVec Ideal S1024x3088 .f32) :
    extractStridedSlice S32768x1024 ![0, 1024] (products (rows x w) G) slices_S32768x3088_S32768x1024_0_1024 = proj x w (cols G 1024 1024 (by norm_num)) := by
  funext j
  idx_vars j
  unfold proj cols
  pointwise [products_at]

/-- The slice of 1024 columns from column 2048. -/
theorem slice2048_eq (x : FVec Ideal S32768x1024 .f32) (w : FVec Ideal S1024 .f32) (G : FVec Ideal S1024x3088 .f32) :
    extractStridedSlice S32768x1024 ![0, 2048] (products (rows x w) G) slices_S32768x3088_S32768x1024_0_2048 = proj x w (cols G 2048 1024 (by norm_num)) := by
  funext j
  idx_vars j
  unfold proj cols
  pointwise [products_at]

/-- The slice of 16 columns from column 3072, followed by zeros. -/
theorem slice3072_eq (x : FVec Ideal S32768x1024 .f32) (w : FVec Ideal S1024 .f32) (G : FVec Ideal S1024x3088 .f32) :
    pad S32768x128 ![0, 0] ![0, 112] ![0, 0] (extractStridedSlice S32768x16 ![0, 3072] (products (rows x w) G) slices_S32768x3088_S32768x16_0_3072)
        (sitofp .f32 (constantI S_ 32 0#32)) pads_S32768x16_S32768x128_000_01120 h_S_
      = proj x w (padCols G 3072 16 (by norm_num)) := by
  funext j
  idx_vars j
  refine Eq.trans ?_ (projAt_padCols (fun e => x (ix2 j0 e)) (fun e => w (ix1 e)) G 3072 16 (by norm_num) j1).symm
  unfold cols
  pointwise [products_at]
  split_ifs
  · rfl
  · exact zero_lane

/-- The reference leaves the projections in its result arrays and keeps its arguments. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14)
          = proj (m ((c.tc : Thread nD τ).loc main_arg0)) (m ((c.tc : Thread nD τ).loc main_arg1))
              (cols (m ((c.tc : Thread nD τ).loc main_arg2)) 0 512 (by norm_num))
        ∧ r.2.mem ((c.tc : Thread nD τ).loc main_v15)
          = proj (m ((c.tc : Thread nD τ).loc main_arg0)) (m ((c.tc : Thread nD τ).loc main_arg1))
              (cols (m ((c.tc : Thread nD τ).loc main_arg2)) 512 512 (by norm_num))
        ∧ r.2.mem ((c.tc : Thread nD τ).loc main_v16)
          = proj (m ((c.tc : Thread nD τ).loc main_arg0)) (m ((c.tc : Thread nD τ).loc main_arg1))
              (cols (m ((c.tc : Thread nD τ).loc main_arg2)) 1024 1024 (by norm_num))
        ∧ r.2.mem ((c.tc : Thread nD τ).loc main_v17)
          = proj (m ((c.tc : Thread nD τ).loc main_arg0)) (m ((c.tc : Thread nD τ).loc main_arg1))
              (cols (m ((c.tc : Thread nD τ).loc main_arg2)) 2048 1024 (by norm_num))
        ∧ r.2.mem ((c.tc : Thread nD τ).loc main_v19)
          = proj (m ((c.tc : Thread nD τ).loc main_arg0)) (m ((c.tc : Thread nD τ).loc main_arg1))
              (padCols (m ((c.tc : Thread nD τ).loc main_arg2)) 3072 16 (by norm_num))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  (θ_run defs _ _).mono (fun _ h c => ⟨(h c).1.trans (slice0_eq _ _ _),
      (h c).2.1.trans (slice512_eq _ _ _),
      (h c).2.2.1.trans (slice1024_eq _ _ _),
      (h c).2.2.2.1.trans (slice2048_eq _ _ _),
      (h c).2.2.2.2.1.trans (slice3072_eq _ _ _),
      (h c).2.2.2.2.2⟩)
    (Cert.GlaProjRefIdeal.Value.run (F := Ideal) m ρ)

end Cert.Proof.GlaProjRef

end
-- ==== Proof.SsdProjArray.lean ====
/- What the result arrays of the state-space projection hold after the run: the normed rows times columns of the weights. -/
module

public import proofs.«01_k».proof.Proof.Gen.SsdProjIdeal.Value
public import proofs.«01_k».proof.Proof.OutProjArray
public import Idealize.ShloMosaic.Lib.Pipeline.ValueKit
public import Idealize.ShloMosaic.Lib.StableHlo.ReadAt
public import Idealize.ShloMosaic.Lib.VecWindow

@[expose] public section

set_option maxRecDepth 16384

noncomputable section

open Idealize.ShloMosaic Idealize.ShloMosaic.TcCoe Idealize.ShloMosaic.Tactic Idealize.SL.Sem

namespace Cert.Proof.SsdProjArray

open Cert.SsdProjIdeal Cert.SsdProjIdeal.Gen Cert.Proof.FeedForward Cert.Proof.Projection
open Cert.Proof.OutProjArray (origin2)

/-- The normed rows of a block. -/
theorem normed_at (x0 : Vec Ideal S512x1024 .f32) (x1 : Vec Ideal S1x1024 .f32) (r : Fin 512) (e : Fin 1024) :
    k0_pay1 x0 x1 (ix2 r e) = normed (fun e' => x0 (ix2 r e')) (fun e' => x1 (ix2 0 e')) e := by
  unfold k0_pay1 normed
  pointwise

/-- What the body leaves in its block of the gates. -/
theorem block5_at (x0 : Vec Ideal S512x1024 .f32) (x1 : Vec Ideal S1x1024 .f32)
    (x2 : Vec Ideal S1024x2048 .bf16)
    (x3 : Vec Ideal S1024x3072 .bf16)
    (x4 : Vec Ideal S1024x128 .bf16) (r : Fin 512) (n : Fin 2048) :
    out0_5 x0 x1 x2 x3 x4 (ix2 r n)
      = projAt (fun e => x0 (ix2 r e)) (fun e => x1 (ix2 0 e)) (fun e => x2 (ix2 e n)) := by
  unfold out0_5
  rw [View.canon_unit_zero origin2]
  simp only [View.ld_unit_zero (S := S512x1024) origin2, View.ld_unit_zero (S := S1x1024) origin2, View.ld_unit_zero (S := S1024x128) origin2, View.ld_unit_zero (S := S1024x2048) origin2, View.ld_unit_zero (S := S1024x3072) origin2]
  unfold k0_pay2 projAt
  pointwise [normed_at]

/-- What the body leaves in its block of the convolved lanes. -/
theorem block6_at (x0 : Vec Ideal S512x1024 .f32) (x1 : Vec Ideal S1x1024 .f32)
    (x2 : Vec Ideal S1024x2048 .bf16)
    (x3 : Vec Ideal S1024x3072 .bf16)
    (x4 : Vec Ideal S1024x128 .bf16) (r : Fin 512) (n : Fin 3072) :
    out0_6 x0 x1 x2 x3 x4 (ix2 r n)
      = projAt (fun e => x0 (ix2 r e)) (fun e => x1 (ix2 0 e)) (fun e => x3 (ix2 e n)) := by
  unfold out0_6
  rw [View.canon_unit_zero origin2]
  simp only [View.ld_unit_zero (S := S512x1024) origin2, View.ld_unit_zero (S := S1x1024) origin2, View.ld_unit_zero (S := S1024x128) origin2, View.ld_unit_zero (S := S1024x2048) origin2, View.ld_unit_zero (S := S1024x3072) origin2]
  unfold k0_pay3 projAt
  pointwise [normed_at]

/-- What the body leaves in its block of the step lanes. -/
theorem block7_at (x0 : Vec Ideal S512x1024 .f32) (x1 : Vec Ideal S1x1024 .f32)
    (x2 : Vec Ideal S1024x2048 .bf16)
    (x3 : Vec Ideal S1024x3072 .bf16)
    (x4 : Vec Ideal S1024x128 .bf16) (r : Fin 512) (n : Fin 128) :
    out0_7 x0 x1 x2 x3 x4 (ix2 r n)
      = projAt (fun e => x0 (ix2 r e)) (fun e => x1 (ix2 0 e)) (fun e => x4 (ix2 e n)) := by
  unfold out0_7
  rw [View.canon_unit_zero origin2]
  simp only [View.ld_unit_zero (S := S512x1024) origin2, View.ld_unit_zero (S := S1x1024) origin2, View.ld_unit_zero (S := S1024x128) origin2, View.ld_unit_zero (S := S1024x2048) origin2, View.ld_unit_zero (S := S1024x3072) origin2]
  unfold k0_pay4 projAt
  pointwise [normed_at]

variable (m : (ℓ : Loc nD τ sig) → Buf (Elt Ideal) ℓ)

/-- The block each window holds at a grid point. -/
theorem idx : ∀ t : Fin cfg0.N, win0_0.index t = ![t.val, 0]
      ∧ win0_1.index t = ![0, 0]
      ∧ win0_2.index t = ![0, 0]
      ∧ win0_3.index t = ![0, 0]
      ∧ win0_4.index t = ![0, 0]
      ∧ win0_5.index t = ![t.val, 0]
      ∧ win0_6.index t = ![t.val, 0]
      ∧ win0_7.index t = ![t.val, 0]
      ∧ t.val < 64 :=
  (by decide +kernel : ∀ t : Fin grid0.N, _)

/-- The rows, the norm's weights and the projection's weights a device starts with. -/
abbrev Xm (c : Dev nD) : FVec Ideal ⟨2, ![32768, 1024]⟩ .f32 := m ((c.tc : Thread nD τ).loc main_arg0)
abbrev Wm (c : Dev nD) : FVec Ideal ⟨1, ![1024]⟩ .f32 := m ((c.tc : Thread nD τ).loc main_arg1)
abbrev Gm (c : Dev nD) : FVec Ideal ⟨2, ![1024, 5152]⟩ .f32 := m ((c.tc : Thread nD τ).loc main_arg2)

/-- The row of the array that row `r` of a point's block is. -/
def row (t : Fin cfg0.N) (r : Fin 512) : Fin 32768 :=
  ⟨512 * t.val + r.val, by have := r.isLt; have : t.val < 64 := (idx t).2.2.2.2.2.2.2.2; omega⟩

/-- The block of rows at a point. -/
theorem rows_at (c : Dev nD) (t : Fin cfg0.N) (r : Fin 512) (e : Fin 1024) :
    (iblk m c 0 t : Vec Ideal S512x1024 .f32) (ix2 r e) = Xm m c (ix2 (row t r) e) := by
  unfold row
  blk_ext [iblk, V, idx t]

/-- The norm's weights as the kernel is handed them. -/
theorem norm_entry (c : Dev nD) (e : Fin 1024) : (V m c main_v5 : Vec Ideal S1x1024 .f32) (ix2 0 e) = Wm m c (ix1 e) := by
  unfold V
  simp only [hostOps0, hostOps0_1, hostOps0_2, List.flatten_cons, List.flatten_nil, List.append_nil, List.cons_append,
    List.nil_append]
  after_reads_at

/-- The block of the norm's weights at a point. -/
theorem norm_at (c : Dev nD) (t : Fin cfg0.N) (e : Fin 1024) :
    (iblk m c 1 t : Vec Ideal S1x1024 .f32) (ix2 0 e) = Wm m c (ix1 e) := by
  rw [← norm_entry m c e]
  blk_ext [iblk, idx t]

/-- The gate columns as the kernel is handed them. -/
theorem weights2_entry (c : Dev nD) (e : Fin 1024) (n : Fin 2048) :
    (V m c main_v1 : Vec Ideal S1024x2048 .bf16) (ix2 e n) = cols (Gm m c) 0 2048 (by norm_num) n e := by
  unfold cols
  unfold V
  simp only [hostOps0, hostOps0_1, hostOps0_2, List.flatten_cons, List.flatten_nil, List.append_nil, List.cons_append,
    List.nil_append]
  after_reads_at

/-- Their block at a point. -/
theorem weights2_at (c : Dev nD) (t : Fin cfg0.N) (e : Fin 1024) (n : Fin 2048) :
    (iblk m c 2 t : Vec Ideal S1024x2048 .bf16) (ix2 e n) = cols (Gm m c) 0 2048 (by norm_num) n e := by
  rw [← weights2_entry m c e n]
  blk_ext [iblk, idx t]

/-- The columns of the convolved lanes as the kernel is handed them. -/
theorem weights3_entry (c : Dev nD) (e : Fin 1024) (n : Fin 3072) :
    (V m c main_v2 : Vec Ideal S1024x3072 .bf16) (ix2 e n) = cols (Gm m c) 2048 3072 (by norm_num) n e := by
  unfold cols
  unfold V
  simp only [hostOps0, hostOps0_1, hostOps0_2, List.flatten_cons, List.flatten_nil, List.append_nil, List.cons_append,
    List.nil_append]
  after_reads_at

/-- Their block at a point. -/
theorem weights3_at (c : Dev nD) (t : Fin cfg0.N) (e : Fin 1024) (n : Fin 3072) :
    (iblk m c 3 t : Vec Ideal S1024x3072 .bf16) (ix2 e n) = cols (Gm m c) 2048 3072 (by norm_num) n e := by
  rw [← weights3_entry m c e n]
  blk_ext [iblk, idx t]

/-- The padded step columns as the kernel is handed them. -/
theorem weights4_entry (c : Dev nD) (e : Fin 1024) (n : Fin 128) :
    (V m c main_v4 : Vec Ideal S1024x128 .bf16) (ix2 e n) = padCols (Gm m c) 5120 32 (by norm_num) n e := by
  unfold padCols
  unfold V
  simp only [hostOps0, hostOps0_1, hostOps0_2, List.flatten_cons, List.flatten_nil, List.append_nil, List.cons_append,
    List.nil_append]
  after_reads_at
  split_ifs
  · rfl
  · exact zero_lane

/-- Their block at a point. -/
theorem weights4_at (c : Dev nD) (t : Fin cfg0.N) (e : Fin 1024) (n : Fin 128) :
    (iblk m c 4 t : Vec Ideal S1024x128 .bf16) (ix2 e n) = padCols (Gm m c) 5120 32 (by norm_num) n e := by
  rw [← weights4_entry m c e n]
  blk_ext [iblk, idx t]

/-- What one point leaves at a place of its block of the gates. -/
theorem point5 (c : Dev nD) (t : Fin cfg0.N) (r : Fin 512) (n : Fin 2048) :
    out0_5 (iblk m c 0 t) (iblk m c 1 t) (iblk m c 2 t) (iblk m c 3 t) (iblk m c 4 t) (ix2 r n)
      = proj (Xm m c) (Wm m c) (cols (Gm m c) 0 2048 (by norm_num)) (ix2 (row t r) n) := by
  rw [block5_at]
  simp only [rows_at m c t, norm_at m c t, weights2_at m c t]
  rfl

/-- The same, at the place of the array that the block's place is. -/
theorem point5_emb (c : Dev nD) (t : Fin cfg0.N) (y : S512x2048.Idx) :
    out0_5 (iblk m c 0 t) (iblk m c 1 t) (iblk m c 2 t) (iblk m c 3 t) (iblk m c 4 t) y
      = proj (Xm m c) (Wm m c) (cols (Gm m c) 0 2048 (by norm_num)) (((cfg0.win 5).blk t).view.emb y) := by
  have e : (((cfg0.win 5).blk t).view.emb y : S32768x2048.Idx) = ix2 (row t (y 0)) (y 1) := by
    unfold row
    blk_ext [idx t]
  have ey : y = ix2 (y 0) (y 1) := by blk_ext []
  rw [e]
  exact (congrArg _ ey).trans (point5 m c t (y 0) (y 1))

/-- The array of the gates after the run. -/
theorem final5 (c : Dev nD) :
    (dats m 0 c).arrAt 5 cfg0.N = proj (Xm m c) (Wm m c) (cols (Gm m c) 0 2048 (by norm_num)) := by
  refine (dats m 0 c).arrAt_eq_of_covers 5 _ (by decide +kernel) fun t _ y => ?_
  blk_simp
  rw [after0_5]
  exact point5_emb m c t y

/-- What one point leaves at a place of its block of the convolved lanes. -/
theorem point6 (c : Dev nD) (t : Fin cfg0.N) (r : Fin 512) (n : Fin 3072) :
    out0_6 (iblk m c 0 t) (iblk m c 1 t) (iblk m c 2 t) (iblk m c 3 t) (iblk m c 4 t) (ix2 r n)
      = proj (Xm m c) (Wm m c) (cols (Gm m c) 2048 3072 (by norm_num)) (ix2 (row t r) n) := by
  rw [block6_at]
  simp only [rows_at m c t, norm_at m c t, weights3_at m c t]
  rfl

/-- The same, at the place of the array that the block's place is. -/
theorem point6_emb (c : Dev nD) (t : Fin cfg0.N) (y : S512x3072.Idx) :
    out0_6 (iblk m c 0 t) (iblk m c 1 t) (iblk m c 2 t) (iblk m c 3 t) (iblk m c 4 t) y
      = proj (Xm m c) (Wm m c) (cols (Gm m c) 2048 3072 (by norm_num)) (((cfg0.win 6).blk t).view.emb y) := by
  have e : (((cfg0.win 6).blk t).view.emb y : S32768x3072.Idx) = ix2 (row t (y 0)) (y 1) := by
    unfold row
    blk_ext [idx t]
  have ey : y = ix2 (y 0) (y 1) := by blk_ext []
  rw [e]
  exact (congrArg _ ey).trans (point6 m c t (y 0) (y 1))

/-- The array of the convolved lanes after the run. -/
theorem final6 (c : Dev nD) :
    (dats m 0 c).arrAt 6 cfg0.N = proj (Xm m c) (Wm m c) (cols (Gm m c) 2048 3072 (by norm_num)) := by
  refine (dats m 0 c).arrAt_eq_of_covers 6 _ (by decide +kernel) fun t _ y => ?_
  blk_simp
  rw [after0_6]
  exact point6_emb m c t y

/-- What one point leaves at a place of its block of the step lanes. -/
theorem point7 (c : Dev nD) (t : Fin cfg0.N) (r : Fin 512) (n : Fin 128) :
    out0_7 (iblk m c 0 t) (iblk m c 1 t) (iblk m c 2 t) (iblk m c 3 t) (iblk m c 4 t) (ix2 r n)
      = proj (Xm m c) (Wm m c) (padCols (Gm m c) 5120 32 (by norm_num)) (ix2 (row t r) n) := by
  rw [block7_at]
  simp only [rows_at m c t, norm_at m c t, weights4_at m c t]
  rfl

/-- The same, at the place of the array that the block's place is. -/
theorem point7_emb (c : Dev nD) (t : Fin cfg0.N) (y : S512x128.Idx) :
    out0_7 (iblk m c 0 t) (iblk m c 1 t) (iblk m c 2 t) (iblk m c 3 t) (iblk m c 4 t) y
      = proj (Xm m c) (Wm m c) (padCols (Gm m c) 5120 32 (by norm_num)) (((cfg0.win 7).blk t).view.emb y) := by
  have e : (((cfg0.win 7).blk t).view.emb y : S32768x128.Idx) = ix2 (row t (y 0)) (y 1) := by
    unfold row
    blk_ext [idx t]
  have ey : y = ix2 (y 0) (y 1) := by blk_ext []
  rw [e]
  exact (congrArg _ ey).trans (point7 m c t (y 0) (y 1))

/-- The array of the step lanes after the run. -/
theorem final7 (c : Dev nD) :
    (dats m 0 c).arrAt 7 cfg0.N = proj (Xm m c) (Wm m c) (padCols (Gm m c) 5120 32 (by norm_num)) := by
  refine (dats m 0 c).arrAt_eq_of_covers 7 _ (by decide +kernel) fun t _ y => ?_
  blk_simp
  rw [after0_7]
  exact point7_emb m c t y

end Cert.Proof.SsdProjArray

end
-- ==== Proof.SsdProjRef.lean ====
/- What the reference of the state-space projection computes: slices of the normed rows' product. -/
module

public import proofs.«01_k».proof.Proof.Gen.SsdProjRefIdeal.Run
public import proofs.«01_k».proof.Proof.FfnRef
public import proofs.«01_k».proof.Proof.Projection

@[expose] public section

set_option maxRecDepth 16384

noncomputable section

open Idealize.ShloMosaic Idealize.ShloMosaic.TcCoe Idealize.ShloMosaic.Tactic Idealize.SL.Sem

namespace Cert.Proof.SsdProjRef

open Cert.SsdProjRefIdeal Cert.SsdProjRefIdeal.Gen Cert.Proof.FeedForward Cert.Proof.Projection
open Cert.Proof.FfnRef (rows rows_at)

/-- The whole product. -/
def products (y : FVec Ideal S32768x1024 .f32) (G : FVec Ideal S1024x5152 .f32) : FVec Ideal S32768x5152 .f32 :=
  Host.dotGeneral dot_S32768x1024_S1024x5152_S32768x5152_1_0_0_1_n_n none y G

/-- The product of the normed rows at an index. -/
theorem products_at (x : FVec Ideal S32768x1024 .f32) (w : FVec Ideal S1024 .f32) (G : FVec Ideal S1024x5152 .f32)
    (r : Fin 32768) (n : Fin 5152) : products (rows x w) G (ix2 r n)
      = projAt (fun e => x (ix2 r e)) (fun e => w (ix1 e)) (fun e => G (ix2 e n)) := by
  have h (y : FVec Ideal S32768x1024 .f32) : products y G (ix2 r n) = ∑ e : Fin 1024, y (ix2 r e) * G (ix2 e n) := by
    unfold products
    pointwise
  rw [h]
  unfold projAt
  simp only [rows_at]

/-- The slice of 2048 columns from column 0. -/
theorem slice0_eq (x : FVec Ideal S32768x1024 .f32) (w : FVec Ideal S1024 .f32) (G : FVec Ideal S1024x5152 .f32) :
    extractStridedSlice S32768x2048 ![0, 0] (products (rows x w) G) slices_S32768x5152_S32768x2048_0_0 = proj x w (cols G 0 2048 (by norm_num)) := by
  funext j
  idx_vars j
  unfold proj cols
  pointwise [products_at]

/-- The slice of 3072 columns from column 2048. -/
theorem slice2048_eq (x : FVec Ideal S32768x1024 .f32) (w : FVec Ideal S1024 .f32) (G : FVec Ideal S1024x5152 .f32) :
    extractStridedSlice S32768x3072 ![0, 2048] (products (rows x w) G) slices_S32768x5152_S32768x3072_0_2048 = proj x w (cols G 2048 3072 (by norm_num)) := by
  funext j
  idx_vars j
  unfold proj cols
  pointwise [products_at]

/-- The slice of 32 columns from column 5120, followed by zeros. -/
theorem slice5120_eq (x : FVec Ideal S32768x1024 .f32) (w : FVec Ideal S1024 .f32) (G : FVec Ideal S1024x5152 .f32) :
    pad S32768x128 ![0, 0] ![0, 96] ![0, 0] (extractStridedSlice S32768x32 ![0, 5120] (products (rows x w) G) slices_S32768x5152_S32768x32_0_5120)
        (sitofp .f32 (constantI S_ 32 0#32)) pads_S32768x32_S32768x128_000_0960 h_S_
      = proj x w (padCols G 5120 32 (by norm_num)) := by
  funext j
  idx_vars j
  refine Eq.trans ?_ (projAt_padCols (fun e => x (ix2 j0 e)) (fun e => w (ix1 e)) G 5120 32 (by norm_num) j1).symm
  unfold cols
  pointwise [products_at]
  split_ifs
  · rfl
  · exact zero_lane

/-- The reference leaves the projections in its result arrays and keeps its arguments. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14)
          = proj (m ((c.tc : Thread nD τ).loc main_arg0)) (m ((c.tc : Thread nD τ).loc main_arg1))
              (cols (m ((c.tc : Thread nD τ).loc main_arg2)) 0 2048 (by norm_num))
        ∧ r.2.mem ((c.tc : Thread nD τ).loc main_v15)
          = proj (m ((c.tc : Thread nD τ).loc main_arg0)) (m ((c.tc : Thread nD τ).loc main_arg1))
              (cols (m ((c.tc : Thread nD τ).loc main_arg2)) 2048 3072 (by norm_num))
        ∧ r.2.mem ((c.tc : Thread nD τ).loc main_v17)
          = proj (m ((c.tc : Thread nD τ).loc main_arg0)) (m ((c.tc : Thread nD τ).loc main_arg1))
              (padCols (m ((c.tc : Thread nD τ).loc main_arg2)) 5120 32 (by norm_num))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  (θ_run defs _ _).mono (fun _ h c => ⟨(h c).1.trans (slice0_eq _ _ _),
      (h c).2.1.trans (slice2048_eq _ _ _),
      (h c).2.2.1.trans (slice5120_eq _ _ _),
      (h c).2.2.2⟩)
    (Cert.SsdProjRefIdeal.Value.run (F := Ideal) m ρ)

end Cert.Proof.SsdProjRef

end
-- ==== Proof.MlaProjArray.lean ====
/- What the result arrays of the latent attention projection hold after the run: the normed rows times columns of the weights. -/
module

public import proofs.«01_k».proof.Proof.Gen.MlaProjIdeal.Value
public import proofs.«01_k».proof.Proof.OutProjArray
public import Idealize.ShloMosaic.Lib.Pipeline.ValueKit
public import Idealize.ShloMosaic.Lib.StableHlo.ReadAt
public import Idealize.ShloMosaic.Lib.VecWindow

@[expose] public section

set_option maxRecDepth 16384

noncomputable section

open Idealize.ShloMosaic Idealize.ShloMosaic.TcCoe Idealize.ShloMosaic.Tactic Idealize.SL.Sem

namespace Cert.Proof.MlaProjArray

open Cert.MlaProjIdeal Cert.MlaProjIdeal.Gen Cert.Proof.FeedForward Cert.Proof.Projection
open Cert.Proof.OutProjArray (origin2)

/-- The normed rows of a block. -/
theorem normed_at (x0 : Vec Ideal S512x1024 .f32) (x1 : Vec Ideal S1x1024 .f32) (r : Fin 512) (e : Fin 1024) :
    k0_pay1 x0 x1 (ix2 r e) = normed (fun e' => x0 (ix2 r e')) (fun e' => x1 (ix2 0 e')) e := by
  unfold k0_pay1 normed
  pointwise

/-- What the body leaves in its block of the query latent. -/
theorem block5_at (x0 : Vec Ideal S512x1024 .f32) (x1 : Vec Ideal S1x1024 .f32)
    (x2 : Vec Ideal S1024x384 .bf16)
    (x3 : Vec Ideal S1024x256 .bf16)
    (x4 : Vec Ideal S1024x128 .bf16) (r : Fin 512) (n : Fin 384) :
    out0_5 x0 x1 x2 x3 x4 (ix2 r n)
      = projAt (fun e => x0 (ix2 r e)) (fun e => x1 (ix2 0 e)) (fun e => x2 (ix2 e n)) := by
  unfold out0_5
  rw [View.canon_unit_zero origin2]
  simp only [View.ld_unit_zero (S := S512x1024) origin2, View.ld_unit_zero (S := S1x1024) origin2, View.ld_unit_zero (S := S1024x128) origin2, View.ld_unit_zero (S := S1024x256) origin2, View.ld_unit_zero (S := S1024x384) origin2]
  unfold k0_pay2 projAt
  pointwise [normed_at]

/-- What the body leaves in its block of the key-value latent. -/
theorem block6_at (x0 : Vec Ideal S512x1024 .f32) (x1 : Vec Ideal S1x1024 .f32)
    (x2 : Vec Ideal S1024x384 .bf16)
    (x3 : Vec Ideal S1024x256 .bf16)
    (x4 : Vec Ideal S1024x128 .bf16) (r : Fin 512) (n : Fin 256) :
    out0_6 x0 x1 x2 x3 x4 (ix2 r n)
      = projAt (fun e => x0 (ix2 r e)) (fun e => x1 (ix2 0 e)) (fun e => x3 (ix2 e n)) := by
  unfold out0_6
  rw [View.canon_unit_zero origin2]
  simp only [View.ld_unit_zero (S := S512x1024) origin2, View.ld_unit_zero (S := S1x1024) origin2, View.ld_unit_zero (S := S1024x128) origin2, View.ld_unit_zero (S := S1024x256) origin2, View.ld_unit_zero (S := S1024x384) origin2]
  unfold k0_pay3 projAt
  pointwise [normed_at]

/-- What the body leaves in its block of the shared key. -/
theorem block7_at (x0 : Vec Ideal S512x1024 .f32) (x1 : Vec Ideal S1x1024 .f32)
    (x2 : Vec Ideal S1024x384 .bf16)
    (x3 : Vec Ideal S1024x256 .bf16)
    (x4 : Vec Ideal S1024x128 .bf16) (r : Fin 512) (n : Fin 128) :
    out0_7 x0 x1 x2 x3 x4 (ix2 r n)
      = projAt (fun e => x0 (ix2 r e)) (fun e => x1 (ix2 0 e)) (fun e => x4 (ix2 e n)) := by
  unfold out0_7
  rw [View.canon_unit_zero origin2]
  simp only [View.ld_unit_zero (S := S512x1024) origin2, View.ld_unit_zero (S := S1x1024) origin2, View.ld_unit_zero (S := S1024x128) origin2, View.ld_unit_zero (S := S1024x256) origin2, View.ld_unit_zero (S := S1024x384) origin2]
  unfold k0_pay4 projAt
  pointwise [normed_at]

variable (m : (ℓ : Loc nD τ sig) → Buf (Elt Ideal) ℓ)

/-- The block each window holds at a grid point. -/
theorem idx : ∀ t : Fin cfg0.N, win0_0.index t = ![t.val, 0]
      ∧ win0_1.index t = ![0, 0]
      ∧ win0_2.index t = ![0, 0]
      ∧ win0_3.index t = ![0, 0]
      ∧ win0_4.index t = ![0, 0]
      ∧ win0_5.index t = ![t.val, 0]
      ∧ win0_6.index t = ![t.val, 0]
      ∧ win0_7.index t = ![t.val, 0]
      ∧ t.val < 64 :=
  (by decide +kernel : ∀ t : Fin grid0.N, _)

/-- The rows, the norm's weights and the projection's weights a device starts with. -/
abbrev Xm (c : Dev nD) : FVec Ideal ⟨2, ![32768, 1024]⟩ .f32 := m ((c.tc : Thread nD τ).loc main_arg0)
abbrev Wm (c : Dev nD) : FVec Ideal ⟨1, ![1024]⟩ .f32 := m ((c.tc : Thread nD τ).loc main_arg1)
abbrev Gm (c : Dev nD) : FVec Ideal ⟨2, ![1024, 704]⟩ .f32 := m ((c.tc : Thread nD τ).loc main_arg2)

/-- The row of the array that row `r` of a point's block is. -/
def row (t : Fin cfg0.N) (r : Fin 512) : Fin 32768 :=
  ⟨512 * t.val + r.val, by have := r.isLt; have : t.val < 64 := (idx t).2.2.2.2.2.2.2.2; omega⟩

/-- The block of rows at a point. -/
theorem rows_at (c : Dev nD) (t : Fin cfg0.N) (r : Fin 512) (e : Fin 1024) :
    (iblk m c 0 t : Vec Ideal S512x1024 .f32) (ix2 r e) = Xm m c (ix2 (row t r) e) := by
  unfold row
  blk_ext [iblk, V, idx t]

/-- The norm's weights as the kernel is handed them. -/
theorem norm_entry (c : Dev nD) (e : Fin 1024) : (V m c main_v10 : Vec Ideal S1x1024 .f32) (ix2 0 e) = Wm m c (ix1 e) := by
  entry_read
  pointwise

/-- The block of the norm's weights at a point. -/
theorem norm_at (c : Dev nD) (t : Fin cfg0.N) (e : Fin 1024) :
    (iblk m c 1 t : Vec Ideal S1x1024 .f32) (ix2 0 e) = Wm m c (ix1 e) := by
  rw [← norm_entry m c e]
  blk_ext [iblk, idx t]

/-- The query latent's columns as the kernel is handed them. -/
theorem weights2_entry (c : Dev nD) (e : Fin 1024) (n : Fin 384) :
    (V m c main_v2 : Vec Ideal S1024x384 .bf16) (ix2 e n) = cols (Gm m c) 0 384 (by norm_num) n e := by
  unfold cols
  entry_read
  pointwise

/-- Their block at a point. -/
theorem weights2_at (c : Dev nD) (t : Fin cfg0.N) (e : Fin 1024) (n : Fin 384) :
    (iblk m c 2 t : Vec Ideal S1024x384 .bf16) (ix2 e n) = cols (Gm m c) 0 384 (by norm_num) n e := by
  rw [← weights2_entry m c e n]
  blk_ext [iblk, idx t]

/-- The key-value latent's columns as the kernel is handed them. -/
theorem weights3_entry (c : Dev nD) (e : Fin 1024) (n : Fin 256) :
    (V m c main_v4 : Vec Ideal S1024x256 .bf16) (ix2 e n) = cols (Gm m c) 384 256 (by norm_num) n e := by
  unfold cols
  entry_read
  pointwise

/-- Their block at a point. -/
theorem weights3_at (c : Dev nD) (t : Fin cfg0.N) (e : Fin 1024) (n : Fin 256) :
    (iblk m c 3 t : Vec Ideal S1024x256 .bf16) (ix2 e n) = cols (Gm m c) 384 256 (by norm_num) n e := by
  rw [← weights3_entry m c e n]
  blk_ext [iblk, idx t]

/-- The shared key's columns, and their halves swapped, as the kernel is handed them. -/
theorem weights4_entry (c : Dev nD) (e : Fin 1024) (n : Fin 128) :
    (V m c main_v9 : Vec Ideal S1024x128 .bf16) (ix2 e n) = swapCols (Gm m c) 640 (by norm_num) n e := by
  unfold swapCols
  entry_read
  pointwise
  exact swap_cases (fun k => Gm m c (ix2 e k)) 640 (by norm_num) n

/-- Their block at a point. -/
theorem weights4_at (c : Dev nD) (t : Fin cfg0.N) (e : Fin 1024) (n : Fin 128) :
    (iblk m c 4 t : Vec Ideal S1024x128 .bf16) (ix2 e n) = swapCols (Gm m c) 640 (by norm_num) n e := by
  rw [← weights4_entry m c e n]
  blk_ext [iblk, idx t]

/-- What one point leaves at a place of its block of the query latent. -/
theorem point5 (c : Dev nD) (t : Fin cfg0.N) (r : Fin 512) (n : Fin 384) :
    out0_5 (iblk m c 0 t) (iblk m c 1 t) (iblk m c 2 t) (iblk m c 3 t) (iblk m c 4 t) (ix2 r n)
      = proj (Xm m c) (Wm m c) (cols (Gm m c) 0 384 (by norm_num)) (ix2 (row t r) n) := by
  rw [block5_at]
  simp only [rows_at m c t, norm_at m c t, weights2_at m c t]
  rfl

/-- The same, at the place of the array that the block's place is. -/
theorem point5_emb (c : Dev nD) (t : Fin cfg0.N) (y : S512x384.Idx) :
    out0_5 (iblk m c 0 t) (iblk m c 1 t) (iblk m c 2 t) (iblk m c 3 t) (iblk m c 4 t) y
      = proj (Xm m c) (Wm m c) (cols (Gm m c) 0 384 (by norm_num)) (((cfg0.win 5).blk t).view.emb y) := by
  have e : (((cfg0.win 5).blk t).view.emb y : S32768x384.Idx) = ix2 (row t (y 0)) (y 1) := by
    unfold row
    blk_ext [idx t]
  have ey : y = ix2 (y 0) (y 1) := by blk_ext []
  rw [e]
  exact (congrArg _ ey).trans (point5 m c t (y 0) (y 1))

/-- The array of the query latent after the run. -/
theorem final5 (c : Dev nD) :
    (dats m 0 c).arrAt 5 cfg0.N = proj (Xm m c) (Wm m c) (cols (Gm m c) 0 384 (by norm_num)) := by
  refine (dats m 0 c).arrAt_eq_of_covers 5 _ (by decide +kernel) fun t _ y => ?_
  blk_simp
  rw [after0_5]
  exact point5_emb m c t y

/-- What one point leaves at a place of its block of the key-value latent. -/
theorem point6 (c : Dev nD) (t : Fin cfg0.N) (r : Fin 512) (n : Fin 256) :
    out0_6 (iblk m c 0 t) (iblk m c 1 t) (iblk m c 2 t) (iblk m c 3 t) (iblk m c 4 t) (ix2 r n)
      = proj (Xm m c) (Wm m c) (cols (Gm m c) 384 256 (by norm_num)) (ix2 (row t r) n) := by
  rw [block6_at]
  simp only [rows_at m c t, norm_at m c t, weights3_at m c t]
  rfl

/-- The same, at the place of the array that the block's place is. -/
theorem point6_emb (c : Dev nD) (t : Fin cfg0.N) (y : S512x256.Idx) :
    out0_6 (iblk m c 0 t) (iblk m c 1 t) (iblk m c 2 t) (iblk m c 3 t) (iblk m c 4 t) y
      = proj (Xm m c) (Wm m c) (cols (Gm m c) 384 256 (by norm_num)) (((cfg0.win 6).blk t).view.emb y) := by
  have e : (((cfg0.win 6).blk t).view.emb y : S32768x256.Idx) = ix2 (row t (y 0)) (y 1) := by
    unfold row
    blk_ext [idx t]
  have ey : y = ix2 (y 0) (y 1) := by blk_ext []
  rw [e]
  exact (congrArg _ ey).trans (point6 m c t (y 0) (y 1))

/-- The array of the key-value latent after the run. -/
theorem final6 (c : Dev nD) :
    (dats m 0 c).arrAt 6 cfg0.N = proj (Xm m c) (Wm m c) (cols (Gm m c) 384 256 (by norm_num)) := by
  refine (dats m 0 c).arrAt_eq_of_covers 6 _ (by decide +kernel) fun t _ y => ?_
  blk_simp
  rw [after0_6]
  exact point6_emb m c t y

/-- What one point leaves at a place of its block of the shared key. -/
theorem point7 (c : Dev nD) (t : Fin cfg0.N) (r : Fin 512) (n : Fin 128) :
    out0_7 (iblk m c 0 t) (iblk m c 1 t) (iblk m c 2 t) (iblk m c 3 t) (iblk m c 4 t) (ix2 r n)
      = proj (Xm m c) (Wm m c) (swapCols (Gm m c) 640 (by norm_num)) (ix2 (row t r) n) := by
  rw [block7_at]
  simp only [rows_at m c t, norm_at m c t, weights4_at m c t]
  rfl

/-- The same, at the place of the array that the block's place is. -/
theorem point7_emb (c : Dev nD) (t : Fin cfg0.N) (y : S512x128.Idx) :
    out0_7 (iblk m c 0 t) (iblk m c 1 t) (iblk m c 2 t) (iblk m c 3 t) (iblk m c 4 t) y
      = proj (Xm m c) (Wm m c) (swapCols (Gm m c) 640 (by norm_num)) (((cfg0.win 7).blk t).view.emb y) := by
  have e : (((cfg0.win 7).blk t).view.emb y : S32768x128.Idx) = ix2 (row t (y 0)) (y 1) := by
    unfold row
    blk_ext [idx t]
  have ey : y = ix2 (y 0) (y 1) := by blk_ext []
  rw [e]
  exact (congrArg _ ey).trans (point7 m c t (y 0) (y 1))

/-- The array of the shared key after the run. -/
theorem final7 (c : Dev nD) :
    (dats m 0 c).arrAt 7 cfg0.N = proj (Xm m c) (Wm m c) (swapCols (Gm m c) 640 (by norm_num)) := by
  refine (dats m 0 c).arrAt_eq_of_covers 7 _ (by decide +kernel) fun t _ y => ?_
  blk_simp
  rw [after0_7]
  exact point7_emb m c t y

end Cert.Proof.MlaProjArray

end
-- ==== Proof.MlaProjRef.lean ====
/- What the reference of the latent attention projection computes: slices of the normed rows' product. -/
module

public import proofs.«01_k».proof.Proof.Gen.MlaProjRefIdeal.Run
public import proofs.«01_k».proof.Proof.FfnRef
public import proofs.«01_k».proof.Proof.Projection

@[expose] public section

set_option maxRecDepth 16384

noncomputable section

open Idealize.ShloMosaic Idealize.ShloMosaic.TcCoe Idealize.ShloMosaic.Tactic Idealize.SL.Sem

namespace Cert.Proof.MlaProjRef

open Cert.MlaProjRefIdeal Cert.MlaProjRefIdeal.Gen Cert.Proof.FeedForward Cert.Proof.Projection
open Cert.Proof.FfnRef (rows rows_at)

/-- The whole product. -/
def products (y : FVec Ideal S32768x1024 .f32) (G : FVec Ideal S1024x704 .f32) : FVec Ideal S32768x704 .f32 :=
  Host.dotGeneral dot_S32768x1024_S1024x704_S32768x704_1_0_0_1_n_n none y G

/-- The product of the normed rows at an index. -/
theorem products_at (x : FVec Ideal S32768x1024 .f32) (w : FVec Ideal S1024 .f32) (G : FVec Ideal S1024x704 .f32)
    (r : Fin 32768) (n : Fin 704) : products (rows x w) G (ix2 r n)
      = projAt (fun e => x (ix2 r e)) (fun e => w (ix1 e)) (fun e => G (ix2 e n)) := by
  have h (y : FVec Ideal S32768x1024 .f32) : products y G (ix2 r n) = ∑ e : Fin 1024, y (ix2 r e) * G (ix2 e n) := by
    unfold products
    pointwise
  rw [h]
  unfold projAt
  simp only [rows_at]

/-- The slice of 384 columns from column 0. -/
theorem slice0_eq (x : FVec Ideal S32768x1024 .f32) (w : FVec Ideal S1024 .f32) (G : FVec Ideal S1024x704 .f32) :
    extractStridedSlice S32768x384 ![0, 0] (products (rows x w) G) slices_S32768x704_S32768x384_0_0 = proj x w (cols G 0 384 (by norm_num)) := by
  funext j
  idx_vars j
  unfold proj cols
  pointwise [products_at]

/-- The slice of 256 columns from column 384. -/
theorem slice384_eq (x : FVec Ideal S32768x1024 .f32) (w : FVec Ideal S1024 .f32) (G : FVec Ideal S1024x704 .f32) :
    extractStridedSlice S32768x256 ![0, 384] (products (rows x w) G) slices_S32768x704_S32768x256_0_384 = proj x w (cols G 384 256 (by norm_num)) := by
  funext j
  idx_vars j
  unfold proj cols
  pointwise [products_at]

/-- The slice of 64 columns from column 640, then its second half, then its first. -/
theorem slice640_eq (x : FVec Ideal S32768x1024 .f32) (w : FVec Ideal S1024 .f32) (G : FVec Ideal S1024x704 .f32) :
    concatenate S32768x128 1
        [⟨S32768x64, (extractStridedSlice S32768x64 ![0, 640] (products (rows x w) G) slices_S32768x704_S32768x64_0_640)⟩,
          ⟨S32768x32, extractStridedSlice S32768x32 ![0, 32]
            (extractStridedSlice S32768x64 ![0, 640] (products (rows x w) G) slices_S32768x704_S32768x64_0_640)
            slices_S32768x64_S32768x32_0_32⟩,
          ⟨S32768x32, extractStridedSlice S32768x32 ![0, 0]
            (extractStridedSlice S32768x64 ![0, 640] (products (rows x w) G) slices_S32768x704_S32768x64_0_640)
            slices_S32768x64_S32768x32_0_0⟩] concatenates_S32768x64_S32768x32_S32768x32_S32768x128_d1
      = proj x w (swapCols G 640 (by norm_num)) := by
  funext j
  idx_vars j
  refine Eq.trans ?_ (projAt_swapCols (fun e => x (ix2 j0 e)) (fun e => w (ix1 e)) G 640 (by norm_num) j1).symm
  unfold cols
  pointwise [products_at]
  exact swap_cases (fun k => projAt (fun e => x (ix2 j0 e)) (fun e => w (ix1 e)) fun e => G (ix2 e k)) 640 (by norm_num) j1

/-- The reference leaves the projections in its result arrays and keeps its arguments. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14)
          = proj (m ((c.tc : Thread nD τ).loc main_arg0)) (m ((c.tc : Thread nD τ).loc main_arg1))
              (cols (m ((c.tc : Thread nD τ).loc main_arg2)) 0 384 (by norm_num))
        ∧ r.2.mem ((c.tc : Thread nD τ).loc main_v15)
          = proj (m ((c.tc : Thread nD τ).loc main_arg0)) (m ((c.tc : Thread nD τ).loc main_arg1))
              (cols (m ((c.tc : Thread nD τ).loc main_arg2)) 384 256 (by norm_num))
        ∧ r.2.mem ((c.tc : Thread nD τ).loc main_v19)
          = proj (m ((c.tc : Thread nD τ).loc main_arg0)) (m ((c.tc : Thread nD τ).loc main_arg1))
              (swapCols (m ((c.tc : Thread nD τ).loc main_arg2)) 640 (by norm_num))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  (θ_run defs _ _).mono (fun _ h c => ⟨(h c).1.trans (slice0_eq _ _ _),
      (h c).2.1.trans (slice384_eq _ _ _),
      (h c).2.2.1.trans (slice640_eq _ _ _),
      (h c).2.2.2⟩)
    (Cert.MlaProjRefIdeal.Value.run (F := Ideal) m ρ)

end Cert.Proof.MlaProjRef

end
-- ==== Proof.LatentHeads.lean ====
/- The queries, keys and values of latent attention, written as one formula per element.

   A head holds 128 lanes without position, 64 rotated lanes and 64 zero lanes.  The kernel rotates 128 lanes at once: the
   64 rotary lanes and beside them the same lanes with their halves swapped, times a table of cosines and a table of signed
   sines that are zero past lane 64. -/
module

public import Idealize.ShloMosaic.Lib.Pointwise
public import Idealize.ShloMosaic.Lib.Pipeline.ValueKit

@[expose] public section

noncomputable section

open Idealize.ShloMosaic

namespace Cert.Proof.LatentHeads

/-- A row of `n` lanes scaled by the inverse root of its mean square and by the layer's weights; `d` is the word of `n`. -/
def normedOf {n : ℕ} (d : BitVec 32) (x w : Fin n → EReal) (e : Fin n) : EReal :=
  x e * Ideal.rsqrt (Ideal.div (∑ e' : Fin n, x e' * x e') (Ideal.ofBits .f32 d) + Ideal.ofBits .f32 0x358637BD#32) * w e

/-- A normed row times one column of weights. -/
def productAt {n : ℕ} (d : BitVec 32) (x w col : Fin n → EReal) : EReal := ∑ e : Fin n, normedOf d x w e * col e

/-- The rotation's frequency at each of 32 lanes: `10000` to the power of minus `2 k / 64`. -/
def freq (k : ℕ) : EReal :=
  Ideal.div 1 (Ideal.pow (Ideal.ofBits .f32 0x461C4000#32)
    (Ideal.div (Ideal.ofBits .f32 0x40000000#32 * FloatOps.sitofp (F := Ideal) .f32 (BitVec.ofNat 32 k)) (Ideal.ofBits .f32 0x42800000#32)))

/-- The angle at a position, per lane. -/
def angle (p : BitVec 32) (k : Fin 32) : EReal := FloatOps.sitofp (F := Ideal) .f32 p * freq k.val

/-- The rotation of 64 lanes: lane `k` and lane `32 + k` turn by angle `k`. -/
def rot (t : Fin 64 → EReal) (a : Fin 32 → EReal) (e : Fin 64) : EReal :=
  if h : e.val < 32 then t e * Ideal.cos (a ⟨e.val, h⟩) - t ⟨32 + e.val, by omega⟩ * Ideal.sin (a ⟨e.val, h⟩)
  else t ⟨e.val - 32, by omega⟩ * Ideal.sin (a ⟨e.val - 32, by omega⟩) + t e * Ideal.cos (a ⟨e.val - 32, by omega⟩)

/-- The scale of the queries, the inverse root of 192. -/
def scale : EReal := Ideal.ofBits .f32 0x3D93CD3A#32

/-- Lane `n` of a row of queries, eight heads of 256 lanes, from the row's products with the query weights. -/
def queryLane (q : Fin 1536 → EReal) (a : Fin 32 → EReal) (n : Fin 2048) : EReal :=
  if h : n.val % 256 < 192 then
    (if h' : n.val % 256 < 128 then q ⟨n.val / 256 * 192 + n.val % 256, by omega⟩
      else rot (fun k => q ⟨n.val / 256 * 192 + (128 + k.val), by have := k.isLt; omega⟩) a ⟨n.val % 256 - 128, by omega⟩) * scale
  else 0

/-- Lane `n` of a row of keys, from the row's products with the key-value weights and from its rotary key. -/
def keyLane (p : Fin 2048 → EReal) (t : Fin 64 → EReal) (a : Fin 32 → EReal) (n : Fin 2048) : EReal :=
  if h : n.val % 256 < 192 then
    (if h' : n.val % 256 < 128 then p ⟨n.val / 256 * 256 + n.val % 256, by omega⟩
      else rot t a ⟨n.val % 256 - 128, by omega⟩)
  else 0

/-- Lane `n` of a row of values. -/
def valueLane (p : Fin 2048 → EReal) (n : Fin 1024) : EReal := p ⟨n.val / 128 * 256 + (128 + n.val % 128), by omega⟩

/-- The kernel's table of cosines, zero past lane 64. -/
def cosLane (A : Fin 128 → EReal) (l : Fin 128) : EReal := if l.val < 64 then Ideal.cos (A l) else 0

/-- The kernel's table of sines, with a minus sign below lane 32 and zero past lane 64. -/
def sinLane (A : Fin 128 → EReal) (l : Fin 128) : EReal :=
  if l.val < 32 then 0 - Ideal.sin (A l) else if l.val < 64 then Ideal.sin (A l) else 0

/-- The kernel's rotation of 128 lanes by a table of cosines and a table of sines. -/
def laneRope (t c s : Fin 128 → EReal) (l : Fin 128) : EReal :=
  t l * c l + t ⟨(l.val + 128 - 64) % 128, Nat.mod_lt _ (by norm_num)⟩ * s l

/-- The rotary lane that a lane of the kernel's 128 holds: the 64 in order, then the second half, then the first. -/
def swapLane (l : Fin 128) : Fin 64 :=
  ⟨if l.val < 64 then l.val else if l.val - 64 < 32 then 32 + (l.val - 64) else l.val - 64 - 32, by
    have := l.isLt; split_ifs <;> omega⟩

/-- The kernel's rotation of 64 lanes and their swapped halves is the rotation of the 64 lanes, and zero past them. -/
theorem laneRope_eq (t A : Fin 128 → EReal) (u : Fin 64 → EReal) (a : Fin 32 → EReal) (ht : ∀ l, t l = u (swapLane l))
    (hA : ∀ (l : Fin 128) (k : Fin 32), l.val = k.val ∨ l.val = 32 + k.val → A l = a k) (l : Fin 128) :
    laneRope t (cosLane A) (sinLane A) l = if h : l.val < 64 then rot u a ⟨l.val, h⟩ else 0 := by
  have hl := l.isLt
  unfold laneRope cosLane sinLane
  rw [ht l, ht ⟨(l.val + 128 - 64) % 128, Nat.mod_lt _ (by norm_num)⟩]
  by_cases h0 : l.val < 32
  · have e1 : swapLane l = ⟨l.val, by omega⟩ := Fin.ext (by simp only [swapLane]; rw [if_pos (by omega)])
    have e2 : swapLane ⟨(l.val + 128 - 64) % 128, Nat.mod_lt _ (by norm_num)⟩ = ⟨32 + l.val, by omega⟩ :=
      Fin.ext (by simp only [swapLane]; rw [if_neg (by omega), if_pos (by omega)]; omega)
    rw [if_pos (by omega), if_pos h0, dif_pos (show l.val < 64 by omega), e1, e2, hA l ⟨l.val, h0⟩ (Or.inl rfl)]
    unfold rot
    rw [dif_pos (show (⟨l.val, _⟩ : Fin 64).val < 32 from h0), zero_sub, mul_neg, sub_eq_add_neg]
  · by_cases h1 : l.val < 64
    · have e1 : swapLane l = ⟨l.val, h1⟩ := Fin.ext (by simp only [swapLane]; rw [if_pos h1])
      have e2 : swapLane ⟨(l.val + 128 - 64) % 128, Nat.mod_lt _ (by norm_num)⟩ = ⟨l.val - 32, by omega⟩ :=
        Fin.ext (by simp only [swapLane]; rw [if_neg (by omega), if_neg (by omega)]; omega)
      rw [if_pos h1, if_neg h0, if_pos h1, dif_pos h1, e1, e2,
        hA l ⟨l.val - 32, by omega⟩ (Or.inr (by show l.val = 32 + (l.val - 32); omega))]
      unfold rot
      rw [dif_neg (show ¬ (⟨l.val, _⟩ : Fin 64).val < 32 from h0), add_comm]
    · rw [if_neg h1, if_neg h0, if_neg h1, dif_neg h1, mul_zero, mul_zero, add_zero]

/-- Lane `n` of the kernel's block of queries, from a row's products with the laid-out weights and the two tables. -/
def wideQuery (p : Fin 2048 → EReal) (c s : Fin 128 → EReal) (n : Fin 2048) : EReal :=
  (if h : n.val % 256 < 128 then p n
    else laneRope (fun l => p ⟨n.val / 256 * 256 + (128 + l.val), by have := l.isLt; omega⟩) c s
      ⟨n.val % 256 - 128, by omega⟩) * scale

/-- Lane `n` of the kernel's block of keys, from a row's products with the key weights, its rotary key and the two tables. -/
def wideKey (p : Fin 1024 → EReal) (t c s : Fin 128 → EReal) (n : Fin 2048) : EReal :=
  if h : n.val % 256 < 128 then p ⟨n.val / 256 * 128 + n.val % 256, by omega⟩
  else laneRope t c s ⟨n.val % 256 - 128, by omega⟩

/-- The column of the query weights that a column of the laid-out weights is. -/
def wideCol (n : Fin 2048) : Fin 1536 :=
  if h : n.val % 256 < 128 then ⟨n.val / 256 * 192 + n.val % 256, by omega⟩
  else ⟨n.val / 256 * 192 + (128 + (swapLane ⟨n.val % 256 - 128, by omega⟩).val), by
    have := (swapLane ⟨n.val % 256 - 128, by omega⟩).isLt; omega⟩

/-- The kernel's queries from products with the laid-out weights are the queries from products with the plain weights. -/
theorem wideQuery_eq (p : Fin 2048 → EReal) (q : Fin 1536 → EReal) (A : Fin 128 → EReal) (a : Fin 32 → EReal)
    (hp : ∀ n, p n = q (wideCol n))
    (hA : ∀ (l : Fin 128) (k : Fin 32), l.val = k.val ∨ l.val = 32 + k.val → A l = a k) (n : Fin 2048) :
    wideQuery p (cosLane A) (sinLane A) n = queryLane q a n := by
  have hn := n.isLt
  unfold wideQuery queryLane
  by_cases h0 : n.val % 256 < 128
  · rw [dif_pos h0, dif_pos (show n.val % 256 < 192 by omega), dif_pos h0, hp n, wideCol, dif_pos h0]
  · rw [dif_neg h0, laneRope_eq _ A (fun k => q ⟨n.val / 256 * 192 + (128 + k.val), by have := k.isLt; omega⟩) a
      (fun l => by
        have hl := l.isLt
        rw [hp, wideCol, dif_neg (show ¬ (n.val / 256 * 256 + (128 + l.val)) % 256 < 128 by omega)]
        refine congrArg q (Fin.ext ?_)
        show (n.val / 256 * 256 + (128 + l.val)) / 256 * 192 + (128 + (swapLane ⟨(n.val / 256 * 256 + (128 + l.val)) % 256 - 128, _⟩).val)
          = n.val / 256 * 192 + (128 + (swapLane l).val)
        have e : (⟨(n.val / 256 * 256 + (128 + l.val)) % 256 - 128, by omega⟩ : Fin 128) = l :=
          Fin.ext (show (n.val / 256 * 256 + (128 + l.val)) % 256 - 128 = l.val by omega)
        rw [e]
        omega) hA]
    by_cases h1 : n.val % 256 < 192
    · rw [dif_pos h1, dif_neg h0, dif_pos (show n.val % 256 - 128 < 64 by omega)]
    · rw [dif_neg h1, dif_neg (show ¬ n.val % 256 - 128 < 64 by omega), zero_mul]

/-- The kernel's keys are the keys, where the rotary key's last 64 lanes are its first with their halves swapped. -/
theorem wideKey_eq (p : Fin 1024 → EReal) (P : Fin 2048 → EReal) (t A : Fin 128 → EReal) (u : Fin 64 → EReal) (a : Fin 32 → EReal)
    (hp : ∀ n : Fin 1024, p n = P ⟨n.val / 128 * 256 + n.val % 128, by have := n.isLt; omega⟩)
    (ht : ∀ l, t l = u (swapLane l))
    (hA : ∀ (l : Fin 128) (k : Fin 32), l.val = k.val ∨ l.val = 32 + k.val → A l = a k) (n : Fin 2048) :
    wideKey p t (cosLane A) (sinLane A) n = keyLane P u a n := by
  have hn := n.isLt
  unfold wideKey keyLane
  by_cases h0 : n.val % 256 < 128
  · rw [dif_pos h0, dif_pos (show n.val % 256 < 192 by omega), dif_pos h0, hp]
    exact congrArg P (Fin.ext (by
      show (n.val / 256 * 128 + n.val % 256) / 128 * 256 + (n.val / 256 * 128 + n.val % 256) % 128
        = n.val / 256 * 256 + n.val % 256
      omega))
  · rw [dif_neg h0, laneRope_eq t A u a ht hA]
    by_cases h1 : n.val % 256 < 192
    · rw [dif_pos h1, dif_neg h0, dif_pos (show n.val % 256 - 128 < 64 by omega)]
    · rw [dif_neg h1, dif_neg (show ¬ n.val % 256 - 128 < 64 by omega)]

/-- A lane below 64 as the kernel's comparison of its number tells it. -/
theorem lane_lt_64 : ∀ l : Fin 128, IntOp.cmpi .slt (BitVec.ofNat 32 l.val) 64#32 = if l.val < 64 then 1#1 else 0#1 := by
  decide +kernel

/-- A lane below 32 as the kernel's comparison of its number tells it. -/
theorem lane_lt_32 : ∀ l : Fin 128, IntOp.cmpi .slt (BitVec.ofNat 32 l.val) 32#32 = if l.val < 32 then 1#1 else 0#1 := by
  decide +kernel

/-- The position of a flat row: its sequence and its place in the sequence. -/
def rowPos (pos : IVec ⟨2, ![8, 4096]⟩ 32) (r : Fin 32768) : BitVec 32 :=
  pos (ix2 ⟨r.val / 4096, by have := r.isLt; omega⟩ ⟨r.val % 4096, Nat.mod_lt _ (by norm_num)⟩)

/-- The queries of every row. -/
def queries (X : FVec Ideal ⟨2, ![32768, 384]⟩ .f32) (w : FVec Ideal ⟨1, ![384]⟩ .f32) (W : FVec Ideal ⟨2, ![384, 1536]⟩ .f32)
    (pos : IVec ⟨2, ![8, 4096]⟩ 32) : FVec Ideal ⟨2, ![32768, 2048]⟩ .bf16 :=
  fun i => queryLane (fun n => productAt 0x43C00000#32 (fun e => X (ix2 (i 0) e)) (fun e => w (ix1 e)) (fun e => W (ix2 e n)))
    (angle (rowPos pos (i 0))) (i 1)

/-- A row's products with the key-value weights. -/
def kvProducts (X : FVec Ideal ⟨2, ![32768, 256]⟩ .f32) (w : FVec Ideal ⟨1, ![256]⟩ .f32) (W : FVec Ideal ⟨2, ![256, 2048]⟩ .f32)
    (r : Fin 32768) (n : Fin 2048) : EReal :=
  productAt 0x43800000#32 (fun e => X (ix2 r e)) (fun e => w (ix1 e)) (fun e => W (ix2 e n))

/-- The keys of every row; the rotary key is the first 64 lanes of its array. -/
def keys (X : FVec Ideal ⟨2, ![32768, 256]⟩ .f32) (w : FVec Ideal ⟨1, ![256]⟩ .f32) (W : FVec Ideal ⟨2, ![256, 2048]⟩ .f32)
    (kr : FVec Ideal ⟨2, ![32768, 128]⟩ .f32) (pos : IVec ⟨2, ![8, 4096]⟩ 32) : FVec Ideal ⟨2, ![32768, 2048]⟩ .bf16 :=
  fun i => keyLane (kvProducts X w W (i 0)) (fun k => kr (ix2 (i 0) ⟨k.val, by have := k.isLt; omega⟩))
    (angle (rowPos pos (i 0))) (i 1)

/-- The values of every row. -/
def values (X : FVec Ideal ⟨2, ![32768, 256]⟩ .f32) (w : FVec Ideal ⟨1, ![256]⟩ .f32) (W : FVec Ideal ⟨2, ![256, 2048]⟩ .f32) :
    FVec Ideal ⟨2, ![32768, 1024]⟩ .bf16 :=
  fun i => valueLane (kvProducts X w W (i 0)) (i 1)

end Cert.Proof.LatentHeads

end
-- ==== Proof.MlaQkvBlock.lean ====
/- What the body of the latent attention's head kernel leaves in its three blocks: queries, keys and values of 512 rows.

   The queries and the keys are stored as sixteen pieces of 128 lanes each, a piece without position and a rotated piece for
   each of eight heads; the values are stored whole. -/
module

public import proofs.«01_k».proof.Proof.Gen.MlaQkvIdeal.Value
public import proofs.«01_k».proof.Proof.OutProjArray
public import proofs.«01_k».proof.Proof.LatentHeads
public import Idealize.ShloMosaic.Lib.Pipeline.ValueKit

@[expose] public section

set_option maxRecDepth 16384

noncomputable section

open Idealize.ShloMosaic Idealize.ShloMosaic.TcCoe Idealize.ShloMosaic.Tactic Idealize.SL.Sem

namespace Cert.Proof.MlaQkvBlock

open Cert.MlaQkvIdeal Cert.MlaQkvIdeal.Gen Cert.Proof.LatentHeads
open Cert.Proof.OutProjArray (origin2)

/-- A block's row of query products with the laid-out weights. -/
def qRow (x0 : Vec Ideal S512x384 .f32) (x4 : Vec Ideal S1x384 .f32) (x6 : Vec Ideal S384x2048 .bf16) (r : Fin 512)
    (n : Fin 2048) : EReal :=
  productAt 0x43C00000#32 (fun e => x0 (ix2 r e)) (fun e => x4 (ix2 0 e)) (fun e => x6 (ix2 e n))

/-- A block's row of products of the key-value latent with key weights or with value weights. -/
def kvRow (x1 : Vec Ideal S512x256 .f32) (x5 : Vec Ideal S1x256 .f32) (x7 : Vec Ideal S256x1024 .bf16) (r : Fin 512)
    (n : Fin 1024) : EReal :=
  productAt 0x43800000#32 (fun e => x1 (ix2 r e)) (fun e => x5 (ix2 0 e)) (fun e => x7 (ix2 e n))

/-- A block's row of angles. -/
def angles (x3 : Vec Ideal S512x1 .f32) (x9 : Vec Ideal S1x128 .f32) (r : Fin 512) (l : Fin 128) : EReal :=
  x3 (ix2 r 0) * x9 (ix2 0 l)

/-- The normed rows of the query latent. -/
theorem qnormed_at (x0 : Vec Ideal S512x384 .f32) (x4 : Vec Ideal S1x384 .f32) (r : Fin 512) (e : Fin 384) :
    k0_pay2 x0 x4 (ix2 r e) = normedOf 0x43C00000#32 (fun e' => x0 (ix2 r e')) (fun e' => x4 (ix2 0 e')) e := by
  unfold k0_pay2 normedOf
  pointwise

/-- The normed rows of the key-value latent. -/
theorem kvnormed_at (x1 : Vec Ideal S512x256 .f32) (x5 : Vec Ideal S1x256 .f32) (r : Fin 512) (e : Fin 256) :
    k0_pay3 x1 x5 (ix2 r e) = normedOf 0x43800000#32 (fun e' => x1 (ix2 r e')) (fun e' => x5 (ix2 0 e')) e := by
  unfold k0_pay3 normedOf
  pointwise

/-- The query products. -/
theorem qproduct_at (x0 : Vec Ideal S512x384 .f32) (x4 : Vec Ideal S1x384 .f32) (x6 : Vec Ideal S384x2048 .bf16) (r : Fin 512)
    (n : Fin 2048) : k0_pay7 (k0_pay2 x0 x4) x6 (ix2 r n) = qRow x0 x4 x6 r n := by
  unfold k0_pay7 qRow productAt
  pointwise [qnormed_at]

/-- The key products. -/
theorem kproduct_at (x1 : Vec Ideal S512x256 .f32) (x5 : Vec Ideal S1x256 .f32) (x7 : Vec Ideal S256x1024 .bf16) (r : Fin 512)
    (n : Fin 1024) : k0_pay9 (k0_pay3 x1 x5) x7 (ix2 r n) = kvRow x1 x5 x7 r n := by
  unfold k0_pay9 kvRow productAt
  pointwise [kvnormed_at]

/-- The angles. -/
theorem angle_at (x3 : Vec Ideal S512x1 .f32) (x9 : Vec Ideal S1x128 .f32) (r : Fin 512) (l : Fin 128) :
    k0_pay4 x3 x9 (ix2 r l) = angles x3 x9 r l := by
  unfold k0_pay4 angles
  pointwise

/-- The table of cosines. -/
theorem cos_at (v : FVec Ideal S512x128 .f32) (r : Fin 512) (l : Fin 128) :
    k0_pay5 v (iota .tc S512x128 32 [1] iota_S512x128_d1_w32) 64#32 (ix2 r l) = cosLane (fun l' => v (ix2 r l')) l := by
  unfold k0_pay5 cosLane
  pointwise
  rw [lane_lt_64 l]
  split_ifs <;> rfl

/-- The table of signed sines. -/
theorem sin_at (v : FVec Ideal S512x128 .f32) (r : Fin 512) (l : Fin 128) :
    k0_pay6 v (iota .tc S512x128 32 [1] iota_S512x128_d1_w32) (ix2 r l) = sinLane (fun l' => v (ix2 r l')) l := by
  unfold k0_pay6 sinLane
  pointwise
  rw [lane_lt_64 l, lane_lt_32 l]
  split_ifs <;> rfl

/-- A piece of 128 lanes that holds, row by row, a function's values at its lanes holds them at its places of the block. -/
theorem piece_of (G : Fin 512 → Fin 2048 → EReal) (v : Vec Ideal S512x128 .bf16) (o : ℕ)
    (inb : ∀ a, (![0, o] : Fin 2 → ℕ) a + S512x128.size a ≤ S512x2048.size a) (ho : o + 128 ≤ 2048)
    (hv : ∀ (r : Fin 512) (l : Fin 128), v (ix2 r l) = G r ⟨o + l.val, by have := l.isLt; omega⟩) (x : S512x128.Idx) :
    v x = (fun y : S512x2048.Idx => G (y 0) (y 1)) ((Rect.unit (s := S512x2048) ![0, o] S512x128.size inb).emb x) := by
  have ex : x = ix2 (x 0) (x 1) := by blk_ext []
  have e : ((Rect.unit (s := S512x2048) ![0, o] S512x128.size inb).emb x : S512x2048.Idx)
      = ix2 (x 0) ⟨o + (x 1).val, by have : (x 1).val < 128 := (x 1).isLt; omega⟩ := by blk_ext []
  rw [e]
  exact (congrArg v ex).trans (hv (x 0) (x 1))

/-- Queries without position: a piece at a multiple of 256 lanes. -/
theorem nope_lane (p : Fin 2048 → EReal) (c s : Fin 128 → EReal) (o : ℕ) (ho : o + 128 ≤ 2048) (ho' : o % 256 = 0) (l : Fin 128) :
    wideQuery p c s ⟨o + l.val, by have := l.isLt; omega⟩ = p ⟨o + l.val, by have := l.isLt; omega⟩ * scale := by
  have hl := l.isLt
  rw [wideQuery, dif_pos (show (o + l.val) % 256 < 128 by omega)]

/-- Rotated queries: a piece 128 lanes past a multiple of 256. -/
theorem rope_lane (p : Fin 2048 → EReal) (c s : Fin 128 → EReal) (o : ℕ) (ho : o + 128 ≤ 2048) (ho' : o % 256 = 128) (l : Fin 128) :
    wideQuery p c s ⟨o + l.val, by have := l.isLt; omega⟩
      = laneRope (fun l' => p ⟨o + l'.val, by have := l'.isLt; omega⟩) c s l * scale := by
  have hl := l.isLt
  rw [wideQuery, dif_neg (show ¬ (o + l.val) % 256 < 128 by omega)]
  refine congrArg (· * scale) ?_
  have e1 : (⟨(o + l.val) % 256 - 128, by omega⟩ : Fin 128) = l := Fin.ext (by show (o + l.val) % 256 - 128 = l.val; omega)
  rw [e1]
  refine congrArg (fun f => laneRope f c s l) (funext fun l' => congrArg p (Fin.ext ?_))
  show (o + l.val) / 256 * 256 + (128 + l'.val) = o + l'.val
  omega

/-- Keys without position: a piece at a multiple of 256 lanes. -/
theorem key_nope_lane (p : Fin 1024 → EReal) (t c s : Fin 128 → EReal) (o : ℕ) (ho : o + 128 ≤ 2048) (ho' : o % 256 = 0)
    (l : Fin 128) :
    wideKey p t c s ⟨o + l.val, by have := l.isLt; omega⟩ = p ⟨o / 2 + l.val, by have := l.isLt; omega⟩ := by
  have hl := l.isLt
  rw [wideKey, dif_pos (show (o + l.val) % 256 < 128 by omega)]
  refine congrArg p (Fin.ext ?_)
  show (o + l.val) / 256 * 128 + (o + l.val) % 256 = o / 2 + l.val
  omega

/-- Rotated keys: a piece 128 lanes past a multiple of 256. -/
theorem key_rope_lane (p : Fin 1024 → EReal) (t c s : Fin 128 → EReal) (o : ℕ) (ho : o + 128 ≤ 2048) (ho' : o % 256 = 128)
    (l : Fin 128) : wideKey p t c s ⟨o + l.val, by have := l.isLt; omega⟩ = laneRope t c s l := by
  have hl := l.isLt
  rw [wideKey, dif_neg (show ¬ (o + l.val) % 256 < 128 by omega)]
  exact congrArg _ (Fin.ext (by show (o + l.val) % 256 - 128 = l.val; omega))

/-- A piece of queries without position holds its lanes of the block. -/
theorem nope_piece (P : Fin 512 → Fin 2048 → EReal) (c s : Fin 512 → Fin 128 → EReal) (v : Vec Ideal S512x128 .bf16) (o : ℕ)
    (inb : ∀ a, (![0, o] : Fin 2 → ℕ) a + S512x128.size a ≤ S512x2048.size a) (ho : o + 128 ≤ 2048) (ho' : o % 256 = 0)
    (hv : ∀ (r : Fin 512) (l : Fin 128), v (ix2 r l) = P r ⟨o + l.val, by have := l.isLt; omega⟩ * scale) (x : S512x128.Idx) :
    v x = (fun y : S512x2048.Idx => wideQuery (P (y 0)) (c (y 0)) (s (y 0)) (y 1))
      ((Rect.unit (s := S512x2048) ![0, o] S512x128.size inb).emb x) :=
  piece_of (fun r => wideQuery (P r) (c r) (s r)) v o inb ho (fun r l => (hv r l).trans (nope_lane _ _ _ o ho ho' l).symm) x

/-- A rotated piece of queries holds its lanes of the block. -/
theorem rope_piece (P : Fin 512 → Fin 2048 → EReal) (c s : Fin 512 → Fin 128 → EReal) (v : Vec Ideal S512x128 .bf16) (o : ℕ)
    (inb : ∀ a, (![0, o] : Fin 2 → ℕ) a + S512x128.size a ≤ S512x2048.size a) (ho : o + 128 ≤ 2048) (ho' : o % 256 = 128)
    (hv : ∀ (r : Fin 512) (l : Fin 128),
      v (ix2 r l) = laneRope (fun l' => P r ⟨o + l'.val, by have := l'.isLt; omega⟩) (c r) (s r) l * scale) (x : S512x128.Idx) :
    v x = (fun y : S512x2048.Idx => wideQuery (P (y 0)) (c (y 0)) (s (y 0)) (y 1))
      ((Rect.unit (s := S512x2048) ![0, o] S512x128.size inb).emb x) :=
  piece_of (fun r => wideQuery (P r) (c r) (s r)) v o inb ho (fun r l => (hv r l).trans (rope_lane _ _ _ o ho ho' l).symm) x

/-- A piece of keys without position holds its lanes of the block. -/
theorem key_nope_piece (P : Fin 512 → Fin 1024 → EReal) (t c s : Fin 512 → Fin 128 → EReal) (v : Vec Ideal S512x128 .bf16) (o : ℕ)
    (inb : ∀ a, (![0, o] : Fin 2 → ℕ) a + S512x128.size a ≤ S512x2048.size a) (ho : o + 128 ≤ 2048) (ho' : o % 256 = 0)
    (hv : ∀ (r : Fin 512) (l : Fin 128), v (ix2 r l) = P r ⟨o / 2 + l.val, by have := l.isLt; omega⟩) (x : S512x128.Idx) :
    v x = (fun y : S512x2048.Idx => wideKey (P (y 0)) (t (y 0)) (c (y 0)) (s (y 0)) (y 1))
      ((Rect.unit (s := S512x2048) ![0, o] S512x128.size inb).emb x) :=
  piece_of (fun r => wideKey (P r) (t r) (c r) (s r)) v o inb ho (fun r l => (hv r l).trans (key_nope_lane _ _ _ _ o ho ho' l).symm) x

/-- A rotated piece of keys holds its lanes of the block. -/
theorem key_rope_piece (P : Fin 512 → Fin 1024 → EReal) (t c s : Fin 512 → Fin 128 → EReal) (v : Vec Ideal S512x128 .bf16) (o : ℕ)
    (inb : ∀ a, (![0, o] : Fin 2 → ℕ) a + S512x128.size a ≤ S512x2048.size a) (ho : o + 128 ≤ 2048) (ho' : o % 256 = 128)
    (hv : ∀ (r : Fin 512) (l : Fin 128), v (ix2 r l) = laneRope (t r) (c r) (s r) l) (x : S512x128.Idx) :
    v x = (fun y : S512x2048.Idx => wideKey (P (y 0)) (t (y 0)) (c (y 0)) (s (y 0)) (y 1))
      ((Rect.unit (s := S512x2048) ![0, o] S512x128.size inb).emb x) :=
  piece_of (fun r => wideKey (P r) (t r) (c r) (s r)) v o inb ho (fun r l => (hv r l).trans (key_rope_lane _ _ _ _ o ho ho' l).symm) x

section
variable (x0 : Vec Ideal S512x384 .f32) (x1 : Vec Ideal S512x256 .f32) (x2 : Vec Ideal S512x128 .f32) (x3 : Vec Ideal S512x1 .f32)
  (x4 : Vec Ideal S1x384 .f32) (x5 : Vec Ideal S1x256 .f32) (x6 : Vec Ideal S384x2048 .bf16) (x7 : Vec Ideal S256x1024 .bf16)
  (x8 : Vec Ideal S256x1024 .bf16) (x9 : Vec Ideal S1x128 .f32)

/-- The body's query products at an index. -/
theorem queries_at (r : Fin 512) (n : Fin 2048) :
    k0_pay44 x0 x1 x2 x3 x4 x5 x6 x7 x8 x9 (ix2 r n) = qRow x0 x4 x6 r n := by
  unfold k0_pay44 k0_pay39
  simp only [View.ld_unit_zero (S := S512x384) origin2, View.ld_unit_zero (S := S1x384) origin2, View.ld_unit_zero (S := S384x2048) origin2]
  exact qproduct_at x0 x4 x6 r n

/-- The body's key products at an index. -/
theorem keys_at (r : Fin 512) (n : Fin 1024) :
    k0_pay46 x0 x1 x2 x3 x4 x5 x6 x7 x8 x9 (ix2 r n) = kvRow x1 x5 x7 r n := by
  unfold k0_pay46 k0_pay40
  simp only [View.ld_unit_zero (S := S512x256) origin2, View.ld_unit_zero (S := S1x256) origin2, View.ld_unit_zero (S := S256x1024) origin2]
  exact kproduct_at x1 x5 x7 r n

/-- The body's angles at an index. -/
theorem angles_at (r : Fin 512) (l : Fin 128) :
    k0_pay41 x0 x1 x2 x3 x4 x5 x6 x7 x8 x9 (ix2 r l) = angles x3 x9 r l := by
  unfold k0_pay41
  simp only [View.ld_unit_zero (S := S512x1) origin2, View.ld_unit_zero (S := S1x128) origin2]
  exact angle_at x3 x9 r l

/-- The body's cosines at an index. -/
theorem cosines_at (r : Fin 512) (l : Fin 128) :
    k0_pay42 x0 x1 x2 x3 x4 x5 x6 x7 x8 x9 (ix2 r l) = cosLane (angles x3 x9 r) l := by
  unfold k0_pay42 k0_pay38
  rw [cos_at]
  exact congrArg (cosLane · l) (funext fun l' => angles_at x0 x1 x2 x3 x4 x5 x6 x7 x8 x9 r l')

/-- The body's signed sines at an index. -/
theorem sines_at (r : Fin 512) (l : Fin 128) :
    k0_pay43 x0 x1 x2 x3 x4 x5 x6 x7 x8 x9 (ix2 r l) = sinLane (angles x3 x9 r) l := by
  unfold k0_pay43 k0_pay38
  rw [sin_at]
  exact congrArg (sinLane · l) (funext fun l' => angles_at x0 x1 x2 x3 x4 x5 x6 x7 x8 x9 r l')

/-- The same products where the first head's pieces name them. -/
theorem queries_at' (r : Fin 512) (n : Fin 2048) :
    k0_pay7 (k0_pay39 x0 x1 x2 x3 x4 x5 x6 x7 x8 x9) (View.ld x6 r0_6) (ix2 r n) = qRow x0 x4 x6 r n :=
  queries_at x0 x1 x2 x3 x4 x5 x6 x7 x8 x9 r n

/-- The same cosines where the first head's pieces name them. -/
theorem cosines_at' (r : Fin 512) (l : Fin 128) :
    k0_pay5 (k0_pay41 x0 x1 x2 x3 x4 x5 x6 x7 x8 x9) (k0_pay38 x0 x1 x2 x3 x4 x5 x6 x7 x8 x9) 64#32 (ix2 r l)
      = cosLane (angles x3 x9 r) l :=
  cosines_at x0 x1 x2 x3 x4 x5 x6 x7 x8 x9 r l

/-- The same sines where the first head's pieces name them. -/
theorem sines_at' (r : Fin 512) (l : Fin 128) :
    k0_pay6 (k0_pay41 x0 x1 x2 x3 x4 x5 x6 x7 x8 x9) (k0_pay38 x0 x1 x2 x3 x4 x5 x6 x7 x8 x9) (ix2 r l)
      = sinLane (angles x3 x9 r) l :=
  sines_at x0 x1 x2 x3 x4 x5 x6 x7 x8 x9 r l

/-- The rotated key of a block's row. -/
theorem rope_key_at (r : Fin 512) (l : Fin 128) :
    k0_pay45 x0 x1 x2 x3 x4 x5 x6 x7 x8 x9 (ix2 r l)
      = laneRope (fun l' => x2 (ix2 r l')) (cosLane (angles x3 x9 r)) (sinLane (angles x3 x9 r)) l := by
  unfold k0_pay45 k0_pay8 laneRope
  simp only [View.ld_unit_zero (S := S512x128) origin2]
  pointwise [cosines_at', sines_at']

/-- What the body leaves in its block of queries. -/
theorem block10_at (r : Fin 512) (n : Fin 2048) :
    out0_10 x0 x1 x2 x3 x4 x5 x6 x7 x8 x9 (ix2 r n)
      = wideQuery (qRow x0 x4 x6 r) (cosLane (angles x3 x9 r)) (sinLane (angles x3 x9 r)) n := by
  unfold out0_10
  refine View.canon_apply_of_pieces (show Vec Ideal S512x2048 .bf16 from fun y : S512x2048.Idx =>
    wideQuery (qRow x0 x4 x6 (y 0)) (cosLane (angles x3 x9 (y 0))) (sinLane (angles x3 x9 (y 0))) (y 1)) _ ?_ (ix2 r n)
    (cover0_10 _ _ _ _ _ _ _ _ _ _ _ _ _ _ _ _ (ix2 r n))
  simp only [List.forall_mem_cons]
  refine ⟨?_, ?_, ?_, ?_, ?_, ?_, ?_, ?_, ?_, ?_, ?_, ?_, ?_, ?_, ?_, ?_, fun _ h => absurd h List.not_mem_nil⟩
  all_goals
    first
    | refine nope_piece (qRow x0 x4 x6) (fun r => cosLane (angles x3 x9 r)) (fun r => sinLane (angles x3 x9 r)) _ _ _
        (by norm_num) (by norm_num) fun r l => ?_
      simp only [k0_pay35, k0_pay32, k0_pay31, k0_pay28, k0_pay25, k0_pay22, k0_pay16, k0_pay13, k0_pay10, scale]
      pointwise [queries_at, queries_at']
      done
    | refine rope_piece (qRow x0 x4 x6) (fun r => cosLane (angles x3 x9 r)) (fun r => sinLane (angles x3 x9 r)) _ _ _
        (by norm_num) (by norm_num) fun r l => ?_
      simp only [k0_pay36, k0_pay33, k0_pay29, k0_pay26, k0_pay23, k0_pay20, k0_pay19, k0_pay18, k0_pay17, k0_pay14,
        k0_pay11, scale, laneRope]
      pointwise [queries_at, queries_at', cosines_at, cosines_at', sines_at, sines_at']
      done

/-- What the body leaves in its block of keys. -/
theorem block11_at (r : Fin 512) (n : Fin 2048) :
    out0_11 x0 x1 x2 x3 x4 x5 x6 x7 x8 x9 (ix2 r n)
      = wideKey (kvRow x1 x5 x7 r) (fun l => x2 (ix2 r l)) (cosLane (angles x3 x9 r)) (sinLane (angles x3 x9 r)) n := by
  unfold out0_11
  refine View.canon_apply_of_pieces (show Vec Ideal S512x2048 .bf16 from fun y : S512x2048.Idx =>
    wideKey (kvRow x1 x5 x7 (y 0)) (fun l => x2 (ix2 (y 0) l)) (cosLane (angles x3 x9 (y 0))) (sinLane (angles x3 x9 (y 0))) (y 1))
    _ ?_ (ix2 r n) (cover0_11 _ _ _ _ _ _ _ _ _ _ _ _ _ _ _ _ (ix2 r n))
  simp only [List.forall_mem_cons]
  refine ⟨?_, ?_, ?_, ?_, ?_, ?_, ?_, ?_, ?_, ?_, ?_, ?_, ?_, ?_, ?_, ?_, fun _ h => absurd h List.not_mem_nil⟩
  all_goals
    first
    | exact key_rope_piece (kvRow x1 x5 x7) (fun r l => x2 (ix2 r l)) (fun r => cosLane (angles x3 x9 r))
        (fun r => sinLane (angles x3 x9 r)) _ _ _ (by norm_num) (by norm_num)
        fun r l => rope_key_at x0 x1 x2 x3 x4 x5 x6 x7 x8 x9 r l
    | refine key_nope_piece (kvRow x1 x5 x7) (fun r l => x2 (ix2 r l)) (fun r => cosLane (angles x3 x9 r))
        (fun r => sinLane (angles x3 x9 r)) _ _ _ (by norm_num) (by norm_num) fun r l => ?_
      simp only [k0_pay37, k0_pay34, k0_pay30, k0_pay27, k0_pay24, k0_pay21, k0_pay15, k0_pay12]
      pointwise [keys_at]
      done

/-- What the body leaves in its block of values. -/
theorem block12_at (r : Fin 512) (n : Fin 1024) :
    out0_12 x0 x1 x2 x3 x4 x5 x6 x7 x8 x9 (ix2 r n) = kvRow x1 x5 x8 r n := by
  unfold out0_12
  rw [View.canon_unit_zero origin2]
  unfold k0_pay40
  simp only [View.ld_unit_zero (S := S512x256) origin2, View.ld_unit_zero (S := S1x256) origin2, View.ld_unit_zero (S := S256x1024) origin2]
  unfold k0_pay1 kvRow productAt
  pointwise [kvnormed_at]

end

end Cert.Proof.MlaQkvBlock

end
-- ==== Proof.MlaQkvArray.lean ====
/- What the three result arrays of the latent attention's head kernel hold after the run: the queries, the keys, the values. -/
module

public import proofs.«01_k».proof.Proof.MlaQkvBlock
public import Idealize.ShloMosaic.Lib.StableHlo.ReadAt
public import Idealize.ShloMosaic.Lib.VecWindow

@[expose] public section

set_option maxRecDepth 16384

noncomputable section

open Idealize.ShloMosaic Idealize.ShloMosaic.TcCoe Idealize.ShloMosaic.Tactic Idealize.SL.Sem

namespace Cert.Proof.MlaQkvArray

open Cert.MlaQkvIdeal Cert.MlaQkvIdeal.Gen Cert.Proof.LatentHeads Cert.Proof.MlaQkvBlock

variable (m : (ℓ : Loc nD τ sig) → Buf (Elt Ideal) ℓ)

/-- The block each window holds at a grid point. -/
theorem idx : ∀ t : Fin cfg0.N, win0_0.index t = ![t.val, 0]
      ∧ win0_1.index t = ![t.val, 0]
      ∧ win0_2.index t = ![t.val, 0]
      ∧ win0_3.index t = ![t.val, 0]
      ∧ win0_4.index t = ![0, 0]
      ∧ win0_5.index t = ![0, 0]
      ∧ win0_6.index t = ![0, 0]
      ∧ win0_7.index t = ![0, 0]
      ∧ win0_8.index t = ![0, 0]
      ∧ win0_9.index t = ![0, 0]
      ∧ win0_10.index t = ![t.val, 0]
      ∧ win0_11.index t = ![t.val, 0]
      ∧ win0_12.index t = ![t.val, 0]
      ∧ t.val < 64 :=
  (by decide +kernel : ∀ t : Fin grid0.N, _)

/-- The arrays a device starts with: the two latents, the rotary key, the positions, the norms' weights and the weights. -/
abbrev Cq (c : Dev nD) : FVec Ideal ⟨2, ![32768, 384]⟩ .f32 := m ((c.tc : Thread nD τ).loc main_arg0)
abbrev Ckv (c : Dev nD) : FVec Ideal ⟨2, ![32768, 256]⟩ .f32 := m ((c.tc : Thread nD τ).loc main_arg1)
abbrev Kr (c : Dev nD) : FVec Ideal ⟨2, ![32768, 128]⟩ .f32 := m ((c.tc : Thread nD τ).loc main_arg2)
abbrev Pos (c : Dev nD) : IVec ⟨2, ![8, 4096]⟩ 32 := m ((c.tc : Thread nD τ).loc main_arg3)
abbrev Wq (c : Dev nD) : FVec Ideal ⟨1, ![384]⟩ .f32 := m ((c.tc : Thread nD τ).loc main_arg4)
abbrev Uq (c : Dev nD) : FVec Ideal ⟨2, ![384, 1536]⟩ .f32 := m ((c.tc : Thread nD τ).loc main_arg5)
abbrev Wkv (c : Dev nD) : FVec Ideal ⟨1, ![256]⟩ .f32 := m ((c.tc : Thread nD τ).loc main_arg6)
abbrev Ukv (c : Dev nD) : FVec Ideal ⟨2, ![256, 2048]⟩ .f32 := m ((c.tc : Thread nD τ).loc main_arg7)

/-- The row of the array that row `r` of a point's block is. -/
def row (t : Fin cfg0.N) (r : Fin 512) : Fin 32768 :=
  ⟨512 * t.val + r.val, by have := r.isLt; have : t.val < 64 := (idx t).2.2.2.2.2.2.2.2.2.2.2.2.2; omega⟩

/-- The block of the query latent at a point. -/
theorem cq_at (c : Dev nD) (t : Fin cfg0.N) (r : Fin 512) (e : Fin 384) :
    (iblk m c 0 t : Vec Ideal S512x384 .f32) (ix2 r e) = Cq m c (ix2 (row t r) e) := by
  unfold row
  blk_ext [iblk, V, idx t]

/-- The block of the key-value latent at a point. -/
theorem ckv_at (c : Dev nD) (t : Fin cfg0.N) (r : Fin 512) (e : Fin 256) :
    (iblk m c 1 t : Vec Ideal S512x256 .f32) (ix2 r e) = Ckv m c (ix2 (row t r) e) := by
  unfold row
  blk_ext [iblk, V, idx t]

/-- The block of the rotary key at a point. -/
theorem kr_at (c : Dev nD) (t : Fin cfg0.N) (r : Fin 512) (e : Fin 128) :
    (iblk m c 2 t : Vec Ideal S512x128 .f32) (ix2 r e) = Kr m c (ix2 (row t r) e) := by
  unfold row
  blk_ext [iblk, V, idx t]

/-- The positions as the kernel is handed them: one number per flat row. -/
theorem pos_entry (c : Dev nD) (r : Fin 32768) :
    (V m c main_v31 : Vec Ideal S32768x1 .f32) (ix2 r 0) = FloatOps.sitofp (F := Ideal) .f32 (rowPos (Pos m c) r) := by
  unfold rowPos
  entry_read
  pointwise

/-- Their block at a point. -/
theorem pos_at (c : Dev nD) (t : Fin cfg0.N) (r : Fin 512) :
    (iblk m c 3 t : Vec Ideal S512x1 .f32) (ix2 r 0) = FloatOps.sitofp (F := Ideal) .f32 (rowPos (Pos m c) (row t r)) := by
  rw [← pos_entry m c (row t r)]
  unfold row
  blk_ext [iblk, idx t]

/-- The query norm's weights as the kernel is handed them. -/
theorem qnorm_entry (c : Dev nD) (e : Fin 384) : (V m c main_v32 : Vec Ideal S1x384 .f32) (ix2 0 e) = Wq m c (ix1 e) := by
  entry_read
  pointwise

/-- Their block at a point. -/
theorem qnorm_at (c : Dev nD) (t : Fin cfg0.N) (e : Fin 384) :
    (iblk m c 4 t : Vec Ideal S1x384 .f32) (ix2 0 e) = Wq m c (ix1 e) := by
  rw [← qnorm_entry m c e]
  blk_ext [iblk, idx t]

/-- The key-value norm's weights as the kernel is handed them. -/
theorem kvnorm_entry (c : Dev nD) (e : Fin 256) : (V m c main_v33 : Vec Ideal S1x256 .f32) (ix2 0 e) = Wkv m c (ix1 e) := by
  entry_read
  pointwise

/-- Their block at a point. -/
theorem kvnorm_at (c : Dev nD) (t : Fin cfg0.N) (e : Fin 256) :
    (iblk m c 5 t : Vec Ideal S1x256 .f32) (ix2 0 e) = Wkv m c (ix1 e) := by
  rw [← kvnorm_entry m c e]
  blk_ext [iblk, idx t]

/-- A lane of the laid-out query weights, case by case, is the lane of the plain weights that `wideCol` names. -/
theorem wide_cases (f : Fin 1536 → EReal) (n : Fin 2048) :
    (if h : n.val % 256 < 128 then f ⟨n.val / 256 * 192 + n.val % 256, by omega⟩
      else if h1 : n.val % 256 - 128 < 64 then f ⟨n.val / 256 * 192 + (128 + (n.val % 256 - 128)), by omega⟩
      else if h2 : n.val % 256 - 128 - 64 < 32 then f ⟨n.val / 256 * 192 + (128 + (32 + (n.val % 256 - 128 - 64))), by omega⟩
      else f ⟨n.val / 256 * 192 + (128 + (n.val % 256 - 128 - 64 - 32)), by omega⟩) = f (wideCol n) := by
  have hn := n.isLt
  unfold wideCol swapLane
  split_ifs <;> rfl

set_option maxHeartbeats 2000000 in
/-- The query weights as the kernel is handed them, each head's 192 columns laid out over 256. -/
theorem wuq_entry (c : Dev nD) (e : Fin 384) (n : Fin 2048) :
    (V m c main_v8 : Vec Ideal S384x2048 .bf16) (ix2 e n) = Uq m c (ix2 e (wideCol n)) := by
  refine Eq.trans ?_ (wide_cases (fun k => Uq m c (ix2 e k)) n)
  unfold V
  simp only [hostOps0, List.flatten_cons, List.flatten_nil, List.append_nil, List.cons_append, List.nil_append]
  after_reads_at
  after_reads_at

/-- Their block at a point. -/
theorem wuq_at (c : Dev nD) (t : Fin cfg0.N) (e : Fin 384) (n : Fin 2048) :
    (iblk m c 6 t : Vec Ideal S384x2048 .bf16) (ix2 e n) = Uq m c (ix2 e (wideCol n)) := by
  rw [← wuq_entry m c e n]
  blk_ext [iblk, idx t]

/-- The key weights as the kernel is handed them: each head's first 128 columns. -/
theorem wuk_entry (c : Dev nD) (e : Fin 256) (n : Fin 1024) :
    (V m c main_v12 : Vec Ideal S256x1024 .bf16) (ix2 e n)
      = Ukv m c (ix2 e ⟨n.val / 128 * 256 + n.val % 128, by have := n.isLt; omega⟩) := by
  entry_read
  pointwise

/-- Their block at a point. -/
theorem wuk_at (c : Dev nD) (t : Fin cfg0.N) (e : Fin 256) (n : Fin 1024) :
    (iblk m c 7 t : Vec Ideal S256x1024 .bf16) (ix2 e n)
      = Ukv m c (ix2 e ⟨n.val / 128 * 256 + n.val % 128, by have := n.isLt; omega⟩) := by
  rw [← wuk_entry m c e n]
  blk_ext [iblk, idx t]

/-- The value weights as the kernel is handed them: each head's last 128 columns. -/
theorem wuv_entry (c : Dev nD) (e : Fin 256) (n : Fin 1024) :
    (V m c main_v15 : Vec Ideal S256x1024 .bf16) (ix2 e n)
      = Ukv m c (ix2 e ⟨n.val / 128 * 256 + (128 + n.val % 128), by have := n.isLt; omega⟩) := by
  entry_read
  pointwise

/-- Their block at a point. -/
theorem wuv_at (c : Dev nD) (t : Fin cfg0.N) (e : Fin 256) (n : Fin 1024) :
    (iblk m c 8 t : Vec Ideal S256x1024 .bf16) (ix2 e n)
      = Ukv m c (ix2 e ⟨n.val / 128 * 256 + (128 + n.val % 128), by have := n.isLt; omega⟩) := by
  rw [← wuv_entry m c e n]
  blk_ext [iblk, idx t]

set_option maxHeartbeats 2000000 in
/-- The frequencies as the kernel is handed them: the 32, the same 32 again, and 64 zeros. -/
theorem freq_entry (c : Dev nD) (l : Fin 128) :
    (V m c main_v29 : Vec Ideal S1x128 .f32) (ix2 0 l)
      = if l.val < 32 then freq l.val else if l.val - 32 < 32 then freq (l.val - 32) else 0 := by
  unfold V
  simp only [hostOps0, List.flatten_cons, List.flatten_nil, List.append_nil, List.cons_append, List.nil_append]
  after_reads_at
  after_reads_at
  rfl

/-- Their block at a point, at the lanes of the two copies. -/
theorem freq_at (c : Dev nD) (t : Fin cfg0.N) (l : Fin 128) (k : Fin 32) (h : l.val = k.val ∨ l.val = 32 + k.val) :
    (iblk m c 9 t : Vec Ideal S1x128 .f32) (ix2 0 l) = freq k.val := by
  have hk := k.isLt
  have e : (iblk m c 9 t : Vec Ideal S1x128 .f32) (ix2 0 l) = (V m c main_v29 : Vec Ideal S1x128 .f32) (ix2 0 l) := by
    blk_ext [iblk, idx t]
  rw [e, freq_entry m c l]
  rcases h with h | h
  · rw [if_pos (by omega), h]
  · rw [if_neg (by omega), if_pos (by omega), h]
    exact congrArg freq (by omega)

/-- The rotary key's lanes past 64 are its lanes below 64 with their halves swapped. -/
def Swapped (kr : FVec Ideal ⟨2, ![32768, 128]⟩ .f32) : Prop :=
  ∀ (r : Fin 32768) (l : Fin 128), kr (ix2 r l) = kr (ix2 r ⟨(swapLane l).val, by have := (swapLane l).isLt; omega⟩)

/-- The angles of a block's row, at the lanes of the two copies. -/
theorem angles_row (c : Dev nD) (t : Fin cfg0.N) (r : Fin 512) (l : Fin 128) (k : Fin 32) (h : l.val = k.val ∨ l.val = 32 + k.val) :
    angles (iblk m c 3 t) (iblk m c 9 t) r l = angle (rowPos (Pos m c) (row t r)) k := by
  unfold angles angle
  rw [pos_at m c t r, freq_at m c t l k h]

/-- What one point leaves at a place of its block of queries. -/
theorem point10 (c : Dev nD) (t : Fin cfg0.N) (r : Fin 512) (n : Fin 2048) :
    out0_10 (iblk m c 0 t) (iblk m c 1 t) (iblk m c 2 t) (iblk m c 3 t) (iblk m c 4 t) (iblk m c 5 t) (iblk m c 6 t) (iblk m c 7 t)
        (iblk m c 8 t) (iblk m c 9 t) (ix2 r n)
      = queries (Cq m c) (Wq m c) (Uq m c) (Pos m c) (ix2 (row t r) n) := by
  rw [block10_at]
  refine wideQuery_eq _ _ _ _ (fun n' => ?_) (angles_row m c t r) n
  unfold qRow
  simp only [cq_at m c t, qnorm_at m c t, wuq_at m c t]
  rfl

/-- What one point leaves at a place of its block of keys, where the rotary key's last lanes are its first, swapped. -/
theorem point11 (c : Dev nD) (hs : Swapped (Kr m c)) (t : Fin cfg0.N) (r : Fin 512) (n : Fin 2048) :
    out0_11 (iblk m c 0 t) (iblk m c 1 t) (iblk m c 2 t) (iblk m c 3 t) (iblk m c 4 t) (iblk m c 5 t) (iblk m c 6 t) (iblk m c 7 t)
        (iblk m c 8 t) (iblk m c 9 t) (ix2 r n)
      = keys (Ckv m c) (Wkv m c) (Ukv m c) (Kr m c) (Pos m c) (ix2 (row t r) n) := by
  rw [block11_at]
  refine wideKey_eq _ _ _ _ _ _ (fun n' => ?_) (fun l => (kr_at m c t r l).trans (hs (row t r) l)) (angles_row m c t r) n
  unfold kvRow
  simp only [ckv_at m c t, kvnorm_at m c t, wuk_at m c t]
  rfl

/-- What one point leaves at a place of its block of values. -/
theorem point12 (c : Dev nD) (t : Fin cfg0.N) (r : Fin 512) (n : Fin 1024) :
    out0_12 (iblk m c 0 t) (iblk m c 1 t) (iblk m c 2 t) (iblk m c 3 t) (iblk m c 4 t) (iblk m c 5 t) (iblk m c 6 t) (iblk m c 7 t)
        (iblk m c 8 t) (iblk m c 9 t) (ix2 r n)
      = values (Ckv m c) (Wkv m c) (Ukv m c) (ix2 (row t r) n) := by
  rw [block12_at]
  unfold kvRow
  simp only [ckv_at m c t, kvnorm_at m c t, wuv_at m c t]
  rfl

/-- The same, at the place of the array that the block's place is. -/
theorem point10_emb (c : Dev nD) (t : Fin cfg0.N) (y : S512x2048.Idx) :
    out0_10 (iblk m c 0 t) (iblk m c 1 t) (iblk m c 2 t) (iblk m c 3 t) (iblk m c 4 t) (iblk m c 5 t) (iblk m c 6 t) (iblk m c 7 t)
        (iblk m c 8 t) (iblk m c 9 t) y
      = queries (Cq m c) (Wq m c) (Uq m c) (Pos m c) (((cfg0.win 10).blk t).view.emb y) := by
  have e : (((cfg0.win 10).blk t).view.emb y : S32768x2048.Idx) = ix2 (row t (y 0)) (y 1) := by
    unfold row
    blk_ext [idx t]
  have ey : y = ix2 (y 0) (y 1) := by blk_ext []
  rw [e]
  exact (congrArg _ ey).trans (point10 m c t (y 0) (y 1))

/-- The array of queries after the run. -/
theorem final10 (c : Dev nD) :
    (dats m 0 c).arrAt 10 cfg0.N = queries (Cq m c) (Wq m c) (Uq m c) (Pos m c) := by
  refine (dats m 0 c).arrAt_eq_of_covers 10 _ (by decide +kernel) fun t _ y => ?_
  blk_simp
  rw [after0_10]
  exact point10_emb m c t y

/-- The same, at the place of the array that the block's place is. -/
theorem point11_emb (c : Dev nD) (hs : Swapped (Kr m c)) (t : Fin cfg0.N) (y : S512x2048.Idx) :
    out0_11 (iblk m c 0 t) (iblk m c 1 t) (iblk m c 2 t) (iblk m c 3 t) (iblk m c 4 t) (iblk m c 5 t) (iblk m c 6 t) (iblk m c 7 t)
        (iblk m c 8 t) (iblk m c 9 t) y
      = keys (Ckv m c) (Wkv m c) (Ukv m c) (Kr m c) (Pos m c) (((cfg0.win 11).blk t).view.emb y) := by
  have e : (((cfg0.win 11).blk t).view.emb y : S32768x2048.Idx) = ix2 (row t (y 0)) (y 1) := by
    unfold row
    blk_ext [idx t]
  have ey : y = ix2 (y 0) (y 1) := by blk_ext []
  rw [e]
  exact (congrArg _ ey).trans (point11 m c hs t (y 0) (y 1))

/-- The array of keys after the run. -/
theorem final11 (c : Dev nD) (hs : Swapped (Kr m c)) :
    (dats m 0 c).arrAt 11 cfg0.N = keys (Ckv m c) (Wkv m c) (Ukv m c) (Kr m c) (Pos m c) := by
  refine (dats m 0 c).arrAt_eq_of_covers 11 _ (by decide +kernel) fun t _ y => ?_
  blk_simp
  rw [after0_11]
  exact point11_emb m c hs t y

/-- The same, at the place of the array that the block's place is. -/
theorem point12_emb (c : Dev nD) (t : Fin cfg0.N) (y : S512x1024.Idx) :
    out0_12 (iblk m c 0 t) (iblk m c 1 t) (iblk m c 2 t) (iblk m c 3 t) (iblk m c 4 t) (iblk m c 5 t) (iblk m c 6 t) (iblk m c 7 t)
        (iblk m c 8 t) (iblk m c 9 t) y
      = values (Ckv m c) (Wkv m c) (Ukv m c) (((cfg0.win 12).blk t).view.emb y) := by
  have e : (((cfg0.win 12).blk t).view.emb y : S32768x1024.Idx) = ix2 (row t (y 0)) (y 1) := by
    unfold row
    blk_ext [idx t]
  have ey : y = ix2 (y 0) (y 1) := by blk_ext []
  rw [e]
  exact (congrArg _ ey).trans (point12 m c t (y 0) (y 1))

/-- The array of values after the run. -/
theorem final12 (c : Dev nD) :
    (dats m 0 c).arrAt 12 cfg0.N = values (Ckv m c) (Wkv m c) (Ukv m c) := by
  refine (dats m 0 c).arrAt_eq_of_covers 12 _ (by decide +kernel) fun t _ y => ?_
  blk_simp
  rw [after0_12]
  exact point12_emb m c t y

end Cert.Proof.MlaQkvArray

end
-- ==== Proof.SwappedKey.lean ====
/- What the stated precondition says of the rotary key: its last 64 lanes are its first 64 with their halves swapped. -/
module

public import proofs.«01_k».proof.Defs
public import proofs.«01_k».proof.Proof.MlaQkvArray
public import Idealize.ShloMosaic.Lib.Pointwise

@[expose] public section

noncomputable section

open Idealize.ShloMosaic Idealize.ShloMosaic.TcCoe Idealize.SL.Sem

namespace Cert.Proof.SwappedKey

open Cert.Pre_key_halves_swapped Cert.Proof.LatentHeads

/-- The side conditions of the precondition's own text. -/
theorem facts : Cert.Pre_key_halves_swapped.Facts where
  slices_S32768x128_S32768x64_0_64 := by decide +kernel
  slices_S32768x128_S32768x32_0_32 := by decide +kernel
  slices_S32768x128_S32768x32_0_0 := by decide +kernel
  concatenates_S32768x32_S32768x32_S32768x64_d1 := by decide +kernel

instance : Cert.Pre_key_halves_swapped.Facts := facts

/-- Two extended reals whose comparison for equality gives one are equal. -/
theorem eq_of_cmp {x y : EReal} (h : Ideal.cmp .oeq x y = 1#1) : x = y := by
  simp only [Ideal.cmp] at h
  by_contra hne
  simp [hne] at h

/-- Lane `64 + k` of the key, where the precondition holds, by the half that `k` lies in. -/
theorem upper_of_pre (a0 : FVec Ideal S32768x384 .f32) (a1 : FVec Ideal S32768x256 .f32) (kr : FVec Ideal S32768x128 .f32)
    (a3 : IVec S8x4096 32) (a4 : FVec Ideal S384 .f32) (a5 : FVec Ideal S384x1536 .f32) (a6 : FVec Ideal S256 .f32)
    (a7 : FVec Ideal S256x2048 .f32) (h : fn a0 a1 kr a3 a4 a5 a6 a7 = fun _ => 1#1) (r : Fin 32768) (k : Fin 64) :
    kr (ix2 r ⟨64 + k.val, by omega⟩)
      = if h : k.val < 32 then kr (ix2 r ⟨32 + k.val, by omega⟩) else kr (ix2 r ⟨k.val - 32, by omega⟩) := by
  refine eq_of_cmp (Eq.trans ?_ (congrFun h (ix2 r k)))
  unfold fn
  pointwise

/-- Where the precondition holds, the key's lanes past 64 are its lanes below 64 with their halves swapped. -/
theorem swapped_of_pre (a0 : FVec Ideal S32768x384 .f32) (a1 : FVec Ideal S32768x256 .f32) (kr : FVec Ideal S32768x128 .f32)
    (a3 : IVec S8x4096 32) (a4 : FVec Ideal S384 .f32) (a5 : FVec Ideal S384x1536 .f32) (a6 : FVec Ideal S256 .f32)
    (a7 : FVec Ideal S256x2048 .f32) (h : fn a0 a1 kr a3 a4 a5 a6 a7 = fun _ => 1#1) : Cert.Proof.MlaQkvArray.Swapped kr := by
  intro r l
  have hl := l.isLt
  by_cases h0 : l.val < 64
  · exact congrArg (fun k => kr (ix2 r k)) (Fin.ext (by simp only [swapLane]; rw [if_pos h0]))
  · have e : l = ⟨64 + (⟨l.val - 64, by omega⟩ : Fin 64).val, by show 64 + (l.val - 64) < 128; omega⟩ :=
      Fin.ext (by show l.val = 64 + (l.val - 64); omega)
    refine ((congrArg (fun k => kr (ix2 r k)) e).trans (upper_of_pre a0 a1 kr a3 a4 a5 a6 a7 h r ⟨l.val - 64, by omega⟩)).trans ?_
    by_cases h1 : l.val - 64 < 32
    · rw [dif_pos h1]
      exact congrArg (fun k => kr (ix2 r k)) (Fin.ext (by simp only [swapLane]; rw [if_neg h0, if_pos h1]))
    · rw [dif_neg h1]
      exact congrArg (fun k => kr (ix2 r k)) (Fin.ext (by simp only [swapLane]; rw [if_neg h0, if_neg h1]))

end Cert.Proof.SwappedKey

end
-- ==== Proof.MlaQkvRef.lean ====
/- What the reference of the latent attention's heads computes, element by element.

   The reference's terms are cut at the normed rows, the products, the angles and the rotations; each piece is read at an
   index. -/
module

public import proofs.«01_k».proof.Proof.Gen.MlaQkvRefIdeal.Run
public import proofs.«01_k».proof.Proof.LatentHeads
public import proofs.«01_k».proof.Proof.Projection

@[expose] public section

set_option maxRecDepth 16384

noncomputable section

open Idealize.ShloMosaic Idealize.ShloMosaic.TcCoe Idealize.ShloMosaic.Tactic Idealize.SL.Sem

namespace Cert.Proof.MlaQkvRef

open Cert.MlaQkvRefIdeal Cert.MlaQkvRefIdeal.Gen Cert.Proof.LatentHeads
open Cert.Proof.Projection (zero_lane)

/-- The normed rows of the query latent. -/
def qrows (x : FVec Ideal S32768x384 .f32) (w : FVec Ideal S384 .f32) : FVec Ideal S32768x384 .f32 :=
  mulf (mulf x (broadcastInDim S32768x384 ![0, 1] bcast_S32768x1_S32768x384_0_1
      (Host.rsqrt (addf
        (Host.divf (broadcastInDim S32768x1 ![0] bcast_S32768_S32768x1_0
            (Host.reduceAdd (mulf x x) (constant S_ .f32 0x00000000#32) reducesTo_S32768x384_S32768_d1 h_S_))
          (broadcastInDim S32768x1 ![] bcast_S_S32768x1 (constant S_ .f32 0x43C00000#32)))
        (broadcastInDim S32768x1 ![] bcast_S_S32768x1 (constant S_ .f32 0x358637BD#32))))))
    (broadcastInDim S32768x384 ![0, 1] bcast_S1x384_S32768x384_0_1 (broadcastInDim S1x384 ![1] bcast_S384_S1x384_1 w))

/-- The normed rows of the key-value latent. -/
def kvrows (x : FVec Ideal S32768x256 .f32) (w : FVec Ideal S256 .f32) : FVec Ideal S32768x256 .f32 :=
  mulf (mulf x (broadcastInDim S32768x256 ![0, 1] bcast_S32768x1_S32768x256_0_1
      (Host.rsqrt (addf
        (Host.divf (broadcastInDim S32768x1 ![0] bcast_S32768_S32768x1_0
            (Host.reduceAdd (mulf x x) (constant S_ .f32 0x00000000#32) reducesTo_S32768x256_S32768_d1 h_S_))
          (broadcastInDim S32768x1 ![] bcast_S_S32768x1 (constant S_ .f32 0x43800000#32)))
        (broadcastInDim S32768x1 ![] bcast_S_S32768x1 (constant S_ .f32 0x358637BD#32))))))
    (broadcastInDim S32768x256 ![0, 1] bcast_S1x256_S32768x256_0_1 (broadcastInDim S1x256 ![1] bcast_S256_S1x256_1 w))

/-- The query products. -/
def qproducts (y : FVec Ideal S32768x384 .f32) (G : FVec Ideal S384x1536 .f32) : FVec Ideal S32768x1536 .f32 :=
  Host.dotGeneral dot_S32768x384_S384x1536_S32768x1536_1_0_0_1_n_n none y G

/-- The key-value products. -/
def kvproducts (y : FVec Ideal S32768x256 .f32) (G : FVec Ideal S256x2048 .f32) : FVec Ideal S32768x2048 .f32 :=
  Host.dotGeneral dot_S32768x256_S256x2048_S32768x2048_1_0_0_1_n_n none y G

/-- The angles of every row. -/
def angs (pos : IVec S8x4096 32) : FVec Ideal S32768x32 .f32 :=
  mulf (broadcastInDim S32768x32 ![0, 1] bcast_S32768x1_S32768x32_0_1
      (shapeCast _ (sitofp .f32 pos) shapeCasts_S8x4096_S32768x1))
    (broadcastInDim S32768x32 ![0, 1] bcast_S1x32_S32768x32_0_1 (broadcastInDim S1x32 ![1] bcast_S32_S1x32_1
      (Host.divf (broadcastInDim S32 ![] bcast_S_S32 (constant S_ .f32 0x3F800000#32))
        (Host.powf (broadcastInDim S32 ![] bcast_S_S32 (constant S_ .f32 0x461C4000#32))
          (Host.divf (addf (broadcastInDim S32 ![] bcast_S_S32 (constant S_ .f32 0x00000000#32))
              (mulf (broadcastInDim S32 ![] bcast_S_S32 (constant S_ .f32 0x40000000#32)) (sitofp .f32 (iotaInDim S32 32 0))))
            (broadcastInDim S32 ![] bcast_S_S32 (constant S_ .f32 0x42800000#32)))))))

/-- Each row's angles beside each of its heads. -/
def perHead (g : FVec Ideal S32768x32 .f32) : FVec Ideal S32768x8x32 .f32 :=
  broadcastInDim S32768x8x32 ![0, 1, 2] bcast_S32768x1x32_S32768x8x32_0_1_2
    (broadcastInDim S32768x1x32 ![0, 2] bcast_S32768x32_S32768x1x32_0_2 g)

/-- The rotation of the heads' 64 lanes. -/
def turn8 (t : FVec Ideal S32768x8x64 .f32) (g : FVec Ideal S32768x32 .f32) : FVec Ideal S32768x8x64 .f32 :=
  concatenate S32768x8x64 2
    [⟨S32768x8x32, subf (mulf (extractStridedSlice S32768x8x32 ![0, 0, 0] t slices_S32768x8x64_S32768x8x32_0_0_0) (perHead (Host.cos g)))
        (mulf (extractStridedSlice S32768x8x32 ![0, 0, 32] t slices_S32768x8x64_S32768x8x32_0_0_32) (perHead (Host.sin g)))⟩,
      ⟨S32768x8x32, addf (mulf (extractStridedSlice S32768x8x32 ![0, 0, 0] t slices_S32768x8x64_S32768x8x32_0_0_0) (perHead (Host.sin g)))
        (mulf (extractStridedSlice S32768x8x32 ![0, 0, 32] t slices_S32768x8x64_S32768x8x32_0_0_32) (perHead (Host.cos g)))⟩]
    concatenates_S32768x8x32_S32768x8x32_S32768x8x64_d2

/-- The rotation of the one rotary key. -/
def turn1 (t : FVec Ideal S32768x1x64 .f32) (g : FVec Ideal S32768x32 .f32) : FVec Ideal S32768x1x64 .f32 :=
  concatenate S32768x1x64 2
    [⟨S32768x1x32, subf (mulf (extractStridedSlice S32768x1x32 ![0, 0, 0] t slices_S32768x1x64_S32768x1x32_0_0_0)
          (broadcastInDim S32768x1x32 ![0, 2] bcast_S32768x32_S32768x1x32_0_2 (Host.cos g)))
        (mulf (extractStridedSlice S32768x1x32 ![0, 0, 32] t slices_S32768x1x64_S32768x1x32_0_0_32)
          (broadcastInDim S32768x1x32 ![0, 2] bcast_S32768x32_S32768x1x32_0_2 (Host.sin g)))⟩,
      ⟨S32768x1x32, addf (mulf (extractStridedSlice S32768x1x32 ![0, 0, 0] t slices_S32768x1x64_S32768x1x32_0_0_0)
          (broadcastInDim S32768x1x32 ![0, 2] bcast_S32768x32_S32768x1x32_0_2 (Host.sin g)))
        (mulf (extractStridedSlice S32768x1x32 ![0, 0, 32] t slices_S32768x1x64_S32768x1x32_0_0_32)
          (broadcastInDim S32768x1x32 ![0, 2] bcast_S32768x32_S32768x1x32_0_2 (Host.cos g)))⟩]
    concatenates_S32768x1x32_S32768x1x32_S32768x1x64_d2

/-- The heads' last 64 query products. -/
def lastLanes (p : FVec Ideal S32768x1536 .f32) : FVec Ideal S32768x8x64 .f32 :=
  extractStridedSlice S32768x8x64 ![0, 0, 128] (shapeCast S32768x8x192 p shapeCasts_S32768x1536_S32768x8x192)
    slices_S32768x8x192_S32768x8x64_0_0_128

/-- The rotary key, one head wide. -/
def rotaryKey (kr : FVec Ideal S32768x128 .f32) : FVec Ideal S32768x1x64 .f32 :=
  broadcastInDim S32768x1x64 ![0, 2] bcast_S32768x64_S32768x1x64_0_2
    (extractStridedSlice S32768x64 ![0, 0] kr slices_S32768x128_S32768x64_0_0)

/-- The heads' 192 lanes, padded to 256 and laid side by side. -/
def sideBySide (x : FVec Ideal S32768x8x192 .f32) : FVec Ideal S32768x2048 .bf16 :=
  truncf .bf16 (shapeCast S32768x2048 (pad S32768x8x256 ![0, 0, 0] ![0, 0, 64] ![0, 0, 0] x (sitofp .f32 (constantI S_ 32 0#32))
    pads_S32768x8x192_S32768x8x256_000_000_0640 h_S_) shapeCasts_S32768x8x256_S32768x2048) bitsLt_bf16_f32

/-- The heads' query lanes: those without position, then the rotated ones. -/
def qheads (p : FVec Ideal S32768x1536 .f32) (u : FVec Ideal S32768x8x64 .f32) : FVec Ideal S32768x8x192 .f32 :=
  mulf (concatenate S32768x8x192 2
      [⟨S32768x8x128, extractStridedSlice S32768x8x128 ![0, 0, 0] (shapeCast S32768x8x192 p shapeCasts_S32768x1536_S32768x8x192)
          slices_S32768x8x192_S32768x8x128_0_0_0⟩, ⟨S32768x8x64, u⟩]
      concatenates_S32768x8x128_S32768x8x64_S32768x8x192_d2)
    (broadcastInDim S32768x8x192 ![] bcast_S_S32768x8x192 (constant S_ .f32 0x3D93CD3A#32))

/-- The heads' key lanes: those without position, then the rotated key, the same for each head. -/
def kheads (p : FVec Ideal S32768x2048 .f32) (u : FVec Ideal S32768x1x64 .f32) : FVec Ideal S32768x8x192 .f32 :=
  concatenate S32768x8x192 2
    [⟨S32768x8x128, extractStridedSlice S32768x8x128 ![0, 0, 0] (shapeCast S32768x8x256 p shapeCasts_S32768x2048_S32768x8x256)
        slices_S32768x8x256_S32768x8x128_0_0_0⟩,
      ⟨S32768x8x64, broadcastInDim S32768x8x64 ![0, 1, 2] bcast_S32768x1x64_S32768x8x64_0_1_2 u⟩]
    concatenates_S32768x8x128_S32768x8x64_S32768x8x192_d2

/-- The heads' value lanes, side by side. -/
def vheads (p : FVec Ideal S32768x2048 .f32) : FVec Ideal S32768x1024 .bf16 :=
  truncf .bf16 (shapeCast S32768x1024 (extractStridedSlice S32768x8x128 ![0, 0, 128]
    (shapeCast S32768x8x256 p shapeCasts_S32768x2048_S32768x8x256) slices_S32768x8x256_S32768x8x128_0_0_128)
    shapeCasts_S32768x8x128_S32768x1024) bitsLt_bf16_f32

/-- A query product at an index. -/
theorem qproducts_at (x : FVec Ideal S32768x384 .f32) (w : FVec Ideal S384 .f32) (G : FVec Ideal S384x1536 .f32)
    (r : Fin 32768) (n : Fin 1536) : qproducts (qrows x w) G (ix2 r n)
      = productAt 0x43C00000#32 (fun e => x (ix2 r e)) (fun e => w (ix1 e)) (fun e => G (ix2 e n)) := by
  have h (y : FVec Ideal S32768x384 .f32) : qproducts y G (ix2 r n) = ∑ e : Fin 384, y (ix2 r e) * G (ix2 e n) := by
    unfold qproducts
    pointwise
  have hr (e : Fin 384) : qrows x w (ix2 r e) = normedOf 0x43C00000#32 (fun e' => x (ix2 r e')) (fun e' => w (ix1 e')) e := by
    unfold qrows normedOf
    pointwise
  rw [h]
  unfold productAt
  simp only [hr]

/-- A key-value product at an index. -/
theorem kvproducts_at (x : FVec Ideal S32768x256 .f32) (w : FVec Ideal S256 .f32) (G : FVec Ideal S256x2048 .f32)
    (r : Fin 32768) (n : Fin 2048) : kvproducts (kvrows x w) G (ix2 r n) = kvProducts x w G r n := by
  have h (y : FVec Ideal S32768x256 .f32) : kvproducts y G (ix2 r n) = ∑ e : Fin 256, y (ix2 r e) * G (ix2 e n) := by
    unfold kvproducts
    pointwise
  have hr (e : Fin 256) : kvrows x w (ix2 r e) = normedOf 0x43800000#32 (fun e' => x (ix2 r e')) (fun e' => w (ix1 e')) e := by
    unfold kvrows normedOf
    pointwise
  rw [h]
  unfold kvProducts productAt
  simp only [hr]

/-- An angle at an index. -/
theorem angs_at (pos : IVec S8x4096 32) (r : Fin 32768) (k : Fin 32) : angs pos (ix2 r k) = angle (rowPos pos r) k := by
  unfold angs angle rowPos freq
  pointwise

/-- The angles beside a head, at an index. -/
theorem perHead_at (g : FVec Ideal S32768x32 .f32) (r : Fin 32768) (h : Fin 8) (k : Fin 32) :
    perHead g (ix3 r h k) = g (ix2 r k) := by
  unfold perHead
  pointwise

/-- The rotation with its second half spelt as the concatenation gives it. -/
theorem rot_cases (f : Fin 64 → EReal) (a : Fin 32 → EReal) (k : Fin 64) :
    (if h : k.val < 32 then f k * Ideal.cos (a ⟨k.val, h⟩) - f ⟨32 + k.val, by omega⟩ * Ideal.sin (a ⟨k.val, h⟩)
      else f ⟨k.val - 32, by omega⟩ * Ideal.sin (a ⟨k.val - 32, by omega⟩)
        + f ⟨32 + (k.val - 32), by omega⟩ * Ideal.cos (a ⟨k.val - 32, by omega⟩)) = rot f a k := by
  unfold rot
  by_cases h : k.val < 32
  · rw [dif_pos h, dif_pos h]
  · have e : (⟨32 + (k.val - 32), by omega⟩ : Fin 64) = k := Fin.ext (by show 32 + (k.val - 32) = k.val; omega)
    rw [dif_neg h, dif_neg h, e]

/-- A rotated query lane. -/
theorem turn8_at (t : FVec Ideal S32768x8x64 .f32) (g : FVec Ideal S32768x32 .f32) (r : Fin 32768) (h : Fin 8) (k : Fin 64) :
    turn8 t g (ix3 r h k) = rot (fun k' => t (ix3 r h k')) (fun k' => g (ix2 r k')) k := by
  refine Eq.trans ?_ (rot_cases (fun k' => t (ix3 r h k')) (fun k' => g (ix2 r k')) k)
  unfold turn8
  pointwise [perHead_at]

/-- A rotated key lane. -/
theorem turn1_at (t : FVec Ideal S32768x1x64 .f32) (g : FVec Ideal S32768x32 .f32) (r : Fin 32768) (k : Fin 64) :
    turn1 t g (ix3 r 0 k) = rot (fun k' => t (ix3 r 0 k')) (fun k' => g (ix2 r k')) k := by
  refine Eq.trans ?_ (rot_cases (fun k' => t (ix3 r 0 k')) (fun k' => g (ix2 r k')) k)
  unfold turn1
  pointwise

/-- A lane of the heads side by side. -/
theorem sideBySide_at (x : FVec Ideal S32768x8x192 .f32) (r : Fin 32768) (n : Fin 2048) :
    sideBySide x (ix2 r n)
      = if h : n.val % 256 < 192 then x (ix3 r ⟨n.val / 256, by have := n.isLt; omega⟩ ⟨n.val % 256, h⟩) else 0 := by
  unfold sideBySide
  pointwise [zero_lane]
  have hn : n.val / 256 < 8 := by have := n.isLt; omega
  by_cases h : n.val % 256 < 192
  · rw [dif_pos ⟨hn, h⟩, dif_pos h]
  · rw [dif_neg fun h' => h h'.2, dif_neg h]

/-- A query lane of a head. -/
theorem qheads_at (p : FVec Ideal S32768x1536 .f32) (u : FVec Ideal S32768x8x64 .f32) (r : Fin 32768) (h : Fin 8) (e : Fin 192) :
    qheads p u (ix3 r h e)
      = (if h' : e.val < 128 then p (ix2 r ⟨h.val * 192 + e.val, by have := h.isLt; omega⟩)
          else u (ix3 r h ⟨e.val - 128, by omega⟩)) * scale := by
  unfold qheads scale
  pointwise

/-- A key lane of a head. -/
theorem kheads_at (p : FVec Ideal S32768x2048 .f32) (u : FVec Ideal S32768x1x64 .f32) (r : Fin 32768) (h : Fin 8) (e : Fin 192) :
    kheads p u (ix3 r h e)
      = if h' : e.val < 128 then p (ix2 r ⟨h.val * 256 + e.val, by have := h.isLt; omega⟩)
          else u (ix3 r 0 ⟨e.val - 128, by omega⟩) := by
  unfold kheads
  pointwise

/-- A rotary query product at an index. -/
theorem lastLanes_at (p : FVec Ideal S32768x1536 .f32) (r : Fin 32768) (h : Fin 8) (k : Fin 64) :
    lastLanes p (ix3 r h k) = p (ix2 r ⟨h.val * 192 + (128 + k.val), by have := h.isLt; omega⟩) := by
  unfold lastLanes
  pointwise

/-- A rotary key lane at an index. -/
theorem rotaryKey_at (kr : FVec Ideal S32768x128 .f32) (r : Fin 32768) (k : Fin 64) :
    rotaryKey kr (ix3 r 0 k) = kr (ix2 r ⟨k.val, by have := k.isLt; omega⟩) := by
  unfold rotaryKey
  pointwise

/-- A value lane at an index. -/
theorem vheads_at (p : FVec Ideal S32768x2048 .f32) (r : Fin 32768) (n : Fin 1024) :
    vheads p (ix2 r n) = valueLane (fun n' => p (ix2 r n')) n := by
  unfold vheads valueLane
  pointwise

/-- The reference's queries. -/
theorem queries_eq (x : FVec Ideal S32768x384 .f32) (w : FVec Ideal S384 .f32) (G : FVec Ideal S384x1536 .f32) (pos : IVec S8x4096 32) :
    sideBySide (qheads (qproducts (qrows x w) G) (turn8 (lastLanes (qproducts (qrows x w) G)) (angs pos))) = queries x w G pos := by
  funext j
  idx_vars j
  rw [sideBySide_at]
  unfold queries queryLane
  simp only [qheads_at, turn8_at, lastLanes_at, angs_at, qproducts_at]
  rfl

/-- The reference's keys. -/
theorem keys_eq (x : FVec Ideal S32768x256 .f32) (w : FVec Ideal S256 .f32) (G : FVec Ideal S256x2048 .f32)
    (kr : FVec Ideal S32768x128 .f32) (pos : IVec S8x4096 32) :
    sideBySide (kheads (kvproducts (kvrows x w) G) (turn1 (rotaryKey kr) (angs pos))) = keys x w G kr pos := by
  funext j
  idx_vars j
  rw [sideBySide_at]
  unfold keys keyLane
  simp only [kheads_at, turn1_at, rotaryKey_at, angs_at, kvproducts_at]
  rfl

/-- The reference's values. -/
theorem values_eq (x : FVec Ideal S32768x256 .f32) (w : FVec Ideal S256 .f32) (G : FVec Ideal S256x2048 .f32) :
    vheads (kvproducts (kvrows x w) G) = values x w G := by
  funext j
  idx_vars j
  rw [vheads_at]
  unfold values
  simp only [kvproducts_at]
  rfl

/-- The reference leaves the queries, the keys and the values in its result arrays and keeps its arguments. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v85)
          = queries (m ((c.tc : Thread nD τ).loc main_arg0)) (m ((c.tc : Thread nD τ).loc main_arg4))
              (m ((c.tc : Thread nD τ).loc main_arg5)) (m ((c.tc : Thread nD τ).loc main_arg3))
        ∧ r.2.mem ((c.tc : Thread nD τ).loc main_v88)
          = keys (m ((c.tc : Thread nD τ).loc main_arg1)) (m ((c.tc : Thread nD τ).loc main_arg6))
              (m ((c.tc : Thread nD τ).loc main_arg7)) (m ((c.tc : Thread nD τ).loc main_arg2))
              (m ((c.tc : Thread nD τ).loc main_arg3))
        ∧ r.2.mem ((c.tc : Thread nD τ).loc main_v91)
          = values (m ((c.tc : Thread nD τ).loc main_arg1)) (m ((c.tc : Thread nD τ).loc main_arg6))
              (m ((c.tc : Thread nD τ).loc main_arg7))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7) :=
  (θ_run defs _ _).mono (fun _ h c => ⟨(h c).1.trans (queries_eq _ _ _ _),
      (h c).2.1.trans (keys_eq _ _ _ _ _),
      (h c).2.2.1.trans (values_eq _ _ _),
      (h c).2.2.2⟩)
    (Cert.MlaQkvRefIdeal.Value.run (F := Ideal) m ρ)

end Cert.Proof.MlaQkvRef

end
-- ==== Proof.lean ====
/- The proof of the claims of this certificate (`Cert.Claim`). -/
module

public import proofs.«01_k».proof.Defs
public import proofs.«01_k».proof.Proof.Gen.Kernel
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnLast
public import proofs.«01_k».proof.Proof.Gen.FfnLast.Frame
public import proofs.«01_k».proof.Proof.Gen.FfnLastIdeal
public import proofs.«01_k».proof.Proof.Gen.FfnLastIdeal.Frame
public import proofs.«01_k».proof.Proof.Gen.FfnLastIdeal.Value
public import proofs.«01_k».proof.Proof.Gen.FfnLastRefIdeal
public import proofs.«01_k».proof.Proof.Gen.FfnLastRefIdeal.Run
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjWide
public import proofs.«01_k».proof.Proof.Gen.OutProjWide.Frame
public import proofs.«01_k».proof.Proof.Gen.OutProjWideIdeal
public import proofs.«01_k».proof.Proof.Gen.OutProjWideIdeal.Frame
public import proofs.«01_k».proof.Proof.Gen.OutProjWideIdeal.Value
public import proofs.«01_k».proof.Proof.Gen.OutProjWideRefIdeal
public import proofs.«01_k».proof.Proof.Gen.OutProjWideRefIdeal.Run
public import proofs.«01_k».proof.Proof.Gen.GlaProj
public import proofs.«01_k».proof.Proof.Gen.GlaProj.Frame
public import proofs.«01_k».proof.Proof.Gen.GlaProjIdeal
public import proofs.«01_k».proof.Proof.Gen.GlaProjIdeal.Frame
public import proofs.«01_k».proof.Proof.Gen.GlaProjIdeal.Value
public import proofs.«01_k».proof.Proof.Gen.GlaProjRefIdeal
public import proofs.«01_k».proof.Proof.Gen.GlaProjRefIdeal.Run
public import proofs.«01_k».proof.Proof.Gen.SsdProj
public import proofs.«01_k».proof.Proof.Gen.SsdProj.Frame
public import proofs.«01_k».proof.Proof.Gen.SsdProjIdeal
public import proofs.«01_k».proof.Proof.Gen.SsdProjIdeal.Frame
public import proofs.«01_k».proof.Proof.Gen.SsdProjIdeal.Value
public import proofs.«01_k».proof.Proof.Gen.SsdProjRefIdeal
public import proofs.«01_k».proof.Proof.Gen.SsdProjRefIdeal.Run
public import proofs.«01_k».proof.Proof.Gen.MlaProj
public import proofs.«01_k».proof.Proof.Gen.MlaProj.Frame
public import proofs.«01_k».proof.Proof.Gen.MlaProjIdeal
public import proofs.«01_k».proof.Proof.Gen.MlaProjIdeal.Frame
public import proofs.«01_k».proof.Proof.Gen.MlaProjIdeal.Value
public import proofs.«01_k».proof.Proof.Gen.MlaProjRefIdeal
public import proofs.«01_k».proof.Proof.Gen.MlaProjRefIdeal.Run
public import proofs.«01_k».proof.Proof.Gen.MlaQkv
public import proofs.«01_k».proof.Proof.Gen.MlaQkv.Frame
public import proofs.«01_k».proof.Proof.Gen.MlaQkvIdeal
public import proofs.«01_k».proof.Proof.Gen.MlaQkvIdeal.Frame
public import proofs.«01_k».proof.Proof.Gen.MlaQkvIdeal.Value
public import proofs.«01_k».proof.Proof.Gen.MlaQkvRefIdeal
public import proofs.«01_k».proof.Proof.Gen.MlaQkvRefIdeal.Run
public import proofs.«01_k».proof.Proof.FlashEq
public import proofs.«01_k».proof.Proof.FfnArray
public import proofs.«01_k».proof.Proof.FfnRef
public import proofs.«01_k».proof.Proof.FfnLastArray
public import proofs.«01_k».proof.Proof.FfnLastRef
public import proofs.«01_k».proof.Proof.OutProjArray
public import proofs.«01_k».proof.Proof.OutProjWideArray
public import proofs.«01_k».proof.Proof.GlaProjArray
public import proofs.«01_k».proof.Proof.GlaProjRef
public import proofs.«01_k».proof.Proof.SsdProjArray
public import proofs.«01_k».proof.Proof.SsdProjRef
public import proofs.«01_k».proof.Proof.MlaProjArray
public import proofs.«01_k».proof.Proof.MlaProjRef
public import proofs.«01_k».proof.Proof.SwappedKey
public import proofs.«01_k».proof.Proof.MlaQkvRef
public import Idealize.ShloMosaic.Adequacy
public import Idealize.ShloMosaic.Init
public import Idealize.ShloMosaic.Lib.Quiescent

@[expose] public section

noncomputable section

namespace Cert.Proof

open Idealize.ShloMosaic Idealize.SL.Sem

/-- The attention kernel runs, keeps its arguments and leaves every counter at zero. -/
theorem flash_frame : quiescent_Kernel := fun m ρ _ => Cert.Kernel.Gen.frame m ρ

/-- The idealized attention kernel runs, keeps its arguments and leaves every counter at zero. -/
theorem flash_ideal_frame : quiescent_KernelIdeal := fun m ρ _ => Cert.KernelIdeal.Gen.frame m ρ

/-- The same where queries and keys are finite. -/
theorem flash_ideal_frame_pre : quiescent_KernelIdeal_pre_scores_finite := fun m ρ _ => Cert.KernelIdeal.Gen.frame m ρ

/-- The attention reference runs, keeps its arguments and leaves every counter at zero. -/
theorem flash_reference_frame : quiescent_ReferenceIdeal := fun m ρ _ =>
  (θ_run ReferenceIdeal.defs _ _).mono
    (fun r h => ⟨fun c => (h c).2, sem_eq_zero_of_no_sems (by decide) r.2⟩)
    (Cert.ReferenceIdeal.Value.run (F := Ideal) m ρ)

/-- The same where queries and keys are finite. -/
theorem flash_reference_frame_pre : quiescent_ReferenceIdeal_pre_scores_finite := fun m ρ _ =>
  flash_reference_frame m ρ trivial

/-- The attention kernel's array is the softmax attention that the reference computes, for finite queries and keys. -/
theorem flash_algebraic : algebraic_KernelIdeal_ReferenceIdeal_pre_scores_finite := fun m ρ m' ρ' hpre hag =>
  ⟨fun c => (KernelIdeal.Gen.dats m 0 c).arrAt 3 KernelIdeal.cfg0.N, KernelIdeal.Value.run_blocks m ρ,
    (θ_run ReferenceIdeal.defs _ _).mono
      (fun _ h c => ⟨(h c).1.trans (FlashEq.results_eq m m' hpre hag c), (h c).2⟩)
      (ReferenceIdeal.Value.run (F := Ideal) m' ρ')⟩

/-- The feed-forward kernel runs, keeps its arguments and leaves every counter at zero. -/
theorem ffn_frame : quiescent_Ffn := fun m ρ _ => Cert.Ffn.Gen.frame m ρ

/-- The idealized feed-forward kernel runs, keeps its arguments and leaves every counter at zero. -/
theorem ffn_ideal_frame : quiescent_FfnIdeal := fun m ρ _ => Cert.FfnIdeal.Gen.frame m ρ

/-- The feed-forward reference runs, keeps its arguments and leaves every counter at zero. -/
theorem ffn_reference_frame : quiescent_FfnRefIdeal := fun m ρ _ =>
  (θ_run FfnRefIdeal.defs _ _).mono
    (fun r h => ⟨fun c => (h c).2, sem_eq_zero_of_no_sems (by decide) r.2⟩)
    (Cert.FfnRefIdeal.Value.run (F := Ideal) m ρ)

/-- The feed-forward kernel's array is the one the reference computes, for all inputs. -/
theorem ffn_algebraic : algebraic_FfnIdeal_FfnRefIdeal := fun m ρ m' ρ' _ hag =>
  ⟨fun c => (FfnIdeal.Gen.dats m 0 c).arrAt 4 FfnIdeal.cfg0.N, FfnIdeal.Value.run_blocks m ρ,
    (θ_run FfnRefIdeal.defs _ _).mono
      (fun _ h c => ⟨(h c).1.trans (by
        obtain ⟨h0, h1, h2, h3⟩ := hag c
        rw [h0, h1, h2, h3]
        exact (FfnArray.final m c).symm), (h c).2⟩)
      (FfnRef.run m' ρ')⟩

/-- The feed-forward kernel with the final norm runs, keeps its arguments and leaves every counter at zero. -/
theorem ffn_last_frame : quiescent_FfnLast := fun m ρ _ => Cert.FfnLast.Gen.frame m ρ

/-- The idealized feed-forward kernel with the final norm runs, keeps its arguments and leaves every counter at zero. -/
theorem ffn_last_ideal_frame : quiescent_FfnLastIdeal := fun m ρ _ => Cert.FfnLastIdeal.Gen.frame m ρ

/-- The reference of the feed-forward kernel with the final norm runs, keeps its arguments and leaves every counter at zero. -/
theorem ffn_last_reference_frame : quiescent_FfnLastRefIdeal := fun m ρ _ =>
  (θ_run FfnLastRefIdeal.defs _ _).mono
    (fun r h => ⟨fun c => (h c).2, sem_eq_zero_of_no_sems (by decide) r.2⟩)
    (Cert.FfnLastRefIdeal.Value.run (F := Ideal) m ρ)

/-- The feed-forward kernel with the final norm's array is the one the reference computes, for all inputs. -/
theorem ffn_last_algebraic : algebraic_FfnLastIdeal_FfnLastRefIdeal := fun m ρ m' ρ' _ hag =>
  ⟨fun c => (FfnLastIdeal.Gen.dats m 0 c).arrAt 5 FfnLastIdeal.cfg0.N,
    FfnLastIdeal.Value.run_blocks m ρ,
    (θ_run FfnLastRefIdeal.defs _ _).mono
      (fun _ h c => ⟨(h c).1.trans (by
          obtain ⟨h0, h1, h2, h3, h4⟩ := hag c
          rw [h0, h1, h2, h3, h4]
          exact (FfnLastArray.final m c).symm), (h c).2⟩)
      (FfnLastRef.run m' ρ')⟩

/-- The output projection runs, keeps its arguments and leaves every counter at zero. -/
theorem out_proj_frame : quiescent_OutProj := fun m ρ _ => Cert.OutProj.Gen.frame m ρ

/-- The idealized output projection runs, keeps its arguments and leaves every counter at zero. -/
theorem out_proj_ideal_frame : quiescent_OutProjIdeal := fun m ρ _ => Cert.OutProjIdeal.Gen.frame m ρ

/-- The reference of the output projection runs, keeps its arguments and leaves every counter at zero. -/
theorem out_proj_reference_frame : quiescent_OutProjRefIdeal := fun m ρ _ =>
  (θ_run OutProjRefIdeal.defs _ _).mono
    (fun r h => ⟨fun c => (h c).2, sem_eq_zero_of_no_sems (by decide) r.2⟩)
    (Cert.OutProjRefIdeal.Value.run (F := Ideal) m ρ)

/-- The output projection's array is the one the reference computes, for all inputs. -/
theorem out_proj_algebraic : algebraic_OutProjIdeal_OutProjRefIdeal := fun m ρ m' ρ' _ hag =>
  ⟨fun c => (OutProjIdeal.Gen.dats m 0 c).arrAt 3 OutProjIdeal.cfg0.N,
    OutProjIdeal.Value.run_blocks m ρ,
    (θ_run OutProjRefIdeal.defs _ _).mono
      (fun _ h c => ⟨((h c).1.trans (OutProjArray.reference_eq _ _ _)).trans (by
          obtain ⟨h0, h1, h2⟩ := hag c
          rw [h0, h1, h2]
          exact (OutProjArray.final m c).symm), (h c).2⟩)
      (OutProjRefIdeal.Value.run (F := Ideal) m' ρ')⟩

/-- The output projection from the wide mixer runs, keeps its arguments and leaves every counter at zero. -/
theorem out_proj_wide_frame : quiescent_OutProjWide := fun m ρ _ => Cert.OutProjWide.Gen.frame m ρ

/-- The idealized output projection from the wide mixer runs, keeps its arguments and leaves every counter at zero. -/
theorem out_proj_wide_ideal_frame : quiescent_OutProjWideIdeal := fun m ρ _ => Cert.OutProjWideIdeal.Gen.frame m ρ

/-- The reference of the output projection from the wide mixer runs, keeps its arguments and leaves every counter at zero. -/
theorem out_proj_wide_reference_frame : quiescent_OutProjWideRefIdeal := fun m ρ _ =>
  (θ_run OutProjWideRefIdeal.defs _ _).mono
    (fun r h => ⟨fun c => (h c).2, sem_eq_zero_of_no_sems (by decide) r.2⟩)
    (Cert.OutProjWideRefIdeal.Value.run (F := Ideal) m ρ)

/-- The output projection from the wide mixer's array is the one the reference computes, for all inputs. -/
theorem out_proj_wide_algebraic : algebraic_OutProjWideIdeal_OutProjWideRefIdeal := fun m ρ m' ρ' _ hag =>
  ⟨fun c => (OutProjWideIdeal.Gen.dats m 0 c).arrAt 3 OutProjWideIdeal.cfg0.N,
    OutProjWideIdeal.Value.run_blocks m ρ,
    (θ_run OutProjWideRefIdeal.defs _ _).mono
      (fun _ h c => ⟨((h c).1.trans (OutProjWideArray.reference_eq _ _ _)).trans (by
          obtain ⟨h0, h1, h2⟩ := hag c
          rw [h0, h1, h2]
          exact (OutProjWideArray.final m c).symm), (h c).2⟩)
      (OutProjWideRefIdeal.Value.run (F := Ideal) m' ρ')⟩

/-- The gated linear attention projection runs, keeps its arguments and leaves every counter at zero. -/
theorem gla_proj_frame : quiescent_GlaProj := fun m ρ _ => Cert.GlaProj.Gen.frame m ρ

/-- The idealized gated linear attention projection runs, keeps its arguments and leaves every counter at zero. -/
theorem gla_proj_ideal_frame : quiescent_GlaProjIdeal := fun m ρ _ => Cert.GlaProjIdeal.Gen.frame m ρ

/-- The reference of the gated linear attention projection runs, keeps its arguments and leaves every counter at zero. -/
theorem gla_proj_reference_frame : quiescent_GlaProjRefIdeal := fun m ρ _ =>
  (θ_run GlaProjRefIdeal.defs _ _).mono
    (fun r h => ⟨fun c => (h c).2.2.2.2.2, sem_eq_zero_of_no_sems (by decide) r.2⟩)
    (Cert.GlaProjRefIdeal.Value.run (F := Ideal) m ρ)

/-- The gated linear attention projection's arrays are the ones the reference computes, for all inputs. -/
theorem gla_proj_algebraic : algebraic_GlaProjIdeal_GlaProjRefIdeal := fun m ρ m' ρ' _ hag =>
  ⟨fun c => (GlaProjIdeal.Gen.dats m 0 c).arrAt 7 GlaProjIdeal.cfg0.N,
    fun c => (GlaProjIdeal.Gen.dats m 0 c).arrAt 8 GlaProjIdeal.cfg0.N,
    fun c => (GlaProjIdeal.Gen.dats m 0 c).arrAt 9 GlaProjIdeal.cfg0.N,
    fun c => (GlaProjIdeal.Gen.dats m 0 c).arrAt 10 GlaProjIdeal.cfg0.N,
    fun c => (GlaProjIdeal.Gen.dats m 0 c).arrAt 11 GlaProjIdeal.cfg0.N,
    GlaProjIdeal.Value.run_blocks m ρ,
    (θ_run GlaProjRefIdeal.defs _ _).mono
      (fun _ h c => ⟨(h c).1.trans (by
          obtain ⟨h0, h1, h2⟩ := hag c
          rw [h0, h1, h2]
          exact (GlaProjArray.final7 m c).symm),
        (h c).2.1.trans (by
          obtain ⟨h0, h1, h2⟩ := hag c
          rw [h0, h1, h2]
          exact (GlaProjArray.final8 m c).symm),
        (h c).2.2.1.trans (by
          obtain ⟨h0, h1, h2⟩ := hag c
          rw [h0, h1, h2]
          exact (GlaProjArray.final9 m c).symm),
        (h c).2.2.2.1.trans (by
          obtain ⟨h0, h1, h2⟩ := hag c
          rw [h0, h1, h2]
          exact (GlaProjArray.final10 m c).symm),
        (h c).2.2.2.2.1.trans (by
          obtain ⟨h0, h1, h2⟩ := hag c
          rw [h0, h1, h2]
          exact (GlaProjArray.final11 m c).symm), (h c).2.2.2.2.2⟩)
      (GlaProjRef.run m' ρ')⟩

/-- The state-space projection runs, keeps its arguments and leaves every counter at zero. -/
theorem ssd_proj_frame : quiescent_SsdProj := fun m ρ _ => Cert.SsdProj.Gen.frame m ρ

/-- The idealized state-space projection runs, keeps its arguments and leaves every counter at zero. -/
theorem ssd_proj_ideal_frame : quiescent_SsdProjIdeal := fun m ρ _ => Cert.SsdProjIdeal.Gen.frame m ρ

/-- The reference of the state-space projection runs, keeps its arguments and leaves every counter at zero. -/
theorem ssd_proj_reference_frame : quiescent_SsdProjRefIdeal := fun m ρ _ =>
  (θ_run SsdProjRefIdeal.defs _ _).mono
    (fun r h => ⟨fun c => (h c).2.2.2, sem_eq_zero_of_no_sems (by decide) r.2⟩)
    (Cert.SsdProjRefIdeal.Value.run (F := Ideal) m ρ)

/-- The state-space projection's arrays are the ones the reference computes, for all inputs. -/
theorem ssd_proj_algebraic : algebraic_SsdProjIdeal_SsdProjRefIdeal := fun m ρ m' ρ' _ hag =>
  ⟨fun c => (SsdProjIdeal.Gen.dats m 0 c).arrAt 5 SsdProjIdeal.cfg0.N,
    fun c => (SsdProjIdeal.Gen.dats m 0 c).arrAt 6 SsdProjIdeal.cfg0.N,
    fun c => (SsdProjIdeal.Gen.dats m 0 c).arrAt 7 SsdProjIdeal.cfg0.N,
    SsdProjIdeal.Value.run_blocks m ρ,
    (θ_run SsdProjRefIdeal.defs _ _).mono
      (fun _ h c => ⟨(h c).1.trans (by
          obtain ⟨h0, h1, h2⟩ := hag c
          rw [h0, h1, h2]
          exact (SsdProjArray.final5 m c).symm),
        (h c).2.1.trans (by
          obtain ⟨h0, h1, h2⟩ := hag c
          rw [h0, h1, h2]
          exact (SsdProjArray.final6 m c).symm),
        (h c).2.2.1.trans (by
          obtain ⟨h0, h1, h2⟩ := hag c
          rw [h0, h1, h2]
          exact (SsdProjArray.final7 m c).symm), (h c).2.2.2⟩)
      (SsdProjRef.run m' ρ')⟩

/-- The latent attention projection runs, keeps its arguments and leaves every counter at zero. -/
theorem mla_proj_frame : quiescent_MlaProj := fun m ρ _ => Cert.MlaProj.Gen.frame m ρ

/-- The idealized latent attention projection runs, keeps its arguments and leaves every counter at zero. -/
theorem mla_proj_ideal_frame : quiescent_MlaProjIdeal := fun m ρ _ => Cert.MlaProjIdeal.Gen.frame m ρ

/-- The reference of the latent attention projection runs, keeps its arguments and leaves every counter at zero. -/
theorem mla_proj_reference_frame : quiescent_MlaProjRefIdeal := fun m ρ _ =>
  (θ_run MlaProjRefIdeal.defs _ _).mono
    (fun r h => ⟨fun c => (h c).2.2.2, sem_eq_zero_of_no_sems (by decide) r.2⟩)
    (Cert.MlaProjRefIdeal.Value.run (F := Ideal) m ρ)

/-- The latent attention projection's arrays are the ones the reference computes, for all inputs. -/
theorem mla_proj_algebraic : algebraic_MlaProjIdeal_MlaProjRefIdeal := fun m ρ m' ρ' _ hag =>
  ⟨fun c => (MlaProjIdeal.Gen.dats m 0 c).arrAt 5 MlaProjIdeal.cfg0.N,
    fun c => (MlaProjIdeal.Gen.dats m 0 c).arrAt 6 MlaProjIdeal.cfg0.N,
    fun c => (MlaProjIdeal.Gen.dats m 0 c).arrAt 7 MlaProjIdeal.cfg0.N,
    MlaProjIdeal.Value.run_blocks m ρ,
    (θ_run MlaProjRefIdeal.defs _ _).mono
      (fun _ h c => ⟨(h c).1.trans (by
          obtain ⟨h0, h1, h2⟩ := hag c
          rw [h0, h1, h2]
          exact (MlaProjArray.final5 m c).symm),
        (h c).2.1.trans (by
          obtain ⟨h0, h1, h2⟩ := hag c
          rw [h0, h1, h2]
          exact (MlaProjArray.final6 m c).symm),
        (h c).2.2.1.trans (by
          obtain ⟨h0, h1, h2⟩ := hag c
          rw [h0, h1, h2]
          exact (MlaProjArray.final7 m c).symm), (h c).2.2.2⟩)
      (MlaProjRef.run m' ρ')⟩

/-- The latent attention's head kernel runs, keeps its arguments and leaves every counter at zero. -/
theorem mla_qkv_frame : quiescent_MlaQkv := fun m ρ _ => Cert.MlaQkv.Gen.frame m ρ

/-- The idealized head kernel runs, keeps its arguments and leaves every counter at zero. -/
theorem mla_qkv_ideal_frame : quiescent_MlaQkvIdeal := fun m ρ _ => Cert.MlaQkvIdeal.Gen.frame m ρ

/-- The same where the rotary key's halves are swapped. -/
theorem mla_qkv_ideal_frame_pre : quiescent_MlaQkvIdeal_pre_key_halves_swapped := fun m ρ _ => Cert.MlaQkvIdeal.Gen.frame m ρ

/-- The reference of the head kernel runs, keeps its arguments and leaves every counter at zero. -/
theorem mla_qkv_reference_frame : quiescent_MlaQkvRefIdeal := fun m ρ _ =>
  (θ_run MlaQkvRefIdeal.defs _ _).mono
    (fun r h => ⟨fun c => (h c).2.2.2, sem_eq_zero_of_no_sems (by decide) r.2⟩)
    (Cert.MlaQkvRefIdeal.Value.run (F := Ideal) m ρ)

/-- The same where the rotary key's halves are swapped. -/
theorem mla_qkv_reference_frame_pre : quiescent_MlaQkvRefIdeal_pre_key_halves_swapped := fun m ρ _ =>
  mla_qkv_reference_frame m ρ trivial

/-- The head kernel's queries, keys and values are the ones the reference computes, where the rotary key's last lanes are its
    first with their halves swapped. -/
theorem mla_qkv_algebraic : algebraic_MlaQkvIdeal_MlaQkvRefIdeal_pre_key_halves_swapped := fun m ρ m' ρ' hpre hag =>
  have hs (c : Dev MlaQkvIdeal.nD) : MlaQkvArray.Swapped (MlaQkvArray.Kr m c) :=
    SwappedKey.swapped_of_pre _ _ _ _ _ _ _ _ (hpre c)
  ⟨fun c => (MlaQkvIdeal.Gen.dats m 0 c).arrAt 10 MlaQkvIdeal.cfg0.N,
    fun c => (MlaQkvIdeal.Gen.dats m 0 c).arrAt 11 MlaQkvIdeal.cfg0.N,
    fun c => (MlaQkvIdeal.Gen.dats m 0 c).arrAt 12 MlaQkvIdeal.cfg0.N,
    MlaQkvIdeal.Value.run_blocks m ρ,
    (θ_run MlaQkvRefIdeal.defs _ _).mono
      (fun _ h c => ⟨(h c).1.trans (by
          obtain ⟨h0, h1, h2, h3, h4, h5, h6, h7⟩ := hag c
          rw [h0, h3, h4, h5]
          exact (MlaQkvArray.final10 m c).symm),
        (h c).2.1.trans (by
          obtain ⟨h0, h1, h2, h3, h4, h5, h6, h7⟩ := hag c
          rw [h1, h2, h3, h6, h7]
          exact (MlaQkvArray.final11 m c (hs c)).symm),
        (h c).2.2.1.trans (by
          obtain ⟨h0, h1, h2, h3, h4, h5, h6, h7⟩ := hag c
          rw [h1, h6, h7]
          exact (MlaQkvArray.final12 m c).symm), (h c).2.2.2⟩)
      (MlaQkvRef.run m' ρ')⟩

/-- All the claims. -/
theorem claim : Cert.Claim := ⟨Cert.Kernel.Gen.facts, Cert.KernelIdeal.Gen.facts, Cert.ReferenceIdeal.Gen.facts, Cert.Ffn.Gen.facts,
  Cert.FfnIdeal.Gen.facts, Cert.FfnRefIdeal.Gen.facts, Cert.FfnLast.Gen.facts, Cert.FfnLastIdeal.Gen.facts,
  Cert.FfnLastRefIdeal.Gen.facts, Cert.OutProj.Gen.facts, Cert.OutProjIdeal.Gen.facts,
  Cert.OutProjRefIdeal.Gen.facts, Cert.OutProjWide.Gen.facts, Cert.OutProjWideIdeal.Gen.facts,
  Cert.OutProjWideRefIdeal.Gen.facts, Cert.GlaProj.Gen.facts, Cert.GlaProjIdeal.Gen.facts,
  Cert.GlaProjRefIdeal.Gen.facts, Cert.SsdProj.Gen.facts, Cert.SsdProjIdeal.Gen.facts,
  Cert.SsdProjRefIdeal.Gen.facts, Cert.MlaProj.Gen.facts, Cert.MlaProjIdeal.Gen.facts,
  Cert.MlaProjRefIdeal.Gen.facts, Cert.MlaQkv.Gen.facts, Cert.MlaQkvIdeal.Gen.facts, Cert.MlaQkvRefIdeal.Gen.facts,
  Cert.Proof.Finite.facts, Cert.Proof.SwappedKey.facts, flash_frame, flash_ideal_frame, flash_ideal_frame_pre,
  flash_reference_frame, flash_reference_frame_pre, ffn_frame, ffn_ideal_frame, ffn_reference_frame,
  ffn_last_frame, ffn_last_ideal_frame, ffn_last_reference_frame, out_proj_frame, out_proj_ideal_frame,
  out_proj_reference_frame, out_proj_wide_frame, out_proj_wide_ideal_frame, out_proj_wide_reference_frame,
  gla_proj_frame, gla_proj_ideal_frame, gla_proj_reference_frame, ssd_proj_frame, ssd_proj_ideal_frame,
  ssd_proj_reference_frame, mla_proj_frame, mla_proj_ideal_frame, mla_proj_reference_frame, mla_qkv_frame, mla_qkv_ideal_frame,
  mla_qkv_ideal_frame_pre, mla_qkv_reference_frame, mla_qkv_reference_frame_pre, trivial,
  flash_algebraic, trivial, ffn_algebraic, trivial, ffn_last_algebraic, trivial, out_proj_algebraic, trivial,
  out_proj_wide_algebraic, trivial, gla_proj_algebraic, trivial, ssd_proj_algebraic, trivial, mla_proj_algebraic,
  trivial, mla_qkv_algebraic⟩

end Cert.Proof

end
